-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnLat (m : (ℓ : Loc Cert.FfnLat.nD Cert.FfnLat.τ Cert.FfnLat.sig) → Buf (Elt Bits) ℓ) : Prop :=
  True

def Pre_FfnLatIdeal (m : (ℓ : Loc Cert.FfnLatIdeal.nD Cert.FfnLatIdeal.τ Cert.FfnLatIdeal.sig) → Buf (Elt Ideal) ℓ) : Prop :=
  True

def Pre_FfnLatRefIdeal (m : (ℓ : Loc Cert.FfnLatRefIdeal.nD Cert.FfnLatRefIdeal.τ Cert.FfnLatRefIdeal.sig) → Buf (Elt Ideal) ℓ) : Prop :=
  True

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstRefIdeal (m : (ℓ : Loc Cert.FfnFirstRefIdeal.nD Cert.FfnFirstRefIdeal.τ Cert.FfnFirstRefIdeal.sig) → Buf (Elt Ideal) ℓ) : Prop :=
  True

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidRefIdeal (m : (ℓ : Loc Cert.FfnMidRefIdeal.nD Cert.FfnMidRefIdeal.τ Cert.FfnMidRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Rot (m : (ℓ : Loc Cert.Rot.nD Cert.Rot.τ Cert.Rot.sig) → Buf (Elt Bits) ℓ) : Prop :=
  True

def Pre_RotIdeal (m : (ℓ : Loc Cert.RotIdeal.nD Cert.RotIdeal.τ Cert.RotIdeal.sig) → Buf (Elt Ideal) ℓ) : Prop :=
  True

def Pre_RotRefIdeal (m : (ℓ : Loc Cert.RotRefIdeal.nD Cert.RotRefIdeal.τ Cert.RotRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_FfnLat [hFfnLat : Cert.FfnLat.Facts] : Prop :=
  ∀ (m : (ℓ : Loc Cert.FfnLat.nD Cert.FfnLat.τ Cert.FfnLat.sig) → Buf (Elt Bits) ℓ) (g : Dev Cert.FfnLat.nD → PrngReg), Pre_FfnLat m →
    θ_run (Cert.FfnLat.defs (F := Bits)) (onTc (τ := Cert.FfnLat.τ) (Cert.FfnLat.main (F := Bits))) ⟨m, fun _ => 0, g⟩ (fun r => (∀ c : Dev Cert.FfnLat.nD,
      r.2.mem ((c.tc : Thread Cert.FfnLat.nD Cert.FfnLat.τ).loc Cert.FfnLat.main_arg0) = m ((c.tc : Thread Cert.FfnLat.nD Cert.FfnLat.τ).loc Cert.FfnLat.main_arg0)
      ∧ r.2.mem ((c.tc : Thread Cert.FfnLat.nD Cert.FfnLat.τ).loc Cert.FfnLat.main_arg1) = m ((c.tc : Thread Cert.FfnLat.nD Cert.FfnLat.τ).loc Cert.FfnLat.main_arg1)
      ∧ r.2.mem ((c.tc : Thread Cert.FfnLat.nD Cert.FfnLat.τ).loc Cert.FfnLat.main_arg2) = m ((c.tc : Thread Cert.FfnLat.nD Cert.FfnLat.τ).loc Cert.FfnLat.main_arg2)
      ∧ r.2.mem ((c.tc : Thread Cert.FfnLat.nD Cert.FfnLat.τ).loc Cert.FfnLat.main_arg3) = m ((c.tc : Thread Cert.FfnLat.nD Cert.FfnLat.τ).loc Cert.FfnLat.main_arg3)
      ∧ r.2.mem ((c.tc : Thread Cert.FfnLat.nD Cert.FfnLat.τ).loc Cert.FfnLat.main_arg4) = m ((c.tc : Thread Cert.FfnLat.nD Cert.FfnLat.τ).loc Cert.FfnLat.main_arg4)
      ∧ r.2.mem ((c.tc : Thread Cert.FfnLat.nD Cert.FfnLat.τ).loc Cert.FfnLat.main_arg5) = m ((c.tc : Thread Cert.FfnLat.nD Cert.FfnLat.τ).loc Cert.FfnLat.main_arg5)
      ∧ r.2.mem ((c.tc : Thread Cert.FfnLat.nD Cert.FfnLat.τ).loc Cert.FfnLat.main_arg6) = m ((c.tc : Thread Cert.FfnLat.nD Cert.FfnLat.τ).loc Cert.FfnLat.main_arg6)
      ∧ r.2.mem ((c.tc : Thread Cert.FfnLat.nD Cert.FfnLat.τ).loc Cert.FfnLat.main_arg7) = m ((c.tc : Thread Cert.FfnLat.nD Cert.FfnLat.τ).loc Cert.FfnLat.main_arg7)
      ∧ r.2.mem ((c.tc : Thread Cert.FfnLat.nD Cert.FfnLat.τ).loc Cert.FfnLat.main_arg8) = m ((c.tc : Thread Cert.FfnLat.nD Cert.FfnLat.τ).loc Cert.FfnLat.main_arg8))
      ∧ r.2.sem = fun _ => 0)

def quiescent_FfnLatIdeal [hFfnLatIdeal : Cert.FfnLatIdeal.Facts] : Prop :=
  ∀ (m : (ℓ : Loc Cert.FfnLatIdeal.nD Cert.FfnLatIdeal.τ Cert.FfnLatIdeal.sig) → Buf (Elt Ideal) ℓ) (g : Dev Cert.FfnLatIdeal.nD → PrngReg), Pre_FfnLatIdeal m →
    θ_run (Cert.FfnLatIdeal.defs (F := Ideal)) (onTc (τ := Cert.FfnLatIdeal.τ) (Cert.FfnLatIdeal.main (F := Ideal))) ⟨m, fun _ => 0, g⟩ (fun r => (∀ c : Dev Cert.FfnLatIdeal.nD,
      r.2.mem ((c.tc : Thread Cert.FfnLatIdeal.nD Cert.FfnLatIdeal.τ).loc Cert.FfnLatIdeal.main_arg0) = m ((c.tc : Thread Cert.FfnLatIdeal.nD Cert.FfnLatIdeal.τ).loc Cert.FfnLatIdeal.main_arg0)
      ∧ r.2.mem ((c.tc : Thread Cert.FfnLatIdeal.nD Cert.FfnLatIdeal.τ).loc Cert.FfnLatIdeal.main_arg1) = m ((c.tc : Thread Cert.FfnLatIdeal.nD Cert.FfnLatIdeal.τ).loc Cert.FfnLatIdeal.main_arg1)
      ∧ r.2.mem ((c.tc : Thread Cert.FfnLatIdeal.nD Cert.FfnLatIdeal.τ).loc Cert.FfnLatIdeal.main_arg2) = m ((c.tc : Thread Cert.FfnLatIdeal.nD Cert.FfnLatIdeal.τ).loc Cert.FfnLatIdeal.main_arg2)
      ∧ r.2.mem ((c.tc : Thread Cert.FfnLatIdeal.nD Cert.FfnLatIdeal.τ).loc Cert.FfnLatIdeal.main_arg3) = m ((c.tc : Thread Cert.FfnLatIdeal.nD Cert.FfnLatIdeal.τ).loc Cert.FfnLatIdeal.main_arg3)
      ∧ r.2.mem ((c.tc : Thread Cert.FfnLatIdeal.nD Cert.FfnLatIdeal.τ).loc Cert.FfnLatIdeal.main_arg4) = m ((c.tc : Thread Cert.FfnLatIdeal.nD Cert.FfnLatIdeal.τ).loc Cert.FfnLatIdeal.main_arg4)
      ∧ r.2.mem ((c.tc : Thread Cert.FfnLatIdeal.nD Cert.FfnLatIdeal.τ).loc Cert.FfnLatIdeal.main_arg5) = m ((c.tc : Thread Cert.FfnLatIdeal.nD Cert.FfnLatIdeal.τ).loc Cert.FfnLatIdeal.main_arg5)
      ∧ r.2.mem ((c.tc : Thread Cert.FfnLatIdeal.nD Cert.FfnLatIdeal.τ).loc Cert.FfnLatIdeal.main_arg6) = m ((c.tc : Thread Cert.FfnLatIdeal.nD Cert.FfnLatIdeal.τ).loc Cert.FfnLatIdeal.main_arg6)
      ∧ r.2.mem ((c.tc : Thread Cert.FfnLatIdeal.nD Cert.FfnLatIdeal.τ).loc Cert.FfnLatIdeal.main_arg7) = m ((c.tc : Thread Cert.FfnLatIdeal.nD Cert.FfnLatIdeal.τ).loc Cert.FfnLatIdeal.main_arg7)
      ∧ r.2.mem ((c.tc : Thread Cert.FfnLatIdeal.nD Cert.FfnLatIdeal.τ).loc Cert.FfnLatIdeal.main_arg8) = m ((c.tc : Thread Cert.FfnLatIdeal.nD Cert.FfnLatIdeal.τ).loc Cert.FfnLatIdeal.main_arg8))
      ∧ r.2.sem = fun _ => 0)

def quiescent_FfnLatRefIdeal [hFfnLatRefIdeal : Cert.FfnLatRefIdeal.Facts] : Prop :=
  ∀ (m : (ℓ : Loc Cert.FfnLatRefIdeal.nD Cert.FfnLatRefIdeal.τ Cert.FfnLatRefIdeal.sig) → Buf (Elt Ideal) ℓ) (g : Dev Cert.FfnLatRefIdeal.nD → PrngReg), Pre_FfnLatRefIdeal m →
    θ_run (Cert.FfnLatRefIdeal.defs (F := Ideal)) (onTc (τ := Cert.FfnLatRefIdeal.τ) (Cert.FfnLatRefIdeal.main (F := Ideal))) ⟨m, fun _ => 0, g⟩ (fun r => (∀ c : Dev Cert.FfnLatRefIdeal.nD,
      r.2.mem ((c.tc : Thread Cert.FfnLatRefIdeal.nD Cert.FfnLatRefIdeal.τ).loc Cert.FfnLatRefIdeal.main_arg0) = m ((c.tc : Thread Cert.FfnLatRefIdeal.nD Cert.FfnLatRefIdeal.τ).loc Cert.FfnLatRefIdeal.main_arg0)
      ∧ r.2.mem ((c.tc : Thread Cert.FfnLatRefIdeal.nD Cert.FfnLatRefIdeal.τ).loc Cert.FfnLatRefIdeal.main_arg1) = m ((c.tc : Thread Cert.FfnLatRefIdeal.nD Cert.FfnLatRefIdeal.τ).loc Cert.FfnLatRefIdeal.main_arg1)
      ∧ r.2.mem ((c.tc : Thread Cert.FfnLatRefIdeal.nD Cert.FfnLatRefIdeal.τ).loc Cert.FfnLatRefIdeal.main_arg2) = m ((c.tc : Thread Cert.FfnLatRefIdeal.nD Cert.FfnLatRefIdeal.τ).loc Cert.FfnLatRefIdeal.main_arg2)
      ∧ r.2.mem ((c.tc : Thread Cert.FfnLatRefIdeal.nD Cert.FfnLatRefIdeal.τ).loc Cert.FfnLatRefIdeal.main_arg3) = m ((c.tc : Thread Cert.FfnLatRefIdeal.nD Cert.FfnLatRefIdeal.τ).loc Cert.FfnLatRefIdeal.main_arg3)
      ∧ r.2.mem ((c.tc : Thread Cert.FfnLatRefIdeal.nD Cert.FfnLatRefIdeal.τ).loc Cert.FfnLatRefIdeal.main_arg4) = m ((c.tc : Thread Cert.FfnLatRefIdeal.nD Cert.FfnLatRefIdeal.τ).loc Cert.FfnLatRefIdeal.main_arg4)
      ∧ r.2.mem ((c.tc : Thread Cert.FfnLatRefIdeal.nD Cert.FfnLatRefIdeal.τ).loc Cert.FfnLatRefIdeal.main_arg5) = m ((c.tc : Thread Cert.FfnLatRefIdeal.nD Cert.FfnLatRefIdeal.τ).loc Cert.FfnLatRefIdeal.main_arg5)
      ∧ r.2.mem ((c.tc : Thread Cert.FfnLatRefIdeal.nD Cert.FfnLatRefIdeal.τ).loc Cert.FfnLatRefIdeal.main_arg6) = m ((c.tc : Thread Cert.FfnLatRefIdeal.nD Cert.FfnLatRefIdeal.τ).loc Cert.FfnLatRefIdeal.main_arg6)
      ∧ r.2.mem ((c.tc : Thread Cert.FfnLatRefIdeal.nD Cert.FfnLatRefIdeal.τ).loc Cert.FfnLatRefIdeal.main_arg7) = m ((c.tc : Thread Cert.FfnLatRefIdeal.nD Cert.FfnLatRefIdeal.τ).loc Cert.FfnLatRefIdeal.main_arg7)
      ∧ r.2.mem ((c.tc : Thread Cert.FfnLatRefIdeal.nD Cert.FfnLatRefIdeal.τ).loc Cert.FfnLatRefIdeal.main_arg8) = m ((c.tc : Thread Cert.FfnLatRefIdeal.nD Cert.FfnLatRefIdeal.τ).loc Cert.FfnLatRefIdeal.main_arg8))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4)
      ∧ r.2.mem ((c.tc : Thread Cert.FfnFirst.nD Cert.FfnFirst.τ).loc Cert.FfnFirst.main_arg5) = m ((c.tc : Thread Cert.FfnFirst.nD Cert.FfnFirst.τ).loc Cert.FfnFirst.main_arg5))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
      ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5))
      ∧ r.2.sem = fun _ => 0)

def quiescent_FfnFirstRefIdeal [hFfnFirstRefIdeal : Cert.FfnFirstRefIdeal.Facts] : Prop :=
  ∀ (m : (ℓ : Loc Cert.FfnFirstRefIdeal.nD Cert.FfnFirstRefIdeal.τ Cert.FfnFirstRefIdeal.sig) → Buf (Elt Ideal) ℓ) (g : Dev Cert.FfnFirstRefIdeal.nD → PrngReg), Pre_FfnFirstRefIdeal m →
    θ_run (Cert.FfnFirstRefIdeal.defs (F := Ideal)) (onTc (τ := Cert.FfnFirstRefIdeal.τ) (Cert.FfnFirstRefIdeal.main (F := Ideal))) ⟨m, fun _ => 0, g⟩ (fun r => (∀ c : Dev Cert.FfnFirstRefIdeal.nD,
      r.2.mem ((c.tc : Thread Cert.FfnFirstRefIdeal.nD Cert.FfnFirstRefIdeal.τ).loc Cert.FfnFirstRefIdeal.main_arg0) = m ((c.tc : Thread Cert.FfnFirstRefIdeal.nD Cert.FfnFirstRefIdeal.τ).loc Cert.FfnFirstRefIdeal.main_arg0)
      ∧ r.2.mem ((c.tc : Thread Cert.FfnFirstRefIdeal.nD Cert.FfnFirstRefIdeal.τ).loc Cert.FfnFirstRefIdeal.main_arg1) = m ((c.tc : Thread Cert.FfnFirstRefIdeal.nD Cert.FfnFirstRefIdeal.τ).loc Cert.FfnFirstRefIdeal.main_arg1)
      ∧ r.2.mem ((c.tc : Thread Cert.FfnFirstRefIdeal.nD Cert.FfnFirstRefIdeal.τ).loc Cert.FfnFirstRefIdeal.main_arg2) = m ((c.tc : Thread Cert.FfnFirstRefIdeal.nD Cert.FfnFirstRefIdeal.τ).loc Cert.FfnFirstRefIdeal.main_arg2)
      ∧ r.2.mem ((c.tc : Thread Cert.FfnFirstRefIdeal.nD Cert.FfnFirstRefIdeal.τ).loc Cert.FfnFirstRefIdeal.main_arg3) = m ((c.tc : Thread Cert.FfnFirstRefIdeal.nD Cert.FfnFirstRefIdeal.τ).loc Cert.FfnFirstRefIdeal.main_arg3)
      ∧ r.2.mem ((c.tc : Thread Cert.FfnFirstRefIdeal.nD Cert.FfnFirstRefIdeal.τ).loc Cert.FfnFirstRefIdeal.main_arg4) = m ((c.tc : Thread Cert.FfnFirstRefIdeal.nD Cert.FfnFirstRefIdeal.τ).loc Cert.FfnFirstRefIdeal.main_arg4)
      ∧ r.2.mem ((c.tc : Thread Cert.FfnFirstRefIdeal.nD Cert.FfnFirstRefIdeal.τ).loc Cert.FfnFirstRefIdeal.main_arg5) = m ((c.tc : Thread Cert.FfnFirstRefIdeal.nD Cert.FfnFirstRefIdeal.τ).loc Cert.FfnFirstRefIdeal.main_arg5))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3)
      ∧ r.2.mem ((c.tc : Thread Cert.FfnMid.nD Cert.FfnMid.τ).loc Cert.FfnMid.main_arg4) = m ((c.tc : Thread Cert.FfnMid.nD Cert.FfnMid.τ).loc Cert.FfnMid.main_arg4)
      ∧ r.2.mem ((c.tc : Thread Cert.FfnMid.nD Cert.FfnMid.τ).loc Cert.FfnMid.main_arg5) = m ((c.tc : Thread Cert.FfnMid.nD Cert.FfnMid.τ).loc Cert.FfnMid.main_arg5)
      ∧ r.2.mem ((c.tc : Thread Cert.FfnMid.nD Cert.FfnMid.τ).loc Cert.FfnMid.main_arg6) = m ((c.tc : Thread Cert.FfnMid.nD Cert.FfnMid.τ).loc Cert.FfnMid.main_arg6)
      ∧ r.2.mem ((c.tc : Thread Cert.FfnMid.nD Cert.FfnMid.τ).loc Cert.FfnMid.main_arg7) = m ((c.tc : Thread Cert.FfnMid.nD Cert.FfnMid.τ).loc Cert.FfnMid.main_arg7)
      ∧ r.2.mem ((c.tc : Thread Cert.FfnMid.nD Cert.FfnMid.τ).loc Cert.FfnMid.main_arg8) = m ((c.tc : Thread Cert.FfnMid.nD Cert.FfnMid.τ).loc Cert.FfnMid.main_arg8))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
      ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5)
      ∧ r.2.mem ((c.tc : Thread Cert.FfnMidIdeal.nD Cert.FfnMidIdeal.τ).loc Cert.FfnMidIdeal.main_arg6) = m ((c.tc : Thread Cert.FfnMidIdeal.nD Cert.FfnMidIdeal.τ).loc Cert.FfnMidIdeal.main_arg6)
      ∧ r.2.mem ((c.tc : Thread Cert.FfnMidIdeal.nD Cert.FfnMidIdeal.τ).loc Cert.FfnMidIdeal.main_arg7) = m ((c.tc : Thread Cert.FfnMidIdeal.nD Cert.FfnMidIdeal.τ).loc Cert.FfnMidIdeal.main_arg7)
      ∧ r.2.mem ((c.tc : Thread Cert.FfnMidIdeal.nD Cert.FfnMidIdeal.τ).loc Cert.FfnMidIdeal.main_arg8) = m ((c.tc : Thread Cert.FfnMidIdeal.nD Cert.FfnMidIdeal.τ).loc Cert.FfnMidIdeal.main_arg8))
      ∧ r.2.sem = fun _ => 0)

def quiescent_FfnMidRefIdeal [hFfnMidRefIdeal : Cert.FfnMidRefIdeal.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3)
      ∧ r.2.mem ((c.tc : Thread Cert.FfnMidRefIdeal.nD Cert.FfnMidRefIdeal.τ).loc Cert.FfnMidRefIdeal.main_arg4) = m ((c.tc : Thread Cert.FfnMidRefIdeal.nD Cert.FfnMidRefIdeal.τ).loc Cert.FfnMidRefIdeal.main_arg4)
      ∧ r.2.mem ((c.tc : Thread Cert.FfnMidRefIdeal.nD Cert.FfnMidRefIdeal.τ).loc Cert.FfnMidRefIdeal.main_arg5) = m ((c.tc : Thread Cert.FfnMidRefIdeal.nD Cert.FfnMidRefIdeal.τ).loc Cert.FfnMidRefIdeal.main_arg5)
      ∧ r.2.mem ((c.tc : Thread Cert.FfnMidRefIdeal.nD Cert.FfnMidRefIdeal.τ).loc Cert.FfnMidRefIdeal.main_arg6) = m ((c.tc : Thread Cert.FfnMidRefIdeal.nD Cert.FfnMidRefIdeal.τ).loc Cert.FfnMidRefIdeal.main_arg6)
      ∧ r.2.mem ((c.tc : Thread Cert.FfnMidRefIdeal.nD Cert.FfnMidRefIdeal.τ).loc Cert.FfnMidRefIdeal.main_arg7) = m ((c.tc : Thread Cert.FfnMidRefIdeal.nD Cert.FfnMidRefIdeal.τ).loc Cert.FfnMidRefIdeal.main_arg7)
      ∧ r.2.mem ((c.tc : Thread Cert.FfnMidRefIdeal.nD Cert.FfnMidRefIdeal.τ).loc Cert.FfnMidRefIdeal.main_arg8) = m ((c.tc : Thread Cert.FfnMidRefIdeal.nD Cert.FfnMidRefIdeal.τ).loc Cert.FfnMidRefIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6)
      ∧ r.2.mem ((c.tc : Thread Cert.In.nD Cert.In.τ).loc Cert.In.main_arg7) = m ((c.tc : Thread Cert.In.nD Cert.In.τ).loc Cert.In.main_arg7))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7))
      ∧ r.2.sem = fun _ => 0)

def quiescent_Rot [hRot : Cert.Rot.Facts] : Prop :=
  ∀ (m : (ℓ : Loc Cert.Rot.nD Cert.Rot.τ Cert.Rot.sig) → Buf (Elt Bits) ℓ) (g : Dev Cert.Rot.nD → PrngReg), Pre_Rot m →
    θ_run (Cert.Rot.defs (F := Bits)) (onTc (τ := Cert.Rot.τ) (Cert.Rot.main (F := Bits))) ⟨m, fun _ => 0, g⟩ (fun r => (∀ c : Dev Cert.Rot.nD,
      r.2.mem ((c.tc : Thread Cert.Rot.nD Cert.Rot.τ).loc Cert.Rot.main_arg0) = m ((c.tc : Thread Cert.Rot.nD Cert.Rot.τ).loc Cert.Rot.main_arg0)
      ∧ r.2.mem ((c.tc : Thread Cert.Rot.nD Cert.Rot.τ).loc Cert.Rot.main_arg1) = m ((c.tc : Thread Cert.Rot.nD Cert.Rot.τ).loc Cert.Rot.main_arg1)
      ∧ r.2.mem ((c.tc : Thread Cert.Rot.nD Cert.Rot.τ).loc Cert.Rot.main_arg2) = m ((c.tc : Thread Cert.Rot.nD Cert.Rot.τ).loc Cert.Rot.main_arg2)
      ∧ r.2.mem ((c.tc : Thread Cert.Rot.nD Cert.Rot.τ).loc Cert.Rot.main_arg3) = m ((c.tc : Thread Cert.Rot.nD Cert.Rot.τ).loc Cert.Rot.main_arg3)
      ∧ r.2.mem ((c.tc : Thread Cert.Rot.nD Cert.Rot.τ).loc Cert.Rot.main_arg4) = m ((c.tc : Thread Cert.Rot.nD Cert.Rot.τ).loc Cert.Rot.main_arg4)
      ∧ r.2.mem ((c.tc : Thread Cert.Rot.nD Cert.Rot.τ).loc Cert.Rot.main_arg5) = m ((c.tc : Thread Cert.Rot.nD Cert.Rot.τ).loc Cert.Rot.main_arg5))
      ∧ r.2.sem = fun _ => 0)

def quiescent_RotIdeal [hRotIdeal : Cert.RotIdeal.Facts] : Prop :=
  ∀ (m : (ℓ : Loc Cert.RotIdeal.nD Cert.RotIdeal.τ Cert.RotIdeal.sig) → Buf (Elt Ideal) ℓ) (g : Dev Cert.RotIdeal.nD → PrngReg), Pre_RotIdeal m →
    θ_run (Cert.RotIdeal.defs (F := Ideal)) (onTc (τ := Cert.RotIdeal.τ) (Cert.RotIdeal.main (F := Ideal))) ⟨m, fun _ => 0, g⟩ (fun r => (∀ c : Dev Cert.RotIdeal.nD,
      r.2.mem ((c.tc : Thread Cert.RotIdeal.nD Cert.RotIdeal.τ).loc Cert.RotIdeal.main_arg0) = m ((c.tc : Thread Cert.RotIdeal.nD Cert.RotIdeal.τ).loc Cert.RotIdeal.main_arg0)
      ∧ r.2.mem ((c.tc : Thread Cert.RotIdeal.nD Cert.RotIdeal.τ).loc Cert.RotIdeal.main_arg1) = m ((c.tc : Thread Cert.RotIdeal.nD Cert.RotIdeal.τ).loc Cert.RotIdeal.main_arg1)
      ∧ r.2.mem ((c.tc : Thread Cert.RotIdeal.nD Cert.RotIdeal.τ).loc Cert.RotIdeal.main_arg2) = m ((c.tc : Thread Cert.RotIdeal.nD Cert.RotIdeal.τ).loc Cert.RotIdeal.main_arg2)
      ∧ r.2.mem ((c.tc : Thread Cert.RotIdeal.nD Cert.RotIdeal.τ).loc Cert.RotIdeal.main_arg3) = m ((c.tc : Thread Cert.RotIdeal.nD Cert.RotIdeal.τ).loc Cert.RotIdeal.main_arg3)
      ∧ r.2.mem ((c.tc : Thread Cert.RotIdeal.nD Cert.RotIdeal.τ).loc Cert.RotIdeal.main_arg4) = m ((c.tc : Thread Cert.RotIdeal.nD Cert.RotIdeal.τ).loc Cert.RotIdeal.main_arg4)
      ∧ r.2.mem ((c.tc : Thread Cert.RotIdeal.nD Cert.RotIdeal.τ).loc Cert.RotIdeal.main_arg5) = m ((c.tc : Thread Cert.RotIdeal.nD Cert.RotIdeal.τ).loc Cert.RotIdeal.main_arg5))
      ∧ r.2.sem = fun _ => 0)

def quiescent_RotRefIdeal [hRotRefIdeal : Cert.RotRefIdeal.Facts] : Prop :=
  ∀ (m : (ℓ : Loc Cert.RotRefIdeal.nD Cert.RotRefIdeal.τ Cert.RotRefIdeal.sig) → Buf (Elt Ideal) ℓ) (g : Dev Cert.RotRefIdeal.nD → PrngReg), Pre_RotRefIdeal m →
    θ_run (Cert.RotRefIdeal.defs (F := Ideal)) (onTc (τ := Cert.RotRefIdeal.τ) (Cert.RotRefIdeal.main (F := Ideal))) ⟨m, fun _ => 0, g⟩ (fun r => (∀ c : Dev Cert.RotRefIdeal.nD,
      r.2.mem ((c.tc : Thread Cert.RotRefIdeal.nD Cert.RotRefIdeal.τ).loc Cert.RotRefIdeal.main_arg0) = m ((c.tc : Thread Cert.RotRefIdeal.nD Cert.RotRefIdeal.τ).loc Cert.RotRefIdeal.main_arg0)
      ∧ r.2.mem ((c.tc : Thread Cert.RotRefIdeal.nD Cert.RotRefIdeal.τ).loc Cert.RotRefIdeal.main_arg1) = m ((c.tc : Thread Cert.RotRefIdeal.nD Cert.RotRefIdeal.τ).loc Cert.RotRefIdeal.main_arg1)
      ∧ r.2.mem ((c.tc : Thread Cert.RotRefIdeal.nD Cert.RotRefIdeal.τ).loc Cert.RotRefIdeal.main_arg2) = m ((c.tc : Thread Cert.RotRefIdeal.nD Cert.RotRefIdeal.τ).loc Cert.RotRefIdeal.main_arg2)
      ∧ r.2.mem ((c.tc : Thread Cert.RotRefIdeal.nD Cert.RotRefIdeal.τ).loc Cert.RotRefIdeal.main_arg3) = m ((c.tc : Thread Cert.RotRefIdeal.nD Cert.RotRefIdeal.τ).loc Cert.RotRefIdeal.main_arg3)
      ∧ r.2.mem ((c.tc : Thread Cert.RotRefIdeal.nD Cert.RotRefIdeal.τ).loc Cert.RotRefIdeal.main_arg4) = m ((c.tc : Thread Cert.RotRefIdeal.nD Cert.RotRefIdeal.τ).loc Cert.RotRefIdeal.main_arg4)
      ∧ r.2.mem ((c.tc : Thread Cert.RotRefIdeal.nD Cert.RotRefIdeal.τ).loc Cert.RotRefIdeal.main_arg5) = m ((c.tc : Thread Cert.RotRefIdeal.nD Cert.RotRefIdeal.τ).loc Cert.RotRefIdeal.main_arg5))
      ∧ r.2.sem = fun _ => 0)

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v24) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v60) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_FfnLat_FfnLatIdeal : Prop :=
  True

def algebraic_FfnLatIdeal_FfnLatRefIdeal [hFfnLatIdeal : Cert.FfnLatIdeal.Facts] [hFfnLatRefIdeal : Cert.FfnLatRefIdeal.Facts] : Prop :=
  ∀ (m : (ℓ : Loc Cert.FfnLatIdeal.nD Cert.FfnLatIdeal.τ Cert.FfnLatIdeal.sig) → Buf (Elt Ideal) ℓ) (g : Dev Cert.FfnLatIdeal.nD → PrngReg)
    (m' : (ℓ : Loc Cert.FfnLatRefIdeal.nD Cert.FfnLatRefIdeal.τ Cert.FfnLatRefIdeal.sig) → Buf (Elt Ideal) ℓ) (g' : Dev Cert.FfnLatRefIdeal.nD → PrngReg), Pre_FfnLatIdeal m →
    (∀ c : Dev Cert.FfnLatIdeal.nD,
      m' ((c.tc : Thread Cert.FfnLatRefIdeal.nD Cert.FfnLatRefIdeal.τ).loc Cert.FfnLatRefIdeal.main_arg0) = m ((c.tc : Thread Cert.FfnLatIdeal.nD Cert.FfnLatIdeal.τ).loc Cert.FfnLatIdeal.main_arg0)
      ∧ m' ((c.tc : Thread Cert.FfnLatRefIdeal.nD Cert.FfnLatRefIdeal.τ).loc Cert.FfnLatRefIdeal.main_arg1) = m ((c.tc : Thread Cert.FfnLatIdeal.nD Cert.FfnLatIdeal.τ).loc Cert.FfnLatIdeal.main_arg1)
      ∧ m' ((c.tc : Thread Cert.FfnLatRefIdeal.nD Cert.FfnLatRefIdeal.τ).loc Cert.FfnLatRefIdeal.main_arg2) = m ((c.tc : Thread Cert.FfnLatIdeal.nD Cert.FfnLatIdeal.τ).loc Cert.FfnLatIdeal.main_arg2)
      ∧ m' ((c.tc : Thread Cert.FfnLatRefIdeal.nD Cert.FfnLatRefIdeal.τ).loc Cert.FfnLatRefIdeal.main_arg3) = m ((c.tc : Thread Cert.FfnLatIdeal.nD Cert.FfnLatIdeal.τ).loc Cert.FfnLatIdeal.main_arg3)
      ∧ m' ((c.tc : Thread Cert.FfnLatRefIdeal.nD Cert.FfnLatRefIdeal.τ).loc Cert.FfnLatRefIdeal.main_arg4) = m ((c.tc : Thread Cert.FfnLatIdeal.nD Cert.FfnLatIdeal.τ).loc Cert.FfnLatIdeal.main_arg4)
      ∧ m' ((c.tc : Thread Cert.FfnLatRefIdeal.nD Cert.FfnLatRefIdeal.τ).loc Cert.FfnLatRefIdeal.main_arg5) = m ((c.tc : Thread Cert.FfnLatIdeal.nD Cert.FfnLatIdeal.τ).loc Cert.FfnLatIdeal.main_arg5)
      ∧ m' ((c.tc : Thread Cert.FfnLatRefIdeal.nD Cert.FfnLatRefIdeal.τ).loc Cert.FfnLatRefIdeal.main_arg6) = m ((c.tc : Thread Cert.FfnLatIdeal.nD Cert.FfnLatIdeal.τ).loc Cert.FfnLatIdeal.main_arg6)
      ∧ m' ((c.tc : Thread Cert.FfnLatRefIdeal.nD Cert.FfnLatRefIdeal.τ).loc Cert.FfnLatRefIdeal.main_arg7) = m ((c.tc : Thread Cert.FfnLatIdeal.nD Cert.FfnLatIdeal.τ).loc Cert.FfnLatIdeal.main_arg7)
      ∧ m' ((c.tc : Thread Cert.FfnLatRefIdeal.nD Cert.FfnLatRefIdeal.τ).loc Cert.FfnLatRefIdeal.main_arg8) = m ((c.tc : Thread Cert.FfnLatIdeal.nD Cert.FfnLatIdeal.τ).loc Cert.FfnLatIdeal.main_arg8)) →
    ∃ (v0 : (c : Dev Cert.FfnLatIdeal.nD) → Buf (Elt Ideal) ((c.tc : Thread Cert.FfnLatIdeal.nD Cert.FfnLatIdeal.τ).loc Cert.FfnLatIdeal.main_v8)),
      θ_run (Cert.FfnLatIdeal.defs (F := Ideal)) (onTc (τ := Cert.FfnLatIdeal.τ) (Cert.FfnLatIdeal.main (F := Ideal))) ⟨m, fun _ => 0, g⟩ (fun r => ∀ c : Dev Cert.FfnLatIdeal.nD,
          r.2.mem ((c.tc : Thread Cert.FfnLatIdeal.nD Cert.FfnLatIdeal.τ).loc Cert.FfnLatIdeal.main_v8) = v0 c
          ∧ r.2.mem ((c.tc : Thread Cert.FfnLatIdeal.nD Cert.FfnLatIdeal.τ).loc Cert.FfnLatIdeal.main_arg0) = m ((c.tc : Thread Cert.FfnLatIdeal.nD Cert.FfnLatIdeal.τ).loc Cert.FfnLatIdeal.main_arg0)
          ∧ r.2.mem ((c.tc : Thread Cert.FfnLatIdeal.nD Cert.FfnLatIdeal.τ).loc Cert.FfnLatIdeal.main_arg1) = m ((c.tc : Thread Cert.FfnLatIdeal.nD Cert.FfnLatIdeal.τ).loc Cert.FfnLatIdeal.main_arg1)
          ∧ r.2.mem ((c.tc : Thread Cert.FfnLatIdeal.nD Cert.FfnLatIdeal.τ).loc Cert.FfnLatIdeal.main_arg2) = m ((c.tc : Thread Cert.FfnLatIdeal.nD Cert.FfnLatIdeal.τ).loc Cert.FfnLatIdeal.main_arg2)
          ∧ r.2.mem ((c.tc : Thread Cert.FfnLatIdeal.nD Cert.FfnLatIdeal.τ).loc Cert.FfnLatIdeal.main_arg3) = m ((c.tc : Thread Cert.FfnLatIdeal.nD Cert.FfnLatIdeal.τ).loc Cert.FfnLatIdeal.main_arg3)
          ∧ r.2.mem ((c.tc : Thread Cert.FfnLatIdeal.nD Cert.FfnLatIdeal.τ).loc Cert.FfnLatIdeal.main_arg4) = m ((c.tc : Thread Cert.FfnLatIdeal.nD Cert.FfnLatIdeal.τ).loc Cert.FfnLatIdeal.main_arg4)
          ∧ r.2.mem ((c.tc : Thread Cert.FfnLatIdeal.nD Cert.FfnLatIdeal.τ).loc Cert.FfnLatIdeal.main_arg5) = m ((c.tc : Thread Cert.FfnLatIdeal.nD Cert.FfnLatIdeal.τ).loc Cert.FfnLatIdeal.main_arg5)
          ∧ r.2.mem ((c.tc : Thread Cert.FfnLatIdeal.nD Cert.FfnLatIdeal.τ).loc Cert.FfnLatIdeal.main_arg6) = m ((c.tc : Thread Cert.FfnLatIdeal.nD Cert.FfnLatIdeal.τ).loc Cert.FfnLatIdeal.main_arg6)
          ∧ r.2.mem ((c.tc : Thread Cert.FfnLatIdeal.nD Cert.FfnLatIdeal.τ).loc Cert.FfnLatIdeal.main_arg7) = m ((c.tc : Thread Cert.FfnLatIdeal.nD Cert.FfnLatIdeal.τ).loc Cert.FfnLatIdeal.main_arg7)
          ∧ r.2.mem ((c.tc : Thread Cert.FfnLatIdeal.nD Cert.FfnLatIdeal.τ).loc Cert.FfnLatIdeal.main_arg8) = m ((c.tc : Thread Cert.FfnLatIdeal.nD Cert.FfnLatIdeal.τ).loc Cert.FfnLatIdeal.main_arg8))
      ∧ θ_run (Cert.FfnLatRefIdeal.defs (F := Ideal)) (onTc (τ := Cert.FfnLatRefIdeal.τ) (Cert.FfnLatRefIdeal.main (F := Ideal))) ⟨m', fun _ => 0, g'⟩ (fun r => ∀ c : Dev Cert.FfnLatRefIdeal.nD,
          r.2.mem ((c.tc : Thread Cert.FfnLatRefIdeal.nD Cert.FfnLatRefIdeal.τ).loc Cert.FfnLatRefIdeal.main_v60) = v0 c
          ∧ r.2.mem ((c.tc : Thread Cert.FfnLatRefIdeal.nD Cert.FfnLatRefIdeal.τ).loc Cert.FfnLatRefIdeal.main_arg0) = m' ((c.tc : Thread Cert.FfnLatRefIdeal.nD Cert.FfnLatRefIdeal.τ).loc Cert.FfnLatRefIdeal.main_arg0)
          ∧ r.2.mem ((c.tc : Thread Cert.FfnLatRefIdeal.nD Cert.FfnLatRefIdeal.τ).loc Cert.FfnLatRefIdeal.main_arg1) = m' ((c.tc : Thread Cert.FfnLatRefIdeal.nD Cert.FfnLatRefIdeal.τ).loc Cert.FfnLatRefIdeal.main_arg1)
          ∧ r.2.mem ((c.tc : Thread Cert.FfnLatRefIdeal.nD Cert.FfnLatRefIdeal.τ).loc Cert.FfnLatRefIdeal.main_arg2) = m' ((c.tc : Thread Cert.FfnLatRefIdeal.nD Cert.FfnLatRefIdeal.τ).loc Cert.FfnLatRefIdeal.main_arg2)
          ∧ r.2.mem ((c.tc : Thread Cert.FfnLatRefIdeal.nD Cert.FfnLatRefIdeal.τ).loc Cert.FfnLatRefIdeal.main_arg3) = m' ((c.tc : Thread Cert.FfnLatRefIdeal.nD Cert.FfnLatRefIdeal.τ).loc Cert.FfnLatRefIdeal.main_arg3)
          ∧ r.2.mem ((c.tc : Thread Cert.FfnLatRefIdeal.nD Cert.FfnLatRefIdeal.τ).loc Cert.FfnLatRefIdeal.main_arg4) = m' ((c.tc : Thread Cert.FfnLatRefIdeal.nD Cert.FfnLatRefIdeal.τ).loc Cert.FfnLatRefIdeal.main_arg4)
          ∧ r.2.mem ((c.tc : Thread Cert.FfnLatRefIdeal.nD Cert.FfnLatRefIdeal.τ).loc Cert.FfnLatRefIdeal.main_arg5) = m' ((c.tc : Thread Cert.FfnLatRefIdeal.nD Cert.FfnLatRefIdeal.τ).loc Cert.FfnLatRefIdeal.main_arg5)
          ∧ r.2.mem ((c.tc : Thread Cert.FfnLatRefIdeal.nD Cert.FfnLatRefIdeal.τ).loc Cert.FfnLatRefIdeal.main_arg6) = m' ((c.tc : Thread Cert.FfnLatRefIdeal.nD Cert.FfnLatRefIdeal.τ).loc Cert.FfnLatRefIdeal.main_arg6)
          ∧ r.2.mem ((c.tc : Thread Cert.FfnLatRefIdeal.nD Cert.FfnLatRefIdeal.τ).loc Cert.FfnLatRefIdeal.main_arg7) = m' ((c.tc : Thread Cert.FfnLatRefIdeal.nD Cert.FfnLatRefIdeal.τ).loc Cert.FfnLatRefIdeal.main_arg7)
          ∧ r.2.mem ((c.tc : Thread Cert.FfnLatRefIdeal.nD Cert.FfnLatRefIdeal.τ).loc Cert.FfnLatRefIdeal.main_arg8) = m' ((c.tc : Thread Cert.FfnLatRefIdeal.nD Cert.FfnLatRefIdeal.τ).loc Cert.FfnLatRefIdeal.main_arg8))

def preserves_FfnFirst_FfnFirstIdeal : Prop :=
  True

def algebraic_FfnFirstIdeal_FfnFirstRefIdeal [hFfnFirstIdeal : Cert.FfnFirstIdeal.Facts] [hFfnFirstRefIdeal : Cert.FfnFirstRefIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstRefIdeal.nD Cert.FfnFirstRefIdeal.τ Cert.FfnFirstRefIdeal.sig) → Buf (Elt Ideal) ℓ) (g' : Dev Cert.FfnFirstRefIdeal.nD → PrngReg), Pre_FfnFirstIdeal m →
    (∀ c : Dev Cert.FfnFirstIdeal.nD,
      m' ((c.tc : Thread Cert.FfnFirstRefIdeal.nD Cert.FfnFirstRefIdeal.τ).loc Cert.FfnFirstRefIdeal.main_arg0) = m ((c.tc : Thread Cert.FfnFirstIdeal.nD Cert.FfnFirstIdeal.τ).loc Cert.FfnFirstIdeal.main_arg0)
      ∧ m' ((c.tc : Thread Cert.FfnFirstRefIdeal.nD Cert.FfnFirstRefIdeal.τ).loc Cert.FfnFirstRefIdeal.main_arg1) = m ((c.tc : Thread Cert.FfnFirstIdeal.nD Cert.FfnFirstIdeal.τ).loc Cert.FfnFirstIdeal.main_arg1)
      ∧ m' ((c.tc : Thread Cert.FfnFirstRefIdeal.nD Cert.FfnFirstRefIdeal.τ).loc Cert.FfnFirstRefIdeal.main_arg2) = m ((c.tc : Thread Cert.FfnFirstIdeal.nD Cert.FfnFirstIdeal.τ).loc Cert.FfnFirstIdeal.main_arg2)
      ∧ m' ((c.tc : Thread Cert.FfnFirstRefIdeal.nD Cert.FfnFirstRefIdeal.τ).loc Cert.FfnFirstRefIdeal.main_arg3) = m ((c.tc : Thread Cert.FfnFirstIdeal.nD Cert.FfnFirstIdeal.τ).loc Cert.FfnFirstIdeal.main_arg3)
      ∧ m' ((c.tc : Thread Cert.FfnFirstRefIdeal.nD Cert.FfnFirstRefIdeal.τ).loc Cert.FfnFirstRefIdeal.main_arg4) = m ((c.tc : Thread Cert.FfnFirstIdeal.nD Cert.FfnFirstIdeal.τ).loc Cert.FfnFirstIdeal.main_arg4)
      ∧ m' ((c.tc : Thread Cert.FfnFirstRefIdeal.nD Cert.FfnFirstRefIdeal.τ).loc Cert.FfnFirstRefIdeal.main_arg5) = m ((c.tc : Thread Cert.FfnFirstIdeal.nD Cert.FfnFirstIdeal.τ).loc Cert.FfnFirstIdeal.main_arg5)) →
    ∃ (v0 : (c : Dev Cert.FfnFirstIdeal.nD) → Buf (Elt Ideal) ((c.tc : Thread Cert.FfnFirstIdeal.nD Cert.FfnFirstIdeal.τ).loc Cert.FfnFirstIdeal.main_v6)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v6) = v0 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
          ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5))
      ∧ θ_run (Cert.FfnFirstRefIdeal.defs (F := Ideal)) (onTc (τ := Cert.FfnFirstRefIdeal.τ) (Cert.FfnFirstRefIdeal.main (F := Ideal))) ⟨m', fun _ => 0, g'⟩ (fun r => ∀ c : Dev Cert.FfnFirstRefIdeal.nD,
          r.2.mem ((c.tc : Thread Cert.FfnFirstRefIdeal.nD Cert.FfnFirstRefIdeal.τ).loc Cert.FfnFirstRefIdeal.main_v41) = v0 c
          ∧ r.2.mem ((c.tc : Thread Cert.FfnFirstRefIdeal.nD Cert.FfnFirstRefIdeal.τ).loc Cert.FfnFirstRefIdeal.main_arg0) = m' ((c.tc : Thread Cert.FfnFirstRefIdeal.nD Cert.FfnFirstRefIdeal.τ).loc Cert.FfnFirstRefIdeal.main_arg0)
          ∧ r.2.mem ((c.tc : Thread Cert.FfnFirstRefIdeal.nD Cert.FfnFirstRefIdeal.τ).loc Cert.FfnFirstRefIdeal.main_arg1) = m' ((c.tc : Thread Cert.FfnFirstRefIdeal.nD Cert.FfnFirstRefIdeal.τ).loc Cert.FfnFirstRefIdeal.main_arg1)
          ∧ r.2.mem ((c.tc : Thread Cert.FfnFirstRefIdeal.nD Cert.FfnFirstRefIdeal.τ).loc Cert.FfnFirstRefIdeal.main_arg2) = m' ((c.tc : Thread Cert.FfnFirstRefIdeal.nD Cert.FfnFirstRefIdeal.τ).loc Cert.FfnFirstRefIdeal.main_arg2)
          ∧ r.2.mem ((c.tc : Thread Cert.FfnFirstRefIdeal.nD Cert.FfnFirstRefIdeal.τ).loc Cert.FfnFirstRefIdeal.main_arg3) = m' ((c.tc : Thread Cert.FfnFirstRefIdeal.nD Cert.FfnFirstRefIdeal.τ).loc Cert.FfnFirstRefIdeal.main_arg3)
          ∧ r.2.mem ((c.tc : Thread Cert.FfnFirstRefIdeal.nD Cert.FfnFirstRefIdeal.τ).loc Cert.FfnFirstRefIdeal.main_arg4) = m' ((c.tc : Thread Cert.FfnFirstRefIdeal.nD Cert.FfnFirstRefIdeal.τ).loc Cert.FfnFirstRefIdeal.main_arg4)
          ∧ r.2.mem ((c.tc : Thread Cert.FfnFirstRefIdeal.nD Cert.FfnFirstRefIdeal.τ).loc Cert.FfnFirstRefIdeal.main_arg5) = m' ((c.tc : Thread Cert.FfnFirstRefIdeal.nD Cert.FfnFirstRefIdeal.τ).loc Cert.FfnFirstRefIdeal.main_arg5))

def preserves_FfnMid_FfnMidIdeal : Prop :=
  True

def algebraic_FfnMidIdeal_FfnMidRefIdeal [hFfnMidIdeal : Cert.FfnMidIdeal.Facts] [hFfnMidRefIdeal : Cert.FfnMidRefIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidRefIdeal.nD Cert.FfnMidRefIdeal.τ Cert.FfnMidRefIdeal.sig) → Buf (Elt Ideal) ℓ) (g' : Dev Cert.FfnMidRefIdeal.nD → PrngReg), Pre_FfnMidIdeal m →
    (∀ c : Dev Cert.FfnMidIdeal.nD,
      m' ((c.tc : Thread Cert.FfnMidRefIdeal.nD Cert.FfnMidRefIdeal.τ).loc Cert.FfnMidRefIdeal.main_arg0) = m ((c.tc : Thread Cert.FfnMidIdeal.nD Cert.FfnMidIdeal.τ).loc Cert.FfnMidIdeal.main_arg0)
      ∧ m' ((c.tc : Thread Cert.FfnMidRefIdeal.nD Cert.FfnMidRefIdeal.τ).loc Cert.FfnMidRefIdeal.main_arg1) = m ((c.tc : Thread Cert.FfnMidIdeal.nD Cert.FfnMidIdeal.τ).loc Cert.FfnMidIdeal.main_arg1)
      ∧ m' ((c.tc : Thread Cert.FfnMidRefIdeal.nD Cert.FfnMidRefIdeal.τ).loc Cert.FfnMidRefIdeal.main_arg2) = m ((c.tc : Thread Cert.FfnMidIdeal.nD Cert.FfnMidIdeal.τ).loc Cert.FfnMidIdeal.main_arg2)
      ∧ m' ((c.tc : Thread Cert.FfnMidRefIdeal.nD Cert.FfnMidRefIdeal.τ).loc Cert.FfnMidRefIdeal.main_arg3) = m ((c.tc : Thread Cert.FfnMidIdeal.nD Cert.FfnMidIdeal.τ).loc Cert.FfnMidIdeal.main_arg3)
      ∧ m' ((c.tc : Thread Cert.FfnMidRefIdeal.nD Cert.FfnMidRefIdeal.τ).loc Cert.FfnMidRefIdeal.main_arg4) = m ((c.tc : Thread Cert.FfnMidIdeal.nD Cert.FfnMidIdeal.τ).loc Cert.FfnMidIdeal.main_arg4)
      ∧ m' ((c.tc : Thread Cert.FfnMidRefIdeal.nD Cert.FfnMidRefIdeal.τ).loc Cert.FfnMidRefIdeal.main_arg5) = m ((c.tc : Thread Cert.FfnMidIdeal.nD Cert.FfnMidIdeal.τ).loc Cert.FfnMidIdeal.main_arg5)
      ∧ m' ((c.tc : Thread Cert.FfnMidRefIdeal.nD Cert.FfnMidRefIdeal.τ).loc Cert.FfnMidRefIdeal.main_arg6) = m ((c.tc : Thread Cert.FfnMidIdeal.nD Cert.FfnMidIdeal.τ).loc Cert.FfnMidIdeal.main_arg6)
      ∧ m' ((c.tc : Thread Cert.FfnMidRefIdeal.nD Cert.FfnMidRefIdeal.τ).loc Cert.FfnMidRefIdeal.main_arg7) = m ((c.tc : Thread Cert.FfnMidIdeal.nD Cert.FfnMidIdeal.τ).loc Cert.FfnMidIdeal.main_arg7)
      ∧ m' ((c.tc : Thread Cert.FfnMidRefIdeal.nD Cert.FfnMidRefIdeal.τ).loc Cert.FfnMidRefIdeal.main_arg8) = m ((c.tc : Thread Cert.FfnMidIdeal.nD Cert.FfnMidIdeal.τ).loc Cert.FfnMidIdeal.main_arg8)) →
    ∃ (v0 : (c : Dev Cert.FfnMidIdeal.nD) → Buf (Elt Ideal) ((c.tc : Thread Cert.FfnMidIdeal.nD Cert.FfnMidIdeal.τ).loc Cert.FfnMidIdeal.main_v7)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v7) = v0 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
          ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
          ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5)
          ∧ r.2.mem ((c.tc : Thread Cert.FfnMidIdeal.nD Cert.FfnMidIdeal.τ).loc Cert.FfnMidIdeal.main_arg6) = m ((c.tc : Thread Cert.FfnMidIdeal.nD Cert.FfnMidIdeal.τ).loc Cert.FfnMidIdeal.main_arg6)
          ∧ r.2.mem ((c.tc : Thread Cert.FfnMidIdeal.nD Cert.FfnMidIdeal.τ).loc Cert.FfnMidIdeal.main_arg7) = m ((c.tc : Thread Cert.FfnMidIdeal.nD Cert.FfnMidIdeal.τ).loc Cert.FfnMidIdeal.main_arg7)
          ∧ r.2.mem ((c.tc : Thread Cert.FfnMidIdeal.nD Cert.FfnMidIdeal.τ).loc Cert.FfnMidIdeal.main_arg8) = m ((c.tc : Thread Cert.FfnMidIdeal.nD Cert.FfnMidIdeal.τ).loc Cert.FfnMidIdeal.main_arg8))
      ∧ θ_run (Cert.FfnMidRefIdeal.defs (F := Ideal)) (onTc (τ := Cert.FfnMidRefIdeal.τ) (Cert.FfnMidRefIdeal.main (F := Ideal))) ⟨m', fun _ => 0, g'⟩ (fun r => ∀ c : Dev Cert.FfnMidRefIdeal.nD,
          r.2.mem ((c.tc : Thread Cert.FfnMidRefIdeal.nD Cert.FfnMidRefIdeal.τ).loc Cert.FfnMidRefIdeal.main_v50) = v0 c
          ∧ r.2.mem ((c.tc : Thread Cert.FfnMidRefIdeal.nD Cert.FfnMidRefIdeal.τ).loc Cert.FfnMidRefIdeal.main_arg0) = m' ((c.tc : Thread Cert.FfnMidRefIdeal.nD Cert.FfnMidRefIdeal.τ).loc Cert.FfnMidRefIdeal.main_arg0)
          ∧ r.2.mem ((c.tc : Thread Cert.FfnMidRefIdeal.nD Cert.FfnMidRefIdeal.τ).loc Cert.FfnMidRefIdeal.main_arg1) = m' ((c.tc : Thread Cert.FfnMidRefIdeal.nD Cert.FfnMidRefIdeal.τ).loc Cert.FfnMidRefIdeal.main_arg1)
          ∧ r.2.mem ((c.tc : Thread Cert.FfnMidRefIdeal.nD Cert.FfnMidRefIdeal.τ).loc Cert.FfnMidRefIdeal.main_arg2) = m' ((c.tc : Thread Cert.FfnMidRefIdeal.nD Cert.FfnMidRefIdeal.τ).loc Cert.FfnMidRefIdeal.main_arg2)
          ∧ r.2.mem ((c.tc : Thread Cert.FfnMidRefIdeal.nD Cert.FfnMidRefIdeal.τ).loc Cert.FfnMidRefIdeal.main_arg3) = m' ((c.tc : Thread Cert.FfnMidRefIdeal.nD Cert.FfnMidRefIdeal.τ).loc Cert.FfnMidRefIdeal.main_arg3)
          ∧ r.2.mem ((c.tc : Thread Cert.FfnMidRefIdeal.nD Cert.FfnMidRefIdeal.τ).loc Cert.FfnMidRefIdeal.main_arg4) = m' ((c.tc : Thread Cert.FfnMidRefIdeal.nD Cert.FfnMidRefIdeal.τ).loc Cert.FfnMidRefIdeal.main_arg4)
          ∧ r.2.mem ((c.tc : Thread Cert.FfnMidRefIdeal.nD Cert.FfnMidRefIdeal.τ).loc Cert.FfnMidRefIdeal.main_arg5) = m' ((c.tc : Thread Cert.FfnMidRefIdeal.nD Cert.FfnMidRefIdeal.τ).loc Cert.FfnMidRefIdeal.main_arg5)
          ∧ r.2.mem ((c.tc : Thread Cert.FfnMidRefIdeal.nD Cert.FfnMidRefIdeal.τ).loc Cert.FfnMidRefIdeal.main_arg6) = m' ((c.tc : Thread Cert.FfnMidRefIdeal.nD Cert.FfnMidRefIdeal.τ).loc Cert.FfnMidRefIdeal.main_arg6)
          ∧ r.2.mem ((c.tc : Thread Cert.FfnMidRefIdeal.nD Cert.FfnMidRefIdeal.τ).loc Cert.FfnMidRefIdeal.main_arg7) = m' ((c.tc : Thread Cert.FfnMidRefIdeal.nD Cert.FfnMidRefIdeal.τ).loc Cert.FfnMidRefIdeal.main_arg7)
          ∧ r.2.mem ((c.tc : Thread Cert.FfnMidRefIdeal.nD Cert.FfnMidRefIdeal.τ).loc Cert.FfnMidRefIdeal.main_arg8) = m' ((c.tc : Thread Cert.FfnMidRefIdeal.nD Cert.FfnMidRefIdeal.τ).loc Cert.FfnMidRefIdeal.main_arg8))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v4_0)) (v1 : (c : Dev Cert.ProjIdeal.nD) → Buf (Elt Ideal) ((c.tc : Thread Cert.ProjIdeal.nD Cert.ProjIdeal.τ).loc Cert.ProjIdeal.main_v4_1)) (v2 : (c : Dev Cert.ProjIdeal.nD) → Buf (Elt Ideal) ((c.tc : Thread Cert.ProjIdeal.nD Cert.ProjIdeal.τ).loc Cert.ProjIdeal.main_v4_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4_0) = v0 c
          ∧ r.2.mem ((c.tc : Thread Cert.ProjIdeal.nD Cert.ProjIdeal.τ).loc Cert.ProjIdeal.main_v4_1) = v1 c
          ∧ r.2.mem ((c.tc : Thread Cert.ProjIdeal.nD Cert.ProjIdeal.τ).loc Cert.ProjIdeal.main_v4_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v38) = v0 c
          ∧ r.2.mem ((c.tc : Thread Cert.ProjRefIdeal.nD Cert.ProjRefIdeal.τ).loc Cert.ProjRefIdeal.main_v39) = v1 c
          ∧ r.2.mem ((c.tc : Thread Cert.ProjRefIdeal.nD Cert.ProjRefIdeal.τ).loc Cert.ProjRefIdeal.main_v40) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)
      ∧ m' ((c.tc : Thread Cert.InRefIdeal.nD Cert.InRefIdeal.τ).loc Cert.InRefIdeal.main_arg7) = m ((c.tc : Thread Cert.InIdeal.nD Cert.InIdeal.τ).loc Cert.InIdeal.main_arg7)) →
    ∃ (v0 : (c : Dev Cert.InIdeal.nD) → Buf (Elt Ideal) ((c.tc : Thread Cert.InIdeal.nD Cert.InIdeal.τ).loc Cert.InIdeal.main_v22_0)) (v1 : (c : Dev Cert.InIdeal.nD) → Buf (Elt Ideal) ((c.tc : Thread Cert.InIdeal.nD Cert.InIdeal.τ).loc Cert.InIdeal.main_v22_1)) (v2 : (c : Dev Cert.InIdeal.nD) → Buf (Elt Ideal) ((c.tc : Thread Cert.InIdeal.nD Cert.InIdeal.τ).loc Cert.InIdeal.main_v22_2)) (v3 : (c : Dev Cert.InIdeal.nD) → Buf (Elt Ideal) ((c.tc : Thread Cert.InIdeal.nD Cert.InIdeal.τ).loc Cert.InIdeal.main_v22_3)) (v4 : (c : Dev Cert.InIdeal.nD) → Buf (Elt Ideal) ((c.tc : Thread Cert.InIdeal.nD Cert.InIdeal.τ).loc Cert.InIdeal.main_v22_4)) (v5 : (c : Dev Cert.InIdeal.nD) → Buf (Elt Ideal) ((c.tc : Thread Cert.InIdeal.nD Cert.InIdeal.τ).loc Cert.InIdeal.main_v22_5)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v22_0) = v0 c
          ∧ r.2.mem ((c.tc : Thread Cert.InIdeal.nD Cert.InIdeal.τ).loc Cert.InIdeal.main_v22_1) = v1 c
          ∧ r.2.mem ((c.tc : Thread Cert.InIdeal.nD Cert.InIdeal.τ).loc Cert.InIdeal.main_v22_2) = v2 c
          ∧ r.2.mem ((c.tc : Thread Cert.InIdeal.nD Cert.InIdeal.τ).loc Cert.InIdeal.main_v22_3) = v3 c
          ∧ r.2.mem ((c.tc : Thread Cert.InIdeal.nD Cert.InIdeal.τ).loc Cert.InIdeal.main_v22_4) = v4 c
          ∧ r.2.mem ((c.tc : Thread Cert.InIdeal.nD Cert.InIdeal.τ).loc Cert.InIdeal.main_v22_5) = v5 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6)
          ∧ r.2.mem ((c.tc : Thread Cert.InIdeal.nD Cert.InIdeal.τ).loc Cert.InIdeal.main_arg7) = m ((c.tc : Thread Cert.InIdeal.nD Cert.InIdeal.τ).loc Cert.InIdeal.main_arg7))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v55) = v0 c
          ∧ r.2.mem ((c.tc : Thread Cert.InRefIdeal.nD Cert.InRefIdeal.τ).loc Cert.InRefIdeal.main_v56) = v1 c
          ∧ r.2.mem ((c.tc : Thread Cert.InRefIdeal.nD Cert.InRefIdeal.τ).loc Cert.InRefIdeal.main_v58) = v2 c
          ∧ r.2.mem ((c.tc : Thread Cert.InRefIdeal.nD Cert.InRefIdeal.τ).loc Cert.InRefIdeal.main_v59) = v3 c
          ∧ r.2.mem ((c.tc : Thread Cert.InRefIdeal.nD Cert.InRefIdeal.τ).loc Cert.InRefIdeal.main_v61) = v4 c
          ∧ r.2.mem ((c.tc : Thread Cert.InRefIdeal.nD Cert.InRefIdeal.τ).loc Cert.InRefIdeal.main_v63) = v5 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7))

def preserves_Rot_RotIdeal : Prop :=
  True

def algebraic_RotIdeal_RotRefIdeal [hRotIdeal : Cert.RotIdeal.Facts] [hRotRefIdeal : Cert.RotRefIdeal.Facts] : Prop :=
  ∀ (m : (ℓ : Loc Cert.RotIdeal.nD Cert.RotIdeal.τ Cert.RotIdeal.sig) → Buf (Elt Ideal) ℓ) (g : Dev Cert.RotIdeal.nD → PrngReg)
    (m' : (ℓ : Loc Cert.RotRefIdeal.nD Cert.RotRefIdeal.τ Cert.RotRefIdeal.sig) → Buf (Elt Ideal) ℓ) (g' : Dev Cert.RotRefIdeal.nD → PrngReg), Pre_RotIdeal m →
    (∀ c : Dev Cert.RotIdeal.nD,
      m' ((c.tc : Thread Cert.RotRefIdeal.nD Cert.RotRefIdeal.τ).loc Cert.RotRefIdeal.main_arg0) = m ((c.tc : Thread Cert.RotIdeal.nD Cert.RotIdeal.τ).loc Cert.RotIdeal.main_arg0)
      ∧ m' ((c.tc : Thread Cert.RotRefIdeal.nD Cert.RotRefIdeal.τ).loc Cert.RotRefIdeal.main_arg1) = m ((c.tc : Thread Cert.RotIdeal.nD Cert.RotIdeal.τ).loc Cert.RotIdeal.main_arg1)
      ∧ m' ((c.tc : Thread Cert.RotRefIdeal.nD Cert.RotRefIdeal.τ).loc Cert.RotRefIdeal.main_arg2) = m ((c.tc : Thread Cert.RotIdeal.nD Cert.RotIdeal.τ).loc Cert.RotIdeal.main_arg2)
      ∧ m' ((c.tc : Thread Cert.RotRefIdeal.nD Cert.RotRefIdeal.τ).loc Cert.RotRefIdeal.main_arg3) = m ((c.tc : Thread Cert.RotIdeal.nD Cert.RotIdeal.τ).loc Cert.RotIdeal.main_arg3)
      ∧ m' ((c.tc : Thread Cert.RotRefIdeal.nD Cert.RotRefIdeal.τ).loc Cert.RotRefIdeal.main_arg4) = m ((c.tc : Thread Cert.RotIdeal.nD Cert.RotIdeal.τ).loc Cert.RotIdeal.main_arg4)
      ∧ m' ((c.tc : Thread Cert.RotRefIdeal.nD Cert.RotRefIdeal.τ).loc Cert.RotRefIdeal.main_arg5) = m ((c.tc : Thread Cert.RotIdeal.nD Cert.RotIdeal.τ).loc Cert.RotIdeal.main_arg5)) →
    ∃ (v0 : (c : Dev Cert.RotIdeal.nD) → Buf (Elt Ideal) ((c.tc : Thread Cert.RotIdeal.nD Cert.RotIdeal.τ).loc Cert.RotIdeal.main_v16_0)) (v1 : (c : Dev Cert.RotIdeal.nD) → Buf (Elt Ideal) ((c.tc : Thread Cert.RotIdeal.nD Cert.RotIdeal.τ).loc Cert.RotIdeal.main_v16_1)) (v2 : (c : Dev Cert.RotIdeal.nD) → Buf (Elt Ideal) ((c.tc : Thread Cert.RotIdeal.nD Cert.RotIdeal.τ).loc Cert.RotIdeal.main_v16_2)),
      θ_run (Cert.RotIdeal.defs (F := Ideal)) (onTc (τ := Cert.RotIdeal.τ) (Cert.RotIdeal.main (F := Ideal))) ⟨m, fun _ => 0, g⟩ (fun r => ∀ c : Dev Cert.RotIdeal.nD,
          r.2.mem ((c.tc : Thread Cert.RotIdeal.nD Cert.RotIdeal.τ).loc Cert.RotIdeal.main_v16_0) = v0 c
          ∧ r.2.mem ((c.tc : Thread Cert.RotIdeal.nD Cert.RotIdeal.τ).loc Cert.RotIdeal.main_v16_1) = v1 c
          ∧ r.2.mem ((c.tc : Thread Cert.RotIdeal.nD Cert.RotIdeal.τ).loc Cert.RotIdeal.main_v16_2) = v2 c
          ∧ r.2.mem ((c.tc : Thread Cert.RotIdeal.nD Cert.RotIdeal.τ).loc Cert.RotIdeal.main_arg0) = m ((c.tc : Thread Cert.RotIdeal.nD Cert.RotIdeal.τ).loc Cert.RotIdeal.main_arg0)
          ∧ r.2.mem ((c.tc : Thread Cert.RotIdeal.nD Cert.RotIdeal.τ).loc Cert.RotIdeal.main_arg1) = m ((c.tc : Thread Cert.RotIdeal.nD Cert.RotIdeal.τ).loc Cert.RotIdeal.main_arg1)
          ∧ r.2.mem ((c.tc : Thread Cert.RotIdeal.nD Cert.RotIdeal.τ).loc Cert.RotIdeal.main_arg2) = m ((c.tc : Thread Cert.RotIdeal.nD Cert.RotIdeal.τ).loc Cert.RotIdeal.main_arg2)
          ∧ r.2.mem ((c.tc : Thread Cert.RotIdeal.nD Cert.RotIdeal.τ).loc Cert.RotIdeal.main_arg3) = m ((c.tc : Thread Cert.RotIdeal.nD Cert.RotIdeal.τ).loc Cert.RotIdeal.main_arg3)
          ∧ r.2.mem ((c.tc : Thread Cert.RotIdeal.nD Cert.RotIdeal.τ).loc Cert.RotIdeal.main_arg4) = m ((c.tc : Thread Cert.RotIdeal.nD Cert.RotIdeal.τ).loc Cert.RotIdeal.main_arg4)
          ∧ r.2.mem ((c.tc : Thread Cert.RotIdeal.nD Cert.RotIdeal.τ).loc Cert.RotIdeal.main_arg5) = m ((c.tc : Thread Cert.RotIdeal.nD Cert.RotIdeal.τ).loc Cert.RotIdeal.main_arg5))
      ∧ θ_run (Cert.RotRefIdeal.defs (F := Ideal)) (onTc (τ := Cert.RotRefIdeal.τ) (Cert.RotRefIdeal.main (F := Ideal))) ⟨m', fun _ => 0, g'⟩ (fun r => ∀ c : Dev Cert.RotRefIdeal.nD,
          r.2.mem ((c.tc : Thread Cert.RotRefIdeal.nD Cert.RotRefIdeal.τ).loc Cert.RotRefIdeal.main_v68) = v0 c
          ∧ r.2.mem ((c.tc : Thread Cert.RotRefIdeal.nD Cert.RotRefIdeal.τ).loc Cert.RotRefIdeal.main_v69) = v1 c
          ∧ r.2.mem ((c.tc : Thread Cert.RotRefIdeal.nD Cert.RotRefIdeal.τ).loc Cert.RotRefIdeal.main_v70) = v2 c
          ∧ r.2.mem ((c.tc : Thread Cert.RotRefIdeal.nD Cert.RotRefIdeal.τ).loc Cert.RotRefIdeal.main_arg0) = m' ((c.tc : Thread Cert.RotRefIdeal.nD Cert.RotRefIdeal.τ).loc Cert.RotRefIdeal.main_arg0)
          ∧ r.2.mem ((c.tc : Thread Cert.RotRefIdeal.nD Cert.RotRefIdeal.τ).loc Cert.RotRefIdeal.main_arg1) = m' ((c.tc : Thread Cert.RotRefIdeal.nD Cert.RotRefIdeal.τ).loc Cert.RotRefIdeal.main_arg1)
          ∧ r.2.mem ((c.tc : Thread Cert.RotRefIdeal.nD Cert.RotRefIdeal.τ).loc Cert.RotRefIdeal.main_arg2) = m' ((c.tc : Thread Cert.RotRefIdeal.nD Cert.RotRefIdeal.τ).loc Cert.RotRefIdeal.main_arg2)
          ∧ r.2.mem ((c.tc : Thread Cert.RotRefIdeal.nD Cert.RotRefIdeal.τ).loc Cert.RotRefIdeal.main_arg3) = m' ((c.tc : Thread Cert.RotRefIdeal.nD Cert.RotRefIdeal.τ).loc Cert.RotRefIdeal.main_arg3)
          ∧ r.2.mem ((c.tc : Thread Cert.RotRefIdeal.nD Cert.RotRefIdeal.τ).loc Cert.RotRefIdeal.main_arg4) = m' ((c.tc : Thread Cert.RotRefIdeal.nD Cert.RotRefIdeal.τ).loc Cert.RotRefIdeal.main_arg4)
          ∧ r.2.mem ((c.tc : Thread Cert.RotRefIdeal.nD Cert.RotRefIdeal.τ).loc Cert.RotRefIdeal.main_arg5) = m' ((c.tc : Thread Cert.RotRefIdeal.nD Cert.RotRefIdeal.τ).loc Cert.RotRefIdeal.main_arg5))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hFfnLat : Cert.FfnLat.Facts) (hFfnLatIdeal : Cert.FfnLatIdeal.Facts) (hFfnLatRefIdeal : Cert.FfnLatRefIdeal.Facts) (hFfnFirst : Cert.FfnFirst.Facts) (hFfnFirstIdeal : Cert.FfnFirstIdeal.Facts) (hFfnFirstRefIdeal : Cert.FfnFirstRefIdeal.Facts) (hFfnMid : Cert.FfnMid.Facts) (hFfnMidIdeal : Cert.FfnMidIdeal.Facts) (hFfnMidRefIdeal : Cert.FfnMidRefIdeal.Facts) (hProj : Cert.Proj.Facts) (hProjIdeal : Cert.ProjIdeal.Facts) (hProjRefIdeal : Cert.ProjRefIdeal.Facts) (hIn : Cert.In.Facts) (hInIdeal : Cert.InIdeal.Facts) (hInRefIdeal : Cert.InRefIdeal.Facts) (hRot : Cert.Rot.Facts) (hRotIdeal : Cert.RotIdeal.Facts) (hRotRefIdeal : Cert.RotRefIdeal.Facts) (hPre_finite_scores : Cert.Pre_finite_scores.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_FfnLat (hFfnLat := hFfnLat)
    ∧ quiescent_FfnLatIdeal (hFfnLatIdeal := hFfnLatIdeal)
    ∧ quiescent_FfnLatRefIdeal (hFfnLatRefIdeal := hFfnLatRefIdeal)
    ∧ quiescent_FfnFirst (hFfnFirst := hFfnFirst)
    ∧ quiescent_FfnFirstIdeal (hFfnFirstIdeal := hFfnFirstIdeal)
    ∧ quiescent_FfnFirstRefIdeal (hFfnFirstRefIdeal := hFfnFirstRefIdeal)
    ∧ quiescent_FfnMid (hFfnMid := hFfnMid)
    ∧ quiescent_FfnMidIdeal (hFfnMidIdeal := hFfnMidIdeal)
    ∧ quiescent_FfnMidRefIdeal (hFfnMidRefIdeal := hFfnMidRefIdeal)
    ∧ quiescent_Proj (hProj := hProj)
    ∧ quiescent_ProjIdeal (hProjIdeal := hProjIdeal)
    ∧ quiescent_ProjRefIdeal (hProjRefIdeal := hProjRefIdeal)
    ∧ quiescent_In (hIn := hIn)
    ∧ quiescent_InIdeal (hInIdeal := hInIdeal)
    ∧ quiescent_InRefIdeal (hInRefIdeal := hInRefIdeal)
    ∧ quiescent_Rot (hRot := hRot)
    ∧ quiescent_RotIdeal (hRotIdeal := hRotIdeal)
    ∧ quiescent_RotRefIdeal (hRotRefIdeal := hRotRefIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_FfnLat_FfnLatIdeal
    ∧ algebraic_FfnLatIdeal_FfnLatRefIdeal (hFfnLatIdeal := hFfnLatIdeal) (hFfnLatRefIdeal := hFfnLatRefIdeal)
    ∧ preserves_FfnFirst_FfnFirstIdeal
    ∧ algebraic_FfnFirstIdeal_FfnFirstRefIdeal (hFfnFirstIdeal := hFfnFirstIdeal) (hFfnFirstRefIdeal := hFfnFirstRefIdeal)
    ∧ preserves_FfnMid_FfnMidIdeal
    ∧ algebraic_FfnMidIdeal_FfnMidRefIdeal (hFfnMidIdeal := hFfnMidIdeal) (hFfnMidRefIdeal := hFfnMidRefIdeal)
    ∧ preserves_Proj_ProjIdeal
    ∧ algebraic_ProjIdeal_ProjRefIdeal (hProjIdeal := hProjIdeal) (hProjRefIdeal := hProjRefIdeal)
    ∧ preserves_In_InIdeal
    ∧ algebraic_InIdeal_InRefIdeal (hInIdeal := hInIdeal) (hInRefIdeal := hInRefIdeal)
    ∧ preserves_Rot_RotIdeal
    ∧ algebraic_RotIdeal_RotRefIdeal (hRotIdeal := hRotIdeal) (hRotRefIdeal := hRotRefIdeal)
-- ==== Pre_finite_scores.lean ====
abbrev S8192x1024 : Shape := ⟨2, ![8192, 1024]⟩
abbrev S8192x256 : Shape := ⟨2, ![8192, 256]⟩
abbrev S4x4 : Shape := ⟨2, ![4, 4]⟩
abbrev S_ : Shape := ⟨0, ![]⟩

class Facts : Prop where
  bcast_S_S8192x1024 : S_.BroadcastsInDim S8192x1024 (![] : Fin 0 → Fin S8192x1024.rank)
  bcast_S_S8192x256 : S_.BroadcastsInDim S8192x256 (![] : Fin 0 → Fin S8192x256.rank)
  bcast_S_S4x4 : S_.BroadcastsInDim S4x4 (![] : Fin 0 → Fin S4x4.rank)

variable [Facts]

def fn {F : FTy → Type} [FloatOps F] (main_arg0 : FVec F S8192x1024 .bf16) (main_arg1 : FVec F S8192x256 .f32) (main_arg2 : FVec F S8192x256 .f32) (main_arg3 : FVec F S4x4 .f32) : IVec S8192x1024 1 × IVec S8192x256 1 × IVec S4x4 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_v3 : FVec F S8192x256 .f32 := Host.absf main_arg1
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  let main_cst_1 : FVec F S_ .f32 := constant S_ .f32 0x7F800000#32
  let main_v6 : FVec F S4x4 .f32 := broadcastInDim S4x4 ![] bcast_S_S4x4 main_cst_1
  let main_v7 : IVec S4x4 1 := cmpf .olt main_arg3 main_v6
  (main_v2, main_v5, main_v7)
-- ==== Attn.lean ====
abbrev S8192x1024 : Shape := ⟨2, ![8192, 1024]⟩
abbrev S8192x256 : Shape := ⟨2, ![8192, 256]⟩
abbrev S4x4 : Shape := ⟨2, ![4, 4]⟩
abbrev S16 : Shape := ⟨1, ![16]⟩
abbrev S256x1024 : Shape := ⟨2, ![256, 1024]⟩
abbrev S256x256 : Shape := ⟨2, ![256, 256]⟩
abbrev S256x128 : Shape := ⟨2, ![256, 128]⟩
abbrev S1 : Shape := ⟨1, ![1]⟩
abbrev S256 : Shape := ⟨1, ![256]⟩
abbrev S256x1 : Shape := ⟨2, ![256, 1]⟩

abbrev nBuf : Space → Nat
  | .hbm => 6
  | .vmem => 8
  | .smem => 1
  | _ => 0

abbrev bufTy : (tb : Table) → Fin (tcTables nBuf tb) → BufTy
  | .hbm, ⟨0, _⟩ => ⟨S8192x1024, .bf16⟩
  | .hbm, ⟨1, _⟩ => ⟨S8192x256, .f32⟩
  | .hbm, ⟨2, _⟩ => ⟨S8192x256, .f32⟩
  | .hbm, ⟨3, _⟩ => ⟨S4x4, .f32⟩
  | .hbm, ⟨4, _⟩ => ⟨S16, .f32⟩
  | .hbm, ⟨5, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x1024, .bf16⟩
  | .local _ .vmem, ⟨7, _⟩ => ⟨S256x1024, .bf16⟩
  | .local _ .smem, ⟨0, _⟩ => ⟨S16, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttnRefIdeal.lean ====
abbrev S8192x1024 : Shape := ⟨2, ![8192, 1024]⟩
abbrev S8192x256 : Shape := ⟨2, ![8192, 256]⟩
abbrev S4x4 : Shape := ⟨2, ![4, 4]⟩
abbrev S32x256x4x4x64 : Shape := ⟨5, ![32, 256, 4, 4, 64]⟩
abbrev S32x256x4x64 : Shape := ⟨4, ![32, 256, 4, 64]⟩
abbrev S32x4x256x256x4 : Shape := ⟨5, ![32, 4, 256, 256, 4]⟩
abbrev S32x4x4x256x256 : Shape := ⟨5, ![32, 4, 4, 256, 256]⟩
abbrev S1x4x4x1x1 : Shape := ⟨5, ![1, 4, 4, 1, 1]⟩
abbrev S32x4x4x256x1 : Shape := ⟨5, ![32, 4, 4, 256, 1]⟩
abbrev S32x4x4x256x257 : Shape := ⟨5, ![32, 4, 4, 256, 257]⟩
abbrev S_ : Shape := ⟨0, ![]⟩
abbrev S32x4x4x256 : Shape := ⟨4, ![32, 4, 4, 256]⟩
abbrev S32x4x64x4x256 : Shape := ⟨5, ![32, 4, 64, 4, 256]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .f32⟩
  | .hbm, ⟨2, _⟩ => ⟨S8192x256, .f32⟩
  | .hbm, ⟨3, _⟩ => ⟨S4x4, .f32⟩
  | .hbm, ⟨4, _⟩ => ⟨S8192x1024, .f32⟩
  | .hbm, ⟨5, _⟩ => ⟨S32x256x4x4x64, .f32⟩
  | .hbm, ⟨6, _⟩ => ⟨S32x256x4x64, .f32⟩
  | .hbm, ⟨7, _⟩ => ⟨S32x256x4x64, .f32⟩
  | .hbm, ⟨8, _⟩ => ⟨S32x4x256x256x4, .f32⟩
  | .hbm, ⟨9, _⟩ => ⟨S32x4x4x256x256, .f32⟩
  | .hbm, ⟨10, _⟩ => ⟨S1x4x4x1x1, .f32⟩
  | .hbm, ⟨11, _⟩ => ⟨S32x4x4x256x1, .f32⟩
  | .hbm, ⟨12, _⟩ => ⟨S32x4x4x256x257, .f32⟩
  | .hbm, ⟨13, _⟩ => ⟨S_, .f32⟩
  | .hbm, ⟨14, _⟩ => ⟨S32x4x4x256, .f32⟩
  | .hbm, ⟨15, _⟩ => ⟨S_, .f32⟩
  | .hbm, ⟨16, _⟩ => ⟨S32x4x4x256, .f32⟩
  | .hbm, ⟨17, _⟩ => ⟨S32x4x4x256, .f32⟩
  | .hbm, ⟨18, _⟩ => ⟨S32x4x4x256x1, .f32⟩
  | .hbm, ⟨19, _⟩ => ⟨S32x4x4x256x257, .f32⟩
  | .hbm, ⟨20, _⟩ => ⟨S32x4x4x256x257, .f32⟩
  | .hbm, ⟨21, _⟩ => ⟨S32x4x4x256x257, .f32⟩
  | .hbm, ⟨22, _⟩ => ⟨S_, .f32⟩
  | .hbm, ⟨23, _⟩ => ⟨S32x4x4x256, .f32⟩
  | .hbm, ⟨24, _⟩ => ⟨S32x4x4x256x1, .f32⟩
  | .hbm, ⟨25, _⟩ => ⟨S32x4x4x256x257, .f32⟩
  | .hbm, ⟨26, _⟩ => ⟨S32x4x4x256x257, .f32⟩
  | .hbm, ⟨27, _⟩ => ⟨S32x4x4x256x256, .f32⟩
  | .hbm, ⟨28, _⟩ => ⟨S32x4x64x4x256, .f32⟩
  | .hbm, ⟨29, _⟩ => ⟨S32x256x4x4x64, .f32⟩
  | .hbm, ⟨30, _⟩ => ⟨S8192x1024, .f32⟩
  | .hbm, ⟨31, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Ffn.lean ====
abbrev S8192x1024 : Shape := ⟨2, ![8192, 1024]⟩
abbrev S16x9216 : Shape := ⟨2, ![16, 9216]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S16x9x1024 : Shape := ⟨3, ![16, 9, 1024]⟩
abbrev S_ : Shape := ⟨0, ![]⟩
abbrev S16x16x1024 : Shape := ⟨3, ![16, 16, 1024]⟩
abbrev S1x1024 : Shape := ⟨2, ![1, 1024]⟩
abbrev S512x1024 : Shape := ⟨2, ![512, 1024]⟩
abbrev S1x16x1024 : Shape := ⟨3, ![1, 16, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 20
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S16x9216, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024x1024, .f32⟩
  | .hbm, ⟨8, _⟩ => ⟨S1024, .f32⟩
  | .hbm, ⟨9, _⟩ => ⟨S16x9x1024, .f32⟩
  | .hbm, ⟨10, _⟩ => ⟨S_, .i32⟩
  | .hbm, ⟨11, _⟩ => ⟨S_, .f32⟩
  | .hbm, ⟨12, _⟩ => ⟨S16x16x1024, .f32⟩
  | .hbm, ⟨13, _⟩ => ⟨S1x1024, .f32⟩
  | .hbm, ⟨14, _⟩ => ⟨S1024x2816, .bf16⟩
  | .hbm, ⟨15, _⟩ => ⟨S1024x2816, .bf16⟩
  | .hbm, ⟨16, _⟩ => ⟨S2816x1024, .bf16⟩
  | .hbm, ⟨17, _⟩ => ⟨S1024x1024, .bf16⟩
  | .hbm, ⟨18, _⟩ => ⟨S1x1024, .f32⟩
  | .hbm, ⟨19, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x16x1024, .f32⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnRefIdeal.lean ====
abbrev S8192x1024 : Shape := ⟨2, ![8192, 1024]⟩
abbrev S16x9216 : Shape := ⟨2, ![16, 9216]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S1x9216 : Shape := ⟨2, ![1, 9216]⟩
abbrev S1x1x9216 : Shape := ⟨3, ![1, 1, 9216]⟩
abbrev S1x1x1024 : Shape := ⟨3, ![1, 1, 1024]⟩
abbrev S32x256x1024 : Shape := ⟨3, ![32, 256, 1024]⟩
abbrev S_ : Shape := ⟨0, ![]⟩
abbrev S32x256 : Shape := ⟨2, ![32, 256]⟩
abbrev S32x256x1 : Shape := ⟨3, ![32, 256, 1]⟩
abbrev S32x256x2816 : Shape := ⟨3, ![32, 256, 2816]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S16x9216, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024x1024, .f32⟩
  | .hbm, ⟨8, _⟩ => ⟨S1024, .f32⟩
  | .hbm, ⟨9, _⟩ => ⟨S1x9216, .f32⟩
  | .hbm, ⟨10, _⟩ => ⟨S1x1x9216, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x1x1024, .f32⟩
  | .hbm, ⟨17, _⟩ => ⟨S1x1x1024, .f32⟩
  | .hbm, ⟨18, _⟩ => ⟨S1x1x1024, .f32⟩
  | .hbm, ⟨19, _⟩ => ⟨S1x1x1024, .f32⟩
  | .hbm, ⟨20, _⟩ => ⟨S32x256x1024, .f32⟩
  | .hbm, ⟨21, _⟩ => ⟨S8192x1024, .f32⟩
  | .hbm, ⟨22, _⟩ => ⟨S32x256x1024, .f32⟩
  | .hbm, ⟨23, _⟩ => ⟨S32x256x1024, .f32⟩
  | .hbm, ⟨24, _⟩ => ⟨S32x256x1024, .f32⟩
  | .hbm, ⟨25, _⟩ => ⟨S32x256x1024, .f32⟩
  | .hbm, ⟨26, _⟩ => ⟨S32x256x1024, .f32⟩
  | .hbm, ⟨27, _⟩ => ⟨S32x256x1024, .f32⟩
  | .hbm, ⟨28, _⟩ => ⟨S_, .f32⟩
  | .hbm, ⟨29, _⟩ => ⟨S32x256, .f32⟩
  | .hbm, ⟨30, _⟩ => ⟨S32x256x1, .f32⟩
  | .hbm, ⟨31, _⟩ => ⟨S_, .f32⟩
  | .hbm, ⟨32, _⟩ => ⟨S32x256x1, .f32⟩
  | .hbm, ⟨33, _⟩ => ⟨S32x256x1, .f32⟩
  | .hbm, ⟨34, _⟩ => ⟨S_, .f32⟩
  | .hbm, ⟨35, _⟩ => ⟨S32x256x1, .f32⟩
  | .hbm, ⟨36, _⟩ => ⟨S32x256x1, .f32⟩
  | .hbm, ⟨37, _⟩ => ⟨S32x256x1, .f32⟩
  | .hbm, ⟨38, _⟩ => ⟨S32x256x1024, .f32⟩
  | .hbm, ⟨39, _⟩ => ⟨S32x256x1024, .f32⟩
  | .hbm, ⟨40, _⟩ => ⟨S1x1x1024, .f32⟩
  | .hbm, ⟨41, _⟩ => ⟨S32x256x1024, .f32⟩
  | .hbm, ⟨42, _⟩ => ⟨S32x256x1024, .f32⟩
  | .hbm, ⟨43, _⟩ => ⟨S_, .f32⟩
  | .hbm, ⟨44, _⟩ => ⟨S1x1x1024, .f32⟩
  | .hbm, ⟨45, _⟩ => ⟨S1x1x1024, .f32⟩
  | .hbm, ⟨46, _⟩ => ⟨S32x256x1024, .f32⟩
  | .hbm, ⟨47, _⟩ => ⟨S32x256x1024, .f32⟩
  | .hbm, ⟨48, _⟩ => ⟨S32x256x1024, .f32⟩
  | .hbm, ⟨49, _⟩ => ⟨S32x256x1024, .f32⟩
  | .hbm, ⟨50, _⟩ => ⟨S32x256x2816, .f32⟩
  | .hbm, ⟨51, _⟩ => ⟨S32x256x2816, .f32⟩
  | .hbm, ⟨52, _⟩ => ⟨S32x256x2816, .f32⟩
  | .hbm, ⟨53, _⟩ => ⟨S_, .f32⟩
  | .hbm, ⟨54, _⟩ => ⟨S32x256x2816, .f32⟩
  | .hbm, ⟨55, _⟩ => ⟨S32x256x2816, .f32⟩
  | .hbm, ⟨56, _⟩ => ⟨S_, .f32⟩
  | .hbm, ⟨57, _⟩ => ⟨S32x256x2816, .f32⟩
  | .hbm, ⟨58, _⟩ => ⟨S32x256x2816, .f32⟩
  | .hbm, ⟨59, _⟩ => ⟨S32x256x2816, .f32⟩
  | .hbm, ⟨60, _⟩ => ⟨S32x256x2816, .f32⟩
  | .hbm, ⟨61, _⟩ => ⟨S32x256x2816, .f32⟩
  | .hbm, ⟨62, _⟩ => ⟨S32x256x1024, .f32⟩
  | .hbm, ⟨63, _⟩ => ⟨S_, .f32⟩
  | .hbm, ⟨64, _⟩ => ⟨S1x1x1024, .f32⟩
  | .hbm, ⟨65, _⟩ => ⟨S1x1x1024, .f32⟩
  | .hbm, ⟨66, _⟩ => ⟨S32x256x1024, .f32⟩
  | .hbm, ⟨67, _⟩ => ⟨S32x256x1024, .f32⟩
  | .hbm, ⟨68, _⟩ => ⟨S32x256x1024, .f32⟩
  | .hbm, ⟨69, _⟩ => ⟨S32x256x1024, .f32⟩
  | .hbm, ⟨70, _⟩ => ⟨S_, .f32⟩
  | .hbm, ⟨71, _⟩ => ⟨S32x256, .f32⟩
  | .hbm, ⟨72, _⟩ => ⟨S32x256x1, .f32⟩
  | .hbm, ⟨73, _⟩ => ⟨S_, .f32⟩
  | .hbm, ⟨74, _⟩ => ⟨S32x256x1, .f32⟩
  | .hbm, ⟨75, _⟩ => ⟨S32x256x1, .f32⟩
  | .hbm, ⟨76, _⟩ => ⟨S_, .f32⟩
  | .hbm, ⟨77, _⟩ => ⟨S32x256x1, .f32⟩
  | .hbm, ⟨78, _⟩ => ⟨S32x256x1, .f32⟩
  | .hbm, ⟨79, _⟩ => ⟨S32x256x1, .f32⟩
  | .hbm, ⟨80, _⟩ => ⟨S32x256x1024, .f32⟩
  | .hbm, ⟨81, _⟩ => ⟨S32x256x1024, .f32⟩
  | .hbm, ⟨82, _⟩ => ⟨S1x1x1024, .f32⟩
  | .hbm, ⟨83, _⟩ => ⟨S32x256x1024, .f32⟩
  | .hbm, ⟨84, _⟩ => ⟨S32x256x1024, .f32⟩
  | .hbm, ⟨85, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_4 : Ref sig .tc := ⟨.hbm, 70, rfl⟩
abbrev main_v48 : Ref sig .tc := ⟨.hbm, 71, rfl⟩
abbrev main_v49 : Ref sig .tc := ⟨.hbm, 72, rfl⟩
abbrev main_cst_5 : Ref sig .tc := ⟨.hbm, 73, rfl⟩
abbrev main_v50 : Ref sig .tc := ⟨.hbm, 74, rfl⟩
abbrev main_v51 : Ref sig .tc := ⟨.hbm, 75, rfl⟩
abbrev main_cst_6 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]
-- ==== FfnLat.lean ====
abbrev S16384x1024 : Shape := ⟨2, ![16384, 1024]⟩
abbrev S16x9216 : Shape := ⟨2, ![16, 9216]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S16x9x1024 : Shape := ⟨3, ![16, 9, 1024]⟩
abbrev S_ : Shape := ⟨0, ![]⟩
abbrev S16x16x1024 : Shape := ⟨3, ![16, 16, 1024]⟩
abbrev S1x1024 : Shape := ⟨2, ![1, 1024]⟩
abbrev S512x1024 : Shape := ⟨2, ![512, 1024]⟩
abbrev S1x16x1024 : Shape := ⟨3, ![1, 16, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 20
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16x9216, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024x1024, .f32⟩
  | .hbm, ⟨8, _⟩ => ⟨S1024, .f32⟩
  | .hbm, ⟨9, _⟩ => ⟨S16x9x1024, .f32⟩
  | .hbm, ⟨10, _⟩ => ⟨S_, .i32⟩
  | .hbm, ⟨11, _⟩ => ⟨S_, .f32⟩
  | .hbm, ⟨12, _⟩ => ⟨S16x16x1024, .f32⟩
  | .hbm, ⟨13, _⟩ => ⟨S1x1024, .f32⟩
  | .hbm, ⟨14, _⟩ => ⟨S1024x2816, .bf16⟩
  | .hbm, ⟨15, _⟩ => ⟨S1024x2816, .bf16⟩
  | .hbm, ⟨16, _⟩ => ⟨S2816x1024, .bf16⟩
  | .hbm, ⟨17, _⟩ => ⟨S1024x1024, .bf16⟩
  | .hbm, ⟨18, _⟩ => ⟨S1x1024, .f32⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x16x1024, .f32⟩
  | .local _ .vmem, ⟨6, _⟩ => ⟨S1x16x1024, .f32⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnLatRefIdeal.lean ====
abbrev S16384x1024 : Shape := ⟨2, ![16384, 1024]⟩
abbrev S16x9216 : Shape := ⟨2, ![16, 9216]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S8x9216 : Shape := ⟨2, ![8, 9216]⟩
abbrev S8x1x9216 : Shape := ⟨3, ![8, 1, 9216]⟩
abbrev S8x1x1024 : Shape := ⟨3, ![8, 1, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩

abbrev nBuf : Space → Nat
  | .hbm => 86
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16x9216, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024x1024, .f32⟩
  | .hbm, ⟨8, _⟩ => ⟨S1024, .f32⟩
  | .hbm, ⟨9, _⟩ => ⟨S8x9216, .f32⟩
  | .hbm, ⟨10, _⟩ => ⟨S8x1x9216, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x2048x1024, .f32⟩
  | .hbm, ⟨21, _⟩ => ⟨S16384x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S8x2048x1, .f32⟩
  | .hbm, ⟨38, _⟩ => ⟨S8x2048x1024, .f32⟩
  | .hbm, ⟨39, _⟩ => ⟨S8x2048x1024, .f32⟩
  | .hbm, ⟨40, _⟩ => ⟨S1x1x1024, .f32⟩
  | .hbm, ⟨41, _⟩ => ⟨S8x2048x1024, .f32⟩
  | .hbm, ⟨42, _⟩ => ⟨S8x2048x1024, .f32⟩
  | .hbm, ⟨43, _⟩ => ⟨S_, .f32⟩
  | .hbm, ⟨44, _⟩ => ⟨S8x1x1024, .f32⟩
  | .hbm, ⟨45, _⟩ => ⟨S8x1x1024, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | .hbm, ⟨50, _⟩ => ⟨S8x2048x2816, .f32⟩
  | .hbm, ⟨51, _⟩ => ⟨S8x2048x2816, .f32⟩
  | .hbm, ⟨52, _⟩ => ⟨S8x2048x2816, .f32⟩
  | .hbm, ⟨53, _⟩ => ⟨S_, .f32⟩
  | .hbm, ⟨54, _⟩ => ⟨S8x2048x2816, .f32⟩
  | .hbm, ⟨55, _⟩ => ⟨S8x2048x2816, .f32⟩
  | .hbm, ⟨56, _⟩ => ⟨S_, .f32⟩
  | .hbm, ⟨57, _⟩ => ⟨S8x2048x2816, .f32⟩
  | .hbm, ⟨58, _⟩ => ⟨S8x2048x2816, .f32⟩
  | .hbm, ⟨59, _⟩ => ⟨S8x2048x2816, .f32⟩
  | .hbm, ⟨60, _⟩ => ⟨S8x2048x2816, .f32⟩
  | .hbm, ⟨61, _⟩ => ⟨S8x2048x2816, .f32⟩
  | .hbm, ⟨62, _⟩ => ⟨S8x2048x1024, .f32⟩
  | .hbm, ⟨63, _⟩ => ⟨S_, .f32⟩
  | .hbm, ⟨64, _⟩ => ⟨S8x1x1024, .f32⟩
  | .hbm, ⟨65, _⟩ => ⟨S8x1x1024, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S8x2048x1024, .f32⟩
  | .hbm, ⟨70, _⟩ => ⟨S_, .f32⟩
  | .hbm, ⟨71, _⟩ => ⟨S8x2048, .f32⟩
  | .hbm, ⟨72, _⟩ => ⟨S8x2048x1, .f32⟩
  | .hbm, ⟨73, _⟩ => ⟨S_, .f32⟩
  | .hbm, ⟨74, _⟩ => ⟨S8x2048x1, .f32⟩
  | .hbm, ⟨75, _⟩ => ⟨S8x2048x1, .f32⟩
  | .hbm, ⟨76, _⟩ => ⟨S_, .f32⟩
  | .hbm, ⟨77, _⟩ => ⟨S8x2048x1, .f32⟩
  | .hbm, ⟨78, _⟩ => ⟨S8x2048x1, .f32⟩
  | .hbm, ⟨79, _⟩ => ⟨S8x2048x1, .f32⟩
  | .hbm, ⟨80, _⟩ => ⟨S8x2048x1024, .f32⟩
  | .hbm, ⟨81, _⟩ => ⟨S8x2048x1024, .f32⟩
  | .hbm, ⟨82, _⟩ => ⟨S1x1x1024, .f32⟩
  | .hbm, ⟨83, _⟩ => ⟨S8x2048x1024, .f32⟩
  | .hbm, ⟨84, _⟩ => ⟨S8x2048x1024, .f32⟩
  | .hbm, ⟨85, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_4 : Ref sig .tc := ⟨.hbm, 70, rfl⟩
abbrev main_v48 : Ref sig .tc := ⟨.hbm, 71, rfl⟩
abbrev main_v49 : Ref sig .tc := ⟨.hbm, 72, rfl⟩
abbrev main_cst_5 : Ref sig .tc := ⟨.hbm, 73, rfl⟩
abbrev main_v50 : Ref sig .tc := ⟨.hbm, 74, rfl⟩
abbrev main_v51 : Ref sig .tc := ⟨.hbm, 75, rfl⟩
abbrev main_cst_6 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]
-- ==== FfnFirst.lean ====
abbrev S8192x1024 : Shape := ⟨2, ![8192, 1024]⟩
abbrev S16x9216 : Shape := ⟨2, ![16, 9216]⟩
abbrev S1024 : Shape := ⟨1, ![1024]⟩
abbrev S1024x2816 : Shape := ⟨2, ![1024, 2816]⟩
abbrev S2816x1024 : Shape := ⟨2, ![2816, 1024]⟩
abbrev S16x9x1024 : Shape := ⟨3, ![16, 9, 1024]⟩
abbrev S_ : Shape := ⟨0, ![]⟩
abbrev S16x16x1024 : Shape := ⟨3, ![16, 16, 1024]⟩
abbrev S1x1024 : Shape := ⟨2, ![1, 1024]⟩
abbrev S512x1024 : Shape := ⟨2, ![512, 1024]⟩
abbrev S1x16x1024 : Shape := ⟨3, ![1, 16, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 15
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S16x9216, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16x9x1024, .f32⟩
  | .hbm, ⟨7, _⟩ => ⟨S_, .i32⟩
  | .hbm, ⟨8, _⟩ => ⟨S_, .f32⟩
  | .hbm, ⟨9, _⟩ => ⟨S16x16x1024, .f32⟩
  | .hbm, ⟨10, _⟩ => ⟨S1x1024, .f32⟩
  | .hbm, ⟨11, _⟩ => ⟨S1024x2816, .bf16⟩
  | .hbm, ⟨12, _⟩ => ⟨S1024x2816, .bf16⟩
  | .hbm, ⟨13, _⟩ => ⟨S2816x1024, .bf16⟩
  | .hbm, ⟨14, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x16x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnFirstRefIdeal.lean ====
abbrev S8192x1024 : Shape := ⟨2, ![8192, 1024]⟩
abbrev S16x9216 : Shape := ⟨2, ![16, 9216]⟩
abbrev S1024 : Shape := ⟨1, ![1024]⟩
abbrev S1024x2816 : Shape := ⟨2, ![1024, 2816]⟩
abbrev S2816x1024 : Shape := ⟨2, ![2816, 1024]⟩
abbrev S1x9216 : Shape := ⟨2, ![1, 9216]⟩
abbrev S1x1x9216 : Shape := ⟨3, ![1, 1, 9216]⟩
abbrev S1x1x1024 : Shape := ⟨3, ![1, 1, 1024]⟩
abbrev S32x256x1024 : Shape := ⟨3, ![32, 256, 1024]⟩
abbrev S_ : Shape := ⟨0, ![]⟩
abbrev S32x256 : Shape := ⟨2, ![32, 256]⟩
abbrev S32x256x1 : Shape := ⟨3, ![32, 256, 1]⟩
abbrev S32x256x2816 : Shape := ⟨3, ![32, 256, 2816]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16x9216, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x9216, .f32⟩
  | .hbm, ⟨7, _⟩ => ⟨S1x1x9216, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x1x1024, .f32⟩
  | .hbm, ⟨17, _⟩ => ⟨S32x256x1024, .f32⟩
  | .hbm, ⟨18, _⟩ => ⟨S32x256x1024, .f32⟩
  | .hbm, ⟨19, _⟩ => ⟨S_, .f32⟩
  | .hbm, ⟨20, _⟩ => ⟨S32x256, .f32⟩
  | .hbm, ⟨21, _⟩ => ⟨S32x256x1, .f32⟩
  | .hbm, ⟨22, _⟩ => ⟨S_, .f32⟩
  | .hbm, ⟨23, _⟩ => ⟨S32x256x1, .f32⟩
  | .hbm, ⟨24, _⟩ => ⟨S32x256x1, .f32⟩
  | .hbm, ⟨25, _⟩ => ⟨S_, .f32⟩
  | .hbm, ⟨26, _⟩ => ⟨S32x256x1, .f32⟩
  | .hbm, ⟨27, _⟩ => ⟨S32x256x1, .f32⟩
  | .hbm, ⟨28, _⟩ => ⟨S32x256x1, .f32⟩
  | .hbm, ⟨29, _⟩ => ⟨S32x256x1024, .f32⟩
  | .hbm, ⟨30, _⟩ => ⟨S32x256x1024, .f32⟩
  | .hbm, ⟨31, _⟩ => ⟨S1x1x1024, .f32⟩
  | .hbm, ⟨32, _⟩ => ⟨S32x256x1024, .f32⟩
  | .hbm, ⟨33, _⟩ => ⟨S32x256x1024, .f32⟩
  | .hbm, ⟨34, _⟩ => ⟨S_, .f32⟩
  | .hbm, ⟨35, _⟩ => ⟨S1x1x1024, .f32⟩
  | .hbm, ⟨36, _⟩ => ⟨S1x1x1024, .f32⟩
  | .hbm, ⟨37, _⟩ => ⟨S32x256x1024, .f32⟩
  | .hbm, ⟨38, _⟩ => ⟨S32x256x1024, .f32⟩
  | .hbm, ⟨39, _⟩ => ⟨S32x256x1024, .f32⟩
  | .hbm, ⟨40, _⟩ => ⟨S32x256x1024, .f32⟩
  | .hbm, ⟨41, _⟩ => ⟨S32x256x2816, .f32⟩
  | .hbm, ⟨42, _⟩ => ⟨S32x256x2816, .f32⟩
  | .hbm, ⟨43, _⟩ => ⟨S32x256x2816, .f32⟩
  | .hbm, ⟨44, _⟩ => ⟨S_, .f32⟩
  | .hbm, ⟨45, _⟩ => ⟨S32x256x2816, .f32⟩
  | .hbm, ⟨46, _⟩ => ⟨S32x256x2816, .f32⟩
  | .hbm, ⟨47, _⟩ => ⟨S_, .f32⟩
  | .hbm, ⟨48, _⟩ => ⟨S32x256x2816, .f32⟩
  | .hbm, ⟨49, _⟩ => ⟨S32x256x2816, .f32⟩
  | .hbm, ⟨50, _⟩ => ⟨S32x256x2816, .f32⟩
  | .hbm, ⟨51, _⟩ => ⟨S32x256x2816, .f32⟩
  | .hbm, ⟨52, _⟩ => ⟨S32x256x2816, .f32⟩
  | .hbm, ⟨53, _⟩ => ⟨S32x256x1024, .f32⟩
  | .hbm, ⟨54, _⟩ => ⟨S_, .f32⟩
  | .hbm, ⟨55, _⟩ => ⟨S1x1x1024, .f32⟩
  | .hbm, ⟨56, _⟩ => ⟨S1x1x1024, .f32⟩
  | .hbm, ⟨57, _⟩ => ⟨S32x256x1024, .f32⟩
  | .hbm, ⟨58, _⟩ => ⟨S32x256x1024, .f32⟩
  | .hbm, ⟨59, _⟩ => ⟨S32x256x1024, .f32⟩
  | .hbm, ⟨60, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== FfnMid.lean ====
abbrev S8192x1024 : Shape := ⟨2, ![8192, 1024]⟩
abbrev S8192x512 : Shape := ⟨2, ![8192, 512]⟩
abbrev S16x9216 : Shape := ⟨2, ![16, 9216]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S16x9x1024 : Shape := ⟨3, ![16, 9, 1024]⟩
abbrev S_ : Shape := ⟨0, ![]⟩
abbrev S16x16x1024 : Shape := ⟨3, ![16, 16, 1024]⟩
abbrev S1x1024 : Shape := ⟨2, ![1, 1024]⟩
abbrev S512x1024 : Shape := ⟨2, ![512, 1024]⟩
abbrev S512x512 : Shape := ⟨2, ![512, 512]⟩
abbrev S1x16x1024 : Shape := ⟨3, ![1, 16, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 19
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S16x9216, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x1024, .f32⟩
  | .hbm, ⟨9, _⟩ => ⟨S16x9x1024, .f32⟩
  | .hbm, ⟨10, _⟩ => ⟨S_, .i32⟩
  | .hbm, ⟨11, _⟩ => ⟨S_, .f32⟩
  | .hbm, ⟨12, _⟩ => ⟨S16x16x1024, .f32⟩
  | .hbm, ⟨13, _⟩ => ⟨S1x1024, .f32⟩
  | .hbm, ⟨14, _⟩ => ⟨S1024x2816, .bf16⟩
  | .hbm, ⟨15, _⟩ => ⟨S1024x2816, .bf16⟩
  | .hbm, ⟨16, _⟩ => ⟨S2816x1024, .bf16⟩
  | .hbm, ⟨17, _⟩ => ⟨S1024x1024, .bf16⟩
  | .hbm, ⟨18, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x16x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnMidRefIdeal.lean ====
abbrev S8192x1024 : Shape := ⟨2, ![8192, 1024]⟩
abbrev S8192x512 : Shape := ⟨2, ![8192, 512]⟩
abbrev S16x9216 : Shape := ⟨2, ![16, 9216]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S1x9216 : Shape := ⟨2, ![1, 9216]⟩
abbrev S1x1x9216 : Shape := ⟨3, ![1, 1, 9216]⟩
abbrev S1x1x1024 : Shape := ⟨3, ![1, 1, 1024]⟩
abbrev S32x256x1024 : Shape := ⟨3, ![32, 256, 1024]⟩
abbrev S32x256x512 : Shape := ⟨3, ![32, 256, 512]⟩
abbrev S_ : Shape := ⟨0, ![]⟩
abbrev S32x256 : Shape := ⟨2, ![32, 256]⟩
abbrev S32x256x1 : Shape := ⟨3, ![32, 256, 1]⟩
abbrev S32x256x2816 : Shape := ⟨3, ![32, 256, 2816]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S16x9216, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x1024, .f32⟩
  | .hbm, ⟨9, _⟩ => ⟨S1x9216, .f32⟩
  | .hbm, ⟨10, _⟩ => ⟨S1x1x9216, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x1x1024, .f32⟩
  | .hbm, ⟨17, _⟩ => ⟨S1x1x1024, .f32⟩
  | .hbm, ⟨18, _⟩ => ⟨S1x1x1024, .f32⟩
  | .hbm, ⟨19, _⟩ => ⟨S1x1x1024, .f32⟩
  | .hbm, ⟨20, _⟩ => ⟨S32x256x1024, .f32⟩
  | .hbm, ⟨21, _⟩ => ⟨S8192x512, .f32⟩
  | .hbm, ⟨22, _⟩ => ⟨S32x256x512, .f32⟩
  | .hbm, ⟨23, _⟩ => ⟨S8192x512, .f32⟩
  | .hbm, ⟨24, _⟩ => ⟨S32x256x512, .f32⟩
  | .hbm, ⟨25, _⟩ => ⟨S32x256x1024, .f32⟩
  | .hbm, ⟨26, _⟩ => ⟨S32x256x1024, .f32⟩
  | .hbm, ⟨27, _⟩ => ⟨S32x256x1024, .f32⟩
  | .hbm, ⟨28, _⟩ => ⟨S32x256x1024, .f32⟩
  | .hbm, ⟨29, _⟩ => ⟨S32x256x1024, .f32⟩
  | .hbm, ⟨30, _⟩ => ⟨S32x256x1024, .f32⟩
  | .hbm, ⟨31, _⟩ => ⟨S_, .f32⟩
  | .hbm, ⟨32, _⟩ => ⟨S32x256, .f32⟩
  | .hbm, ⟨33, _⟩ => ⟨S32x256x1, .f32⟩
  | .hbm, ⟨34, _⟩ => ⟨S_, .f32⟩
  | .hbm, ⟨35, _⟩ => ⟨S32x256x1, .f32⟩
  | .hbm, ⟨36, _⟩ => ⟨S32x256x1, .f32⟩
  | .hbm, ⟨37, _⟩ => ⟨S_, .f32⟩
  | .hbm, ⟨38, _⟩ => ⟨S32x256x1, .f32⟩
  | .hbm, ⟨39, _⟩ => ⟨S32x256x1, .f32⟩
  | .hbm, ⟨40, _⟩ => ⟨S32x256x1, .f32⟩
  | .hbm, ⟨41, _⟩ => ⟨S32x256x1024, .f32⟩
  | .hbm, ⟨42, _⟩ => ⟨S32x256x1024, .f32⟩
  | .hbm, ⟨43, _⟩ => ⟨S1x1x1024, .f32⟩
  | .hbm, ⟨44, _⟩ => ⟨S32x256x1024, .f32⟩
  | .hbm, ⟨45, _⟩ => ⟨S32x256x1024, .f32⟩
  | .hbm, ⟨46, _⟩ => ⟨S_, .f32⟩
  | .hbm, ⟨47, _⟩ => ⟨S1x1x1024, .f32⟩
  | .hbm, ⟨48, _⟩ => ⟨S1x1x1024, .f32⟩
  | .hbm, ⟨49, _⟩ => ⟨S32x256x1024, .f32⟩
  | .hbm, ⟨50, _⟩ => ⟨S32x256x1024, .f32⟩
  | .hbm, ⟨51, _⟩ => ⟨S32x256x1024, .f32⟩
  | .hbm, ⟨52, _⟩ => ⟨S32x256x1024, .f32⟩
  | .hbm, ⟨53, _⟩ => ⟨S32x256x2816, .f32⟩
  | .hbm, ⟨54, _⟩ => ⟨S32x256x2816, .f32⟩
  | .hbm, ⟨55, _⟩ => ⟨S32x256x2816, .f32⟩
  | .hbm, ⟨56, _⟩ => ⟨S_, .f32⟩
  | .hbm, ⟨57, _⟩ => ⟨S32x256x2816, .f32⟩
  | .hbm, ⟨58, _⟩ => ⟨S32x256x2816, .f32⟩
  | .hbm, ⟨59, _⟩ => ⟨S_, .f32⟩
  | .hbm, ⟨60, _⟩ => ⟨S32x256x2816, .f32⟩
  | .hbm, ⟨61, _⟩ => ⟨S32x256x2816, .f32⟩
  | .hbm, ⟨62, _⟩ => ⟨S32x256x2816, .f32⟩
  | .hbm, ⟨63, _⟩ => ⟨S32x256x2816, .f32⟩
  | .hbm, ⟨64, _⟩ => ⟨S32x256x2816, .f32⟩
  | .hbm, ⟨65, _⟩ => ⟨S32x256x1024, .f32⟩
  | .hbm, ⟨66, _⟩ => ⟨S_, .f32⟩
  | .hbm, ⟨67, _⟩ => ⟨S1x1x1024, .f32⟩
  | .hbm, ⟨68, _⟩ => ⟨S1x1x1024, .f32⟩
  | .hbm, ⟨69, _⟩ => ⟨S32x256x1024, .f32⟩
  | .hbm, ⟨70, _⟩ => ⟨S32x256x1024, .f32⟩
  | .hbm, ⟨71, _⟩ => ⟨S32x256x1024, .f32⟩
  | .hbm, ⟨72, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_3 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩

abbrev nD : Nat := 1
abbrev τ : Topo := Topo.v7x

variable {F : FTy → Type} [FloatOps F]
-- ==== Proj.lean ====
abbrev S8192x1024 : Shape := ⟨2, ![8192, 1024]⟩
abbrev S16x9216 : Shape := ⟨2, ![16, 9216]⟩
abbrev S1024 : Shape := ⟨1, ![1024]⟩
abbrev S1024x1536 : Shape := ⟨2, ![1024, 1536]⟩
abbrev S16x9x1024 : Shape := ⟨3, ![16, 9, 1024]⟩
abbrev S_ : Shape := ⟨0, ![]⟩
abbrev S16x16x1024 : Shape := ⟨3, ![16, 16, 1024]⟩
abbrev S1x1024 : Shape := ⟨2, ![1, 1024]⟩
abbrev S8192x256 : Shape := ⟨2, ![8192, 256]⟩
abbrev S512x1024 : Shape := ⟨2, ![512, 1024]⟩
abbrev S1x16x1024 : Shape := ⟨3, ![1, 16, 1024]⟩
abbrev S512x256 : Shape := ⟨2, ![512, 256]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x128 : Shape := ⟨2, ![512, 128]⟩

abbrev nBuf : Space → Nat
  | .hbm => 13
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S16x9216, .f32⟩
  | .hbm, ⟨2, _⟩ => ⟨S1024, .f32⟩
  | .hbm, ⟨3, _⟩ => ⟨S1024x1536, .f32⟩
  | .hbm, ⟨4, _⟩ => ⟨S16x9x1024, .f32⟩
  | .hbm, ⟨5, _⟩ => ⟨S_, .i32⟩
  | .hbm, ⟨6, _⟩ => ⟨S_, .f32⟩
  | .hbm, ⟨7, _⟩ => ⟨S16x16x1024, .f32⟩
  | .hbm, ⟨8, _⟩ => ⟨S1x1024, .f32⟩
  | .hbm, ⟨9, _⟩ => ⟨S1024x1536, .bf16⟩
  | .hbm, ⟨10, _⟩ => ⟨S8192x1024, .bf16⟩
  | .hbm, ⟨11, _⟩ => ⟨S8192x256, .f32⟩
  | .hbm, ⟨12, _⟩ => ⟨S8192x256, .f32⟩
  | .local _ .vmem, ⟨0, _⟩ => ⟨S512x1024, .f32⟩
  | .local _ .vmem, ⟨1, _⟩ => ⟨S512x1024, .f32⟩
  | .local _ .vmem, ⟨2, _⟩ => ⟨S1x16x1024, .f32⟩
  | .local _ .vmem, ⟨3, _⟩ => ⟨S1x1024, .f32⟩
  | .local _ .vmem, ⟨4, _⟩ => ⟨S1024x1536, .bf16⟩
  | .local _ .vmem, ⟨5, _⟩ => ⟨S512x1024, .bf16⟩
  | .local _ .vmem, ⟨6, _⟩ => ⟨S512x1024, .bf16⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjRefIdeal.lean ====
abbrev S8192x1024 : Shape := ⟨2, ![8192, 1024]⟩
abbrev S16x9216 : Shape := ⟨2, ![16, 9216]⟩
abbrev S1024 : Shape := ⟨1, ![1024]⟩
abbrev S1024x1536 : Shape := ⟨2, ![1024, 1536]⟩
abbrev S1x9216 : Shape := ⟨2, ![1, 9216]⟩
abbrev S1x1x9216 : Shape := ⟨3, ![1, 1, 9216]⟩
abbrev S1x1x1024 : Shape := ⟨3, ![1, 1, 1024]⟩
abbrev S32x256x1024 : Shape := ⟨3, ![32, 256, 1024]⟩
abbrev S_ : Shape := ⟨0, ![]⟩
abbrev S32x256 : Shape := ⟨2, ![32, 256]⟩
abbrev S32x256x1 : Shape := ⟨3, ![32, 256, 1]⟩
abbrev S32x256x1536 : Shape := ⟨3, ![32, 256, 1536]⟩
abbrev S32x256x256 : Shape := ⟨3, ![32, 256, 256]⟩
abbrev S8192x256 : Shape := ⟨2, ![8192, 256]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16x9216, .f32⟩
  | .hbm, ⟨2, _⟩ => ⟨S1024, .f32⟩
  | .hbm, ⟨3, _⟩ => ⟨S1024x1536, .f32⟩
  | .hbm, ⟨4, _⟩ => ⟨S1x9216, .f32⟩
  | .hbm, ⟨5, _⟩ => ⟨S1x1x9216, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S32x256x1024, .f32⟩
  | .hbm, ⟨16, _⟩ => ⟨S32x256x1024, .f32⟩
  | .hbm, ⟨17, _⟩ => ⟨S_, .f32⟩
  | .hbm, ⟨18, _⟩ => ⟨S32x256, .f32⟩
  | .hbm, ⟨19, _⟩ => ⟨S32x256x1, .f32⟩
  | .hbm, ⟨20, _⟩ => ⟨S_, .f32⟩
  | .hbm, ⟨21, _⟩ => ⟨S32x256x1, .f32⟩
  | .hbm, ⟨22, _⟩ => ⟨S32x256x1, .f32⟩
  | .hbm, ⟨23, _⟩ => ⟨S_, .f32⟩
  | .hbm, ⟨24, _⟩ => ⟨S32x256x1, .f32⟩
  | .hbm, ⟨25, _⟩ => ⟨S32x256x1, .f32⟩
  | .hbm, ⟨26, _⟩ => ⟨S32x256x1, .f32⟩
  | .hbm, ⟨27, _⟩ => ⟨S32x256x1024, .f32⟩
  | .hbm, ⟨28, _⟩ => ⟨S32x256x1024, .f32⟩
  | .hbm, ⟨29, _⟩ => ⟨S1x1x1024, .f32⟩
  | .hbm, ⟨30, _⟩ => ⟨S32x256x1024, .f32⟩
  | .hbm, ⟨31, _⟩ => ⟨S32x256x1024, .f32⟩
  | .hbm, ⟨32, _⟩ => ⟨S_, .f32⟩
  | .hbm, ⟨33, _⟩ => ⟨S1x1x1024, .f32⟩
  | .hbm, ⟨34, _⟩ => ⟨S1x1x1024, .f32⟩
  | .hbm, ⟨35, _⟩ => ⟨S32x256x1024, .f32⟩
  | .hbm, ⟨36, _⟩ => ⟨S32x256x1024, .f32⟩
  | .hbm, ⟨37, _⟩ => ⟨S32x256x1024, .f32⟩
  | .hbm, ⟨38, _⟩ => ⟨S32x256x1024, .f32⟩
  | .hbm, ⟨39, _⟩ => ⟨S32x256x1536, .f32⟩
  | .hbm, ⟨40, _⟩ => ⟨S32x256x1024, .f32⟩
  | .hbm, ⟨41, _⟩ => ⟨S32x256x256, .f32⟩
  | .hbm, ⟨42, _⟩ => ⟨S32x256x256, .f32⟩
  | .hbm, ⟨43, _⟩ => ⟨S_, .f32⟩
  | .hbm, ⟨44, _⟩ => ⟨S32x256x1024, .f32⟩
  | .hbm, ⟨45, _⟩ => ⟨S32x256x1024, .f32⟩
  | .hbm, ⟨46, _⟩ => ⟨S8192x1024, .f32⟩
  | .hbm, ⟨47, _⟩ => ⟨S8192x1024, .bf16⟩
  | .hbm, ⟨48, _⟩ => ⟨S8192x256, .f32⟩
  | .hbm, ⟨49, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== In.lean ====
abbrev S8192x1024 : Shape := ⟨2, ![8192, 1024]⟩
abbrev S16x9216 : Shape := ⟨2, ![16, 9216]⟩
abbrev S1024 : Shape := ⟨1, ![1024]⟩
abbrev S1024x2080 : Shape := ⟨2, ![1024, 2080]⟩
abbrev S16x256 : Shape := ⟨2, ![16, 256]⟩
abbrev S256 : Shape := ⟨1, ![256]⟩
abbrev S1024x1536 : Shape := ⟨2, ![1024, 1536]⟩
abbrev S1024x512 : Shape := ⟨2, ![1024, 512]⟩
abbrev S1024x2048 : Shape := ⟨2, ![1024, 2048]⟩
abbrev S1024x32 : Shape := ⟨2, ![1024, 32]⟩
abbrev S_ : Shape := ⟨0, ![]⟩
abbrev S1024x128 : Shape := ⟨2, ![1024, 128]⟩
abbrev S128x512 : Shape := ⟨2, ![128, 512]⟩
abbrev S1 : Shape := ⟨1, ![1]⟩
abbrev S2 : Shape := ⟨1, ![2]⟩
abbrev S512 : Shape := ⟨1, ![512]⟩
abbrev S1x512 : Shape := ⟨2, ![1, 512]⟩
abbrev S16x9x1024 : Shape := ⟨3, ![16, 9, 1024]⟩
abbrev S16x16x1024 : Shape := ⟨3, ![16, 16, 1024]⟩
abbrev S1x1024 : Shape := ⟨2, ![1, 1024]⟩
abbrev S8192x256 : Shape := ⟨2, ![8192, 256]⟩
abbrev S8192x512 : Shape := ⟨2, ![8192, 512]⟩
abbrev S512x1024 : Shape := ⟨2, ![512, 1024]⟩
abbrev S1x16x1024 : Shape := ⟨3, ![1, 16, 1024]⟩
abbrev S512x256 : Shape := ⟨2, ![512, 256]⟩
abbrev S512x512 : Shape := ⟨2, ![512, 512]⟩
abbrev S1x1x1024 : Shape := ⟨3, ![1, 1, 1024]⟩
abbrev S512x1 : Shape := ⟨2, ![512, 1]⟩
abbrev S1024x256 : Shape := ⟨2, ![1024, 256]⟩
abbrev S512x128 : Shape := ⟨2, ![512, 128]⟩

abbrev nBuf : Space → Nat
  | .hbm => 45
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S16x9216, .f32⟩
  | .hbm, ⟨2, _⟩ => ⟨S1024, .f32⟩
  | .hbm, ⟨3, _⟩ => ⟨S1024x2080, .f32⟩
  | .hbm, ⟨4, _⟩ => ⟨S16x256, .f32⟩
  | .hbm, ⟨5, _⟩ => ⟨S256, .f32⟩
  | .hbm, ⟨6, _⟩ => ⟨S16x256, .f32⟩
  | .hbm, ⟨7, _⟩ => ⟨S256, .f32⟩
  | .hbm, ⟨8, _⟩ => ⟨S1024x1536, .f32⟩
  | .hbm, ⟨9, _⟩ => ⟨S1024x512, .f32⟩
  | .hbm, ⟨10, _⟩ => ⟨S1024x2048, .f32⟩
  | .hbm, ⟨11, _⟩ => ⟨S1024x2048, .bf16⟩
  | .hbm, ⟨12, _⟩ => ⟨S1024x32, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S_, .f32⟩
  | .hbm, ⟨18, _⟩ => ⟨S128x512, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S128x512, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S128x512, .f32⟩
  | .hbm, ⟨31, _⟩ => ⟨S128x512, .bf16⟩
  | .hbm, ⟨32, _⟩ => ⟨S512, .f32⟩
  | .hbm, ⟨33, _⟩ => ⟨S1x512, .f32⟩
  | .hbm, ⟨34, _⟩ => ⟨S16x9x1024, .f32⟩
  | .hbm, ⟨35, _⟩ => ⟨S_, .i32⟩
  | .hbm, ⟨36, _⟩ => ⟨S_, .f32⟩
  | .hbm, ⟨37, _⟩ => ⟨S16x16x1024, .f32⟩
  | .hbm, ⟨38, _⟩ => ⟨S1x1024, .f32⟩
  | .hbm, ⟨39, _⟩ => ⟨S8192x256, .f32⟩
  | .hbm, ⟨40, _⟩ => ⟨S8192x256, .f32⟩
  | .hbm, ⟨41, _⟩ => ⟨S8192x512, .bf16⟩
  | .hbm, ⟨42, _⟩ => ⟨S8192x512, .f32⟩
  | .hbm, ⟨43, _⟩ => ⟨S8192x512, .f32⟩
  | .hbm, ⟨44, _⟩ => ⟨S8192x512, .bf16⟩
  | .local _ .vmem, ⟨0, _⟩ => ⟨S512x1024, .f32⟩
  | .local _ .vmem, ⟨1, _⟩ => ⟨S512x1024, .f32⟩
  | .local _ .vmem, ⟨2, _⟩ => ⟨S1x16x1024, .f32⟩
  | .local _ .vmem, ⟨3, _⟩ => ⟨S1x1024, .f32⟩
  | .local _ .vmem, ⟨4, _⟩ => ⟨S1024x2048, .bf16⟩
  | .local _ .vmem, ⟨5, _⟩ => ⟨S1024x128, .bf16⟩
  | .local _ .vmem, ⟨6, _⟩ => ⟨S128x512, .bf16⟩
  | .local _ .vmem, ⟨7, _⟩ => ⟨S1x512, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .bf16⟩
  | .local _ .vmem, ⟨19, _⟩ => ⟨S512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_call1_v0 : Ref sig .tc := ⟨.hbm, 36, rfl⟩
abbrev main_v20 : Ref sig .tc := ⟨.hbm, 37, rfl⟩
abbrev main_v21 : Ref sig .tc := ⟨.hbm, 38, rfl⟩
abbrev main_v22_0 : Ref sig .tc := ⟨.hbm, 39, rfl⟩
abbrev main_v22_1 : Ref sig .tc := ⟨.hbm, 40, rfl⟩
abbrev main_v22_2 : Ref sig .tc := ⟨.hbm, 41, rfl⟩
abbrev main_v22_3 : Ref sig .tc := ⟨.hbm, 42, rfl⟩
abbrev main_v22_4 : Ref sig .tc := ⟨.hbm, 43, rfl⟩
abbrev main_v22_5 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InRefIdeal.lean ====
abbrev S8192x1024 : Shape := ⟨2, ![8192, 1024]⟩
abbrev S16x9216 : Shape := ⟨2, ![16, 9216]⟩
abbrev S1024 : Shape := ⟨1, ![1024]⟩
abbrev S1024x2080 : Shape := ⟨2, ![1024, 2080]⟩
abbrev S16x256 : Shape := ⟨2, ![16, 256]⟩
abbrev S256 : Shape := ⟨1, ![256]⟩
abbrev S1x9216 : Shape := ⟨2, ![1, 9216]⟩
abbrev S1x1x9216 : Shape := ⟨3, ![1, 1, 9216]⟩
abbrev S1x1x1024 : Shape := ⟨3, ![1, 1, 1024]⟩
abbrev S32x256x1024 : Shape := ⟨3, ![32, 256, 1024]⟩
abbrev S_ : Shape := ⟨0, ![]⟩
abbrev S32x256 : Shape := ⟨2, ![32, 256]⟩
abbrev S32x256x1 : Shape := ⟨3, ![32, 256, 1]⟩
abbrev S32x256x2080 : Shape := ⟨3, ![32, 256, 2080]⟩
abbrev S32x256x256 : Shape := ⟨3, ![32, 256, 256]⟩
abbrev S32x256x512 : Shape := ⟨3, ![32, 256, 512]⟩
abbrev S32x256x16 : Shape := ⟨3, ![32, 256, 16]⟩
abbrev S1x1x256 : Shape := ⟨3, ![1, 1, 256]⟩
abbrev S8192x256 : Shape := ⟨2, ![8192, 256]⟩
abbrev S8192x512 : Shape := ⟨2, ![8192, 512]⟩

abbrev nBuf : Space → Nat
  | .hbm => 109
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16x9216, .f32⟩
  | .hbm, ⟨2, _⟩ => ⟨S1024, .f32⟩
  | .hbm, ⟨3, _⟩ => ⟨S1024x2080, .f32⟩
  | .hbm, ⟨4, _⟩ => ⟨S16x256, .f32⟩
  | .hbm, ⟨5, _⟩ => ⟨S256, .f32⟩
  | .hbm, ⟨6, _⟩ => ⟨S16x256, .f32⟩
  | .hbm, ⟨7, _⟩ => ⟨S256, .f32⟩
  | .hbm, ⟨8, _⟩ => ⟨S1x9216, .f32⟩
  | .hbm, ⟨9, _⟩ => ⟨S1x1x9216, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x1x1024, .f32⟩
  | .hbm, ⟨17, _⟩ => ⟨S1x1x1024, .f32⟩
  | .hbm, ⟨18, _⟩ => ⟨S1x1x1024, .f32⟩
  | .hbm, ⟨19, _⟩ => ⟨S32x256x1024, .f32⟩
  | .hbm, ⟨20, _⟩ => ⟨S32x256x1024, .f32⟩
  | .hbm, ⟨21, _⟩ => ⟨S_, .f32⟩
  | .hbm, ⟨22, _⟩ => ⟨S32x256, .f32⟩
  | .hbm, ⟨23, _⟩ => ⟨S32x256x1, .f32⟩
  | .hbm, ⟨24, _⟩ => ⟨S_, .f32⟩
  | .hbm, ⟨25, _⟩ => ⟨S32x256x1, .f32⟩
  | .hbm, ⟨26, _⟩ => ⟨S32x256x1, .f32⟩
  | .hbm, ⟨27, _⟩ => ⟨S_, .f32⟩
  | .hbm, ⟨28, _⟩ => ⟨S32x256x1, .f32⟩
  | .hbm, ⟨29, _⟩ => ⟨S32x256x1, .f32⟩
  | .hbm, ⟨30, _⟩ => ⟨S32x256x1, .f32⟩
  | .hbm, ⟨31, _⟩ => ⟨S32x256x1024, .f32⟩
  | .hbm, ⟨32, _⟩ => ⟨S32x256x1024, .f32⟩
  | .hbm, ⟨33, _⟩ => ⟨S1x1x1024, .f32⟩
  | .hbm, ⟨34, _⟩ => ⟨S32x256x1024, .f32⟩
  | .hbm, ⟨35, _⟩ => ⟨S32x256x1024, .f32⟩
  | .hbm, ⟨36, _⟩ => ⟨S_, .f32⟩
  | .hbm, ⟨37, _⟩ => ⟨S1x1x1024, .f32⟩
  | .hbm, ⟨38, _⟩ => ⟨S1x1x1024, .f32⟩
  | .hbm, ⟨39, _⟩ => ⟨S32x256x1024, .f32⟩
  | .hbm, ⟨40, _⟩ => ⟨S32x256x1024, .f32⟩
  | .hbm, ⟨41, _⟩ => ⟨S32x256x1024, .f32⟩
  | .hbm, ⟨42, _⟩ => ⟨S32x256x1024, .f32⟩
  | .hbm, ⟨43, _⟩ => ⟨S32x256x2080, .f32⟩
  | .hbm, ⟨44, _⟩ => ⟨S32x256x256, .f32⟩
  | .hbm, ⟨45, _⟩ => ⟨S32x256x256, .f32⟩
  | .hbm, ⟨46, _⟩ => ⟨S32x256x512, .f32⟩
  | .hbm, ⟨47, _⟩ => ⟨S32x256x512, .f32⟩
  | .hbm, ⟨48, _⟩ => ⟨S32x256x16, .f32⟩
  | .hbm, ⟨49, _⟩ => ⟨S32x256x16, .f32⟩
  | .hbm, ⟨50, _⟩ => ⟨S32x256x512, .f32⟩
  | .hbm, ⟨51, _⟩ => ⟨S_, .f32⟩
  | .hbm, ⟨52, _⟩ => ⟨S32x256x256, .f32⟩
  | .hbm, ⟨53, _⟩ => ⟨S32x256x256, .f32⟩
  | .hbm, ⟨54, _⟩ => ⟨S32x256x256, .f32⟩
  | .hbm, ⟨55, _⟩ => ⟨S1x1x256, .f32⟩
  | .hbm, ⟨56, _⟩ => ⟨S32x256x256, .f32⟩
  | .hbm, ⟨57, _⟩ => ⟨S32x256x256, .f32⟩
  | .hbm, ⟨58, _⟩ => ⟨S32x256x256, .f32⟩
  | .hbm, ⟨59, _⟩ => ⟨S_, .f32⟩
  | .hbm, ⟨60, _⟩ => ⟨S32x256x256, .f32⟩
  | .hbm, ⟨61, _⟩ => ⟨S32x256x256, .f32⟩
  | .hbm, ⟨62, _⟩ => ⟨S32x256x256, .f32⟩
  | .hbm, ⟨63, _⟩ => ⟨S32x256x256, .f32⟩
  | .hbm, ⟨64, _⟩ => ⟨S32x256x256, .i1⟩
  | .hbm, ⟨65, _⟩ => ⟨S32x256x256, .f32⟩
  | .hbm, ⟨66, _⟩ => ⟨S32x256x256, .f32⟩
  | .hbm, ⟨67, _⟩ => ⟨S32x256x256, .f32⟩
  | .hbm, ⟨68, _⟩ => ⟨S32x256x256, .f32⟩
  | .hbm, ⟨69, _⟩ => ⟨S32x256x256, .f32⟩
  | .hbm, ⟨70, _⟩ => ⟨S32x256x256, .f32⟩
  | .hbm, ⟨71, _⟩ => ⟨S32x256x256, .f32⟩
  | .hbm, ⟨72, _⟩ => ⟨S32x256x256, .f32⟩
  | .hbm, ⟨73, _⟩ => ⟨S32x256x256, .f32⟩
  | .hbm, ⟨74, _⟩ => ⟨S_, .f32⟩
  | .hbm, ⟨75, _⟩ => ⟨S32x256x256, .f32⟩
  | .hbm, ⟨76, _⟩ => ⟨S32x256x256, .f32⟩
  | .hbm, ⟨77, _⟩ => ⟨S32x256x256, .f32⟩
  | .hbm, ⟨78, _⟩ => ⟨S1x1x256, .f32⟩
  | .hbm, ⟨79, _⟩ => ⟨S32x256x256, .f32⟩
  | .hbm, ⟨80, _⟩ => ⟨S32x256x256, .f32⟩
  | .hbm, ⟨81, _⟩ => ⟨S32x256x256, .f32⟩
  | .hbm, ⟨82, _⟩ => ⟨S_, .f32⟩
  | .hbm, ⟨83, _⟩ => ⟨S32x256x256, .f32⟩
  | .hbm, ⟨84, _⟩ => ⟨S32x256x256, .f32⟩
  | .hbm, ⟨85, _⟩ => ⟨S32x256x256, .f32⟩
  | .hbm, ⟨86, _⟩ => ⟨S32x256x256, .f32⟩
  | .hbm, ⟨87, _⟩ => ⟨S32x256x256, .i1⟩
  | .hbm, ⟨88, _⟩ => ⟨S32x256x256, .f32⟩
  | .hbm, ⟨89, _⟩ => ⟨S32x256x256, .f32⟩
  | .hbm, ⟨90, _⟩ => ⟨S32x256x256, .f32⟩
  | .hbm, ⟨91, _⟩ => ⟨S32x256x256, .f32⟩
  | .hbm, ⟨92, _⟩ => ⟨S32x256x256, .f32⟩
  | .hbm, ⟨93, _⟩ => ⟨S32x256x256, .f32⟩
  | .hbm, ⟨94, _⟩ => ⟨S32x256x256, .f32⟩
  | .hbm, ⟨95, _⟩ => ⟨S32x256x256, .f32⟩
  | .hbm, ⟨96, _⟩ => ⟨S32x256x256, .f32⟩
  | .hbm, ⟨97, _⟩ => ⟨S_, .f32⟩
  | .hbm, ⟨98, _⟩ => ⟨S32x256x256, .f32⟩
  | .hbm, ⟨99, _⟩ => ⟨S32x256x256, .f32⟩
  | .hbm, ⟨100, _⟩ => ⟨S8192x256, .f32⟩
  | .hbm, ⟨101, _⟩ => ⟨S8192x256, .f32⟩
  | .hbm, ⟨102, _⟩ => ⟨S8192x512, .f32⟩
  | .hbm, ⟨103, _⟩ => ⟨S8192x512, .bf16⟩
  | .hbm, ⟨104, _⟩ => ⟨S8192x512, .f32⟩
  | .hbm, ⟨105, _⟩ => ⟨S32x256x512, .f32⟩
  | .hbm, ⟨106, _⟩ => ⟨S8192x512, .f32⟩
  | .hbm, ⟨107, _⟩ => ⟨S8192x512, .f32⟩
  | .hbm, ⟨108, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_call0_v0 : Ref sig .tc := ⟨.hbm, 58, rfl⟩
abbrev main_call0_call0_cst : Ref sig .tc := ⟨.hbm, 59, rfl⟩
abbrev main_call0_call0_v0 : Ref sig .tc := ⟨.hbm, 60, rfl⟩
abbrev main_call0_call0_v1 : Ref sig .tc := ⟨.hbm, 61, rfl⟩
abbrev main_call0_call0_v2 : Ref sig .tc := ⟨.hbm, 62, rfl⟩
abbrev main_call0_call0_v3 : Ref sig .tc := ⟨.hbm, 63, rfl⟩
abbrev main_call0_call0_v4 : Ref sig .tc := ⟨.hbm, 64, rfl⟩
abbrev main_call0_call0_v5 : Ref sig .tc := ⟨.hbm, 65, rfl⟩
abbrev main_call0_call0_v6 : Ref sig .tc := ⟨.hbm, 66, rfl⟩
abbrev main_call0_call0_v7 : Ref sig .tc := ⟨.hbm, 67, rfl⟩
abbrev main_call0_call0_v8 : Ref sig .tc := ⟨.hbm, 68, rfl⟩
abbrev main_call0_call0_v9 : Ref sig .tc := ⟨.hbm, 69, rfl⟩
abbrev main_call0_call0_v10 : Ref sig .tc := ⟨.hbm, 70, rfl⟩
abbrev main_call0_call0_v11 : Ref sig .tc := ⟨.hbm, 71, rfl⟩
abbrev main_call0_v1 : Ref sig .tc := ⟨.hbm, 72, rfl⟩
abbrev main_v45 : Ref sig .tc := ⟨.hbm, 73, rfl⟩
abbrev main_cst_4 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call1_v0 : Ref sig .tc := ⟨.hbm, 81, rfl⟩
abbrev main_call1_call0_cst : Ref sig .tc := ⟨.hbm, 82, rfl⟩
abbrev main_call1_call0_v0 : Ref sig .tc := ⟨.hbm, 83, rfl⟩
abbrev main_call1_call0_v1 : Ref sig .tc := ⟨.hbm, 84, rfl⟩
abbrev main_call1_call0_v2 : Ref sig .tc := ⟨.hbm, 85, rfl⟩
abbrev main_call1_call0_v3 : Ref sig .tc := ⟨.hbm, 86, rfl⟩
abbrev main_call1_call0_v4 : Ref sig .tc := ⟨.hbm, 87, rfl⟩
abbrev main_call1_call0_v5 : Ref sig .tc := ⟨.hbm, 88, rfl⟩
abbrev main_call1_call0_v6 : Ref sig .tc := ⟨.hbm, 89, rfl⟩
abbrev main_call1_call0_v7 : Ref sig .tc := ⟨.hbm, 90, rfl⟩
abbrev main_call1_call0_v8 : Ref sig .tc := ⟨.hbm, 91, rfl⟩
abbrev main_call1_call0_v9 : Ref sig .tc := ⟨.hbm, 92, rfl⟩
abbrev main_call1_call0_v10 : Ref sig .tc := ⟨.hbm, 93, rfl⟩
abbrev main_call1_call0_v11 : Ref sig .tc := ⟨.hbm, 94, rfl⟩
abbrev main_call1_v1 : Ref sig .tc := ⟨.hbm, 95, rfl⟩
abbrev main_v52 : Ref sig .tc := ⟨.hbm, 96, rfl⟩
abbrev main_cst_5 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩

abbrev nD : Nat := 1
abbrev τ : Topo := Topo.v7x

variable {F : FTy → Type} [FloatOps F]
-- ==== Rot.lean ====
abbrev S16384x1024 : Shape := ⟨2, ![16384, 1024]⟩
abbrev S16x9216 : Shape := ⟨2, ![16, 9216]⟩
abbrev S1024 : Shape := ⟨1, ![1024]⟩
abbrev S1024x1536 : Shape := ⟨2, ![1024, 1536]⟩
abbrev S2048x64 : Shape := ⟨2, ![2048, 64]⟩
abbrev S64 : Shape := ⟨1, ![64]⟩
abbrev S_ : Shape := ⟨0, ![]⟩
abbrev S16x9x1024 : Shape := ⟨3, ![16, 9, 1024]⟩
abbrev S16x16x1024 : Shape := ⟨3, ![16, 16, 1024]⟩
abbrev S1x1024 : Shape := ⟨2, ![1, 1024]⟩
abbrev S2048x128 : Shape := ⟨2, ![2048, 128]⟩
abbrev S1x64 : Shape := ⟨2, ![1, 64]⟩
abbrev S16384x256 : Shape := ⟨2, ![16384, 256]⟩
abbrev S512x1024 : Shape := ⟨2, ![512, 1024]⟩
abbrev S1x16x1024 : Shape := ⟨3, ![1, 16, 1024]⟩
abbrev S512x128 : Shape := ⟨2, ![512, 128]⟩
abbrev S512x256 : Shape := ⟨2, ![512, 256]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩

abbrev nBuf : Space → Nat
  | .hbm => 70
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16x9216, .f32⟩
  | .hbm, ⟨2, _⟩ => ⟨S1024, .f32⟩
  | .hbm, ⟨3, _⟩ => ⟨S1024x1536, .f32⟩
  | .hbm, ⟨4, _⟩ => ⟨S2048x64, .f32⟩
  | .hbm, ⟨5, _⟩ => ⟨S2048x64, .f32⟩
  | .hbm, ⟨6, _⟩ => ⟨S64, .i32⟩
  | .hbm, ⟨7, _⟩ => ⟨S_, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S64, .i1⟩
  | .hbm, ⟨15, _⟩ => ⟨S64, .i32⟩
  | .hbm, ⟨16, _⟩ => ⟨S64, .i32⟩
  | .hbm, ⟨17, _⟩ => ⟨S_, .i32⟩
  | .hbm, ⟨18, _⟩ => ⟨S64, .i32⟩
  | .hbm, ⟨19, _⟩ => ⟨S64, .i1⟩
  | .hbm, ⟨20, _⟩ => ⟨S64, .i1⟩
  | .hbm, ⟨21, _⟩ => ⟨S_, .i32⟩
  | .hbm, ⟨22, _⟩ => ⟨S64, .i32⟩
  | .hbm, ⟨23, _⟩ => ⟨S64, .i32⟩
  | .hbm, ⟨24, _⟩ => ⟨S64, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S64, .i32⟩
  | .hbm, ⟨32, _⟩ => ⟨S64, .i32⟩
  | .hbm, ⟨33, _⟩ => ⟨S_, .i32⟩
  | .hbm, ⟨34, _⟩ => ⟨S64, .i32⟩
  | .hbm, ⟨35, _⟩ => ⟨S64, .i1⟩
  | .hbm, ⟨36, _⟩ => ⟨S_, .i32⟩
  | .hbm, ⟨37, _⟩ => ⟨S64, .i32⟩
  | .hbm, ⟨38, _⟩ => ⟨S64, .i1⟩
  | .hbm, ⟨39, _⟩ => ⟨S_, .i32⟩
  | .hbm, ⟨40, _⟩ => ⟨S_, .i1⟩
  | .hbm, ⟨41, _⟩ => ⟨S64, .i1⟩
  | .hbm, ⟨42, _⟩ => ⟨S64, .i1⟩
  | .hbm, ⟨43, _⟩ => ⟨S64, .i1⟩
  | .hbm, ⟨44, _⟩ => ⟨S64, .i32⟩
  | .hbm, ⟨45, _⟩ => ⟨S64, .i32⟩
  | .hbm, ⟨46, _⟩ => ⟨S64, .i32⟩
  | .hbm, ⟨47, _⟩ => ⟨S_, .i32⟩
  | .hbm, ⟨48, _⟩ => ⟨S64, .i32⟩
  | .hbm, ⟨49, _⟩ => ⟨S64, .i1⟩
  | .hbm, ⟨50, _⟩ => ⟨S_, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S64, .f32⟩
  | .hbm, ⟨56, _⟩ => ⟨S16x9x1024, .f32⟩
  | .hbm, ⟨57, _⟩ => ⟨S_, .i32⟩
  | .hbm, ⟨58, _⟩ => ⟨S_, .f32⟩
  | .hbm, ⟨59, _⟩ => ⟨S16x16x1024, .f32⟩
  | .hbm, ⟨60, _⟩ => ⟨S1x1024, .f32⟩
  | .hbm, ⟨61, _⟩ => ⟨S1024x1536, .bf16⟩
  | .hbm, ⟨62, _⟩ => ⟨S2048x128, .f32⟩
  | .hbm, ⟨63, _⟩ => ⟨S1x64, .f32⟩
  | .hbm, ⟨64, _⟩ => ⟨S2048x64, .f32⟩
  | .hbm, ⟨65, _⟩ => ⟨S2048x64, .f32⟩
  | .hbm, ⟨66, _⟩ => ⟨S2048x128, .f32⟩
  | .hbm, ⟨67, _⟩ => ⟨S16384x1024, .bf16⟩
  | .hbm, ⟨68, _⟩ => ⟨S16384x256, .f32⟩
  | .hbm, ⟨69, _⟩ => ⟨S16384x256, .f32⟩
  | .local _ .vmem, ⟨0, _⟩ => ⟨S512x1024, .f32⟩
  | .local _ .vmem, ⟨1, _⟩ => ⟨S512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x1024, .f32⟩
  | .local _ .vmem, ⟨5, _⟩ => ⟨S1024x1536, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v2 : Ref sig .tc := ⟨.hbm, 46, rfl⟩
abbrev main_c_1 : Ref sig .tc := ⟨.hbm, 47, rfl⟩
abbrev main_v3 : Ref sig .tc := ⟨.hbm, 48, rfl⟩
abbrev main_v4 : Ref sig .tc := ⟨.hbm, 49, rfl⟩
abbrev main_cst : Ref sig .tc := ⟨.hbm, 50, rfl⟩
abbrev main_cst_2 : Ref sig .tc := ⟨.hbm, 51, rfl⟩
abbrev main_call2_v0 : Ref sig .tc := ⟨.hbm, 52, rfl⟩
abbrev main_call2_v1 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_c_3 : Ref sig .tc := ⟨.hbm, 57, rfl⟩
abbrev main_call3_v0 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16_0 : Ref sig .tc := ⟨.hbm, 67, rfl⟩
abbrev main_v16_1 : Ref sig .tc := ⟨.hbm, 68, rfl⟩
abbrev main_v16_2 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RotRefIdeal.lean ====
abbrev S16384x1024 : Shape := ⟨2, ![16384, 1024]⟩
abbrev S16x9216 : Shape := ⟨2, ![16, 9216]⟩
abbrev S1024 : Shape := ⟨1, ![1024]⟩
abbrev S1024x1536 : Shape := ⟨2, ![1024, 1536]⟩
abbrev S2048x64 : Shape := ⟨2, ![2048, 64]⟩
abbrev S8x9216 : Shape := ⟨2, ![8, 9216]⟩
abbrev S8x1x9216 : Shape := ⟨3, ![8, 1, 9216]⟩
abbrev S8x1x1024 : Shape := ⟨3, ![8, 1, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x1536 : Shape := ⟨3, ![8, 2048, 1536]⟩
abbrev S8x2048x256 : Shape := ⟨3, ![8, 2048, 256]⟩
abbrev S8x2048x16x64 : Shape := ⟨4, ![8, 2048, 16, 64]⟩
abbrev S8x2048x16x16 : Shape := ⟨4, ![8, 2048, 16, 16]⟩
abbrev S1x2048x1x64 : Shape := ⟨4, ![1, 2048, 1, 64]⟩
abbrev S8x2048x4x64 : Shape := ⟨4, ![8, 2048, 4, 64]⟩
abbrev S8x2048x4x16 : Shape := ⟨4, ![8, 2048, 4, 16]⟩
abbrev S16384x256 : Shape := ⟨2, ![16384, 256]⟩

abbrev nBuf : Space → Nat
  | .hbm => 82
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16x9216, .f32⟩
  | .hbm, ⟨2, _⟩ => ⟨S1024, .f32⟩
  | .hbm, ⟨3, _⟩ => ⟨S1024x1536, .f32⟩
  | .hbm, ⟨4, _⟩ => ⟨S2048x64, .f32⟩
  | .hbm, ⟨5, _⟩ => ⟨S2048x64, .f32⟩
  | .hbm, ⟨6, _⟩ => ⟨S8x9216, .f32⟩
  | .hbm, ⟨7, _⟩ => ⟨S8x1x9216, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S1x1x1024, .f32⟩
  | .hbm, ⟨32, _⟩ => ⟨S8x2048x1024, .f32⟩
  | .hbm, ⟨33, _⟩ => ⟨S8x2048x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1536, .f32⟩
  | .hbm, ⟨42, _⟩ => ⟨S8x2048x1024, .f32⟩
  | .hbm, ⟨43, _⟩ => ⟨S8x2048x256, .f32⟩
  | .hbm, ⟨44, _⟩ => ⟨S8x2048x256, .f32⟩
  | .hbm, ⟨45, _⟩ => ⟨S8x2048x16x64, .f32⟩
  | .hbm, ⟨46, _⟩ => ⟨S_, .f32⟩
  | .hbm, ⟨47, _⟩ => ⟨S8x2048x16x64, .f32⟩
  | .hbm, ⟨48, _⟩ => ⟨S8x2048x16x64, .f32⟩
  | .hbm, ⟨49, _⟩ => ⟨S8x2048x16x16, .f32⟩
  | .hbm, ⟨50, _⟩ => ⟨S8x2048x16x16, .f32⟩
  | .hbm, ⟨51, _⟩ => ⟨S8x2048x16x16, .f32⟩
  | .hbm, ⟨52, _⟩ => ⟨S8x2048x16x16, .f32⟩
  | .hbm, ⟨53, _⟩ => ⟨S8x2048x16x16, .f32⟩
  | .hbm, ⟨54, _⟩ => ⟨S8x2048x16x16, .f32⟩
  | .hbm, ⟨55, _⟩ => ⟨S8x2048x16x64, .f32⟩
  | .hbm, ⟨56, _⟩ => ⟨S1x2048x1x64, .f32⟩
  | .hbm, ⟨57, _⟩ => ⟨S8x2048x16x64, .f32⟩
  | .hbm, ⟨58, _⟩ => ⟨S8x2048x16x64, .f32⟩
  | .hbm, ⟨59, _⟩ => ⟨S1x2048x1x64, .f32⟩
  | .hbm, ⟨60, _⟩ => ⟨S8x2048x16x64, .f32⟩
  | .hbm, ⟨61, _⟩ => ⟨S8x2048x16x64, .f32⟩
  | .hbm, ⟨62, _⟩ => ⟨S8x2048x16x64, .f32⟩
  | .hbm, ⟨63, _⟩ => ⟨S8x2048x4x64, .f32⟩
  | .hbm, ⟨64, _⟩ => ⟨S8x2048x4x16, .f32⟩
  | .hbm, ⟨65, _⟩ => ⟨S8x2048x4x16, .f32⟩
  | .hbm, ⟨66, _⟩ => ⟨S8x2048x4x16, .f32⟩
  | .hbm, ⟨67, _⟩ => ⟨S8x2048x4x16, .f32⟩
  | .hbm, ⟨68, _⟩ => ⟨S8x2048x4x16, .f32⟩
  | .hbm, ⟨69, _⟩ => ⟨S8x2048x4x16, .f32⟩
  | .hbm, ⟨70, _⟩ => ⟨S8x2048x4x64, .f32⟩
  | .hbm, ⟨71, _⟩ => ⟨S1x2048x1x64, .f32⟩
  | .hbm, ⟨72, _⟩ => ⟨S8x2048x4x64, .f32⟩
  | .hbm, ⟨73, _⟩ => ⟨S8x2048x4x64, .f32⟩
  | .hbm, ⟨74, _⟩ => ⟨S1x2048x1x64, .f32⟩
  | .hbm, ⟨75, _⟩ => ⟨S8x2048x4x64, .f32⟩
  | .hbm, ⟨76, _⟩ => ⟨S8x2048x4x64, .f32⟩
  | .hbm, ⟨77, _⟩ => ⟨S8x2048x4x64, .f32⟩
  | .hbm, ⟨78, _⟩ => ⟨S16384x1024, .f32⟩
  | .hbm, ⟨79, _⟩ => ⟨S16384x1024, .bf16⟩
  | .hbm, ⟨80, _⟩ => ⟨S16384x256, .f32⟩
  | .hbm, ⟨81, _⟩ => ⟨S16384x256, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩

abbrev nD : Nat := 1
abbrev τ : Topo := Topo.v7x

variable {F : FTy → Type} [FloatOps F]
-- ==== Proof.Norm.lean ====
module

public import Idealize.ShloMosaic.Lib.Pipeline.ValueKit
public import Idealize.ShloMosaic.Lib.Pointwise

@[expose] public section

set_option maxRecDepth 16384

noncomputable section

namespace Layer

open Idealize.ShloMosaic

/-- One entry of a row divided by its root mean square, scaled by `g`. -/
def rmsVal (x g : Fin 1024 → EReal) (d : Fin 1024) : EReal :=
  x d * Ideal.rsqrt (Ideal.div (∑ e, x e * x e) (Ideal.ofBits FTy.f32 0x44800000#32) + Ideal.ofBits FTy.f32 0x358637BD#32) * g d

/-- The normalised row under a scale and a shift. -/
def adaVal (x g sh sc : Fin 1024 → EReal) (d : Fin 1024) : EReal := rmsVal x g d * (1 + sc d) + sh d

theorem rmsVal_congr {x x' g g' : Fin 1024 → EReal} (hx : ∀ e, x e = x' e) (hg : ∀ e, g e = g' e) (d : Fin 1024) :
    rmsVal x g d = rmsVal x' g' d := by
  rw [funext hx, funext hg]

theorem adaVal_congr {x x' g g' sh sh' sc sc' : Fin 1024 → EReal} (hx : ∀ e, x e = x' e) (hg : ∀ e, g e = g' e)
    (hs : ∀ e, sh e = sh' e) (hc : ∀ e, sc e = sc' e) (d : Fin 1024) : adaVal x g sh sc d = adaVal x' g' sh' sc' d := by
  rw [funext hx, funext hg, funext hs, funext hc]

/-- One entry of the hidden row of the feed-forward: the gated unit of two projections of the row `h`. -/
def unitVal {n : ℕ} (h : Fin 1024 → EReal) (a b : Fin 1024 → Fin n → EReal) (f : Fin n) : EReal :=
  (∑ e, h e * a e f) * Ideal.logistic (∑ e, h e * a e f) * ∑ e, h e * b e f

/-- One entry of the feed-forward of the row `h` over `n` hidden columns. -/
def ffVal {n : ℕ} (h : Fin 1024 → EReal) (a b : Fin 1024 → Fin n → EReal) (w : Fin n → Fin 1024 → EReal) (d : Fin 1024) :
    EReal :=
  ∑ f, unitVal h a b f * w f d

theorem ffVal_congr {n : ℕ} (h : Fin 1024 → EReal) {a a' b b' : Fin 1024 → Fin n → EReal} {w w' : Fin n → Fin 1024 → EReal}
    (ha : ∀ e f, a e f = a' e f) (hb : ∀ e f, b e f = b' e f) (hw : ∀ f e, w f e = w' f e) (d : Fin 1024) :
    ffVal h a b w d = ffVal h a' b' w' d := by
  rw [funext fun e => funext (ha e), funext fun e => funext (hb e), funext fun f => funext (hw f)]

/-- One entry of the half step: the row, and half the gate times the feed-forward of its normalised row. -/
def halfVal (x g sh sc gt : Fin 1024 → EReal) (a b : Fin 1024 → Fin 2816 → EReal) (w : Fin 2816 → Fin 1024 → EReal)
    (d : Fin 1024) : EReal :=
  x d + Ideal.ofBits FTy.f32 0x3F000000#32 * gt d * ffVal (adaVal x g sh sc) a b w d

/-- One entry of the first half step of the trunk, from the row and the nine modulation vectors one after the other. -/
def firstRow (x : Fin 1024 → EReal) (mv : Fin 9216 → EReal) (g : Fin 1024 → EReal) (a b : Fin 1024 → Fin 2816 → EReal)
    (w : Fin 2816 → Fin 1024 → EReal) (d : Fin 1024) : EReal :=
  halfVal x g (fun e => mv ⟨e, by omega⟩) (fun e => mv ⟨1024 + e, by omega⟩) (fun e => mv ⟨2048 + e, by omega⟩) a b w d

/-- One entry of the row with the gated projection of the mixer's output added. -/
def mixRow (x mx gt : Fin 1024 → EReal) (wo : Fin 1024 → Fin 1024 → EReal) (e : Fin 1024) : EReal :=
  x e + gt e * ∑ k, mx k * wo k e

/-- Two rows of 512 one after the other. -/
def catRow (p q : Fin 512 → EReal) (k : Fin 1024) : EReal := if h : (k : ℕ) < 512 then p ⟨k, h⟩ else q ⟨k - 512, by omega⟩

theorem sum_catRow (p q : Fin 512 → EReal) (F : Fin 1024 → EReal) : ∑ k, catRow p q k * F k
    = ∑ k : Fin 512, p k * F ⟨k, by omega⟩ + ∑ k : Fin 512, q k * F ⟨512 + k, by omega⟩ := by
  refine (Fin.sum_univ_add (a := 512) (b := 512) fun k => catRow p q k * F k).trans ?_
  refine Ideal.add_congr (Finset.sum_congr rfl fun k _ => ?_) (Finset.sum_congr rfl fun k _ => ?_)
  · unfold catRow
    rw [dif_pos (show ((Fin.castAdd 512 k : Fin 1024) : ℕ) < 512 from k.isLt)]
    rfl
  · unfold catRow
    rw [dif_neg (show ¬((Fin.natAdd 512 k : Fin 1024) : ℕ) < 512 from Nat.not_lt.mpr (Nat.le_add_right _ _))]
    exact Ideal.mul_congr (congrArg q (Fin.ext (Nat.add_sub_cancel_left _ _))) rfl

/-- One entry of the half step that adds the two mixers' output, from the row, the outputs and the nine modulation
    vectors one after the other. -/
def midRow (x : Fin 1024 → EReal) (p q : Fin 512 → EReal) (mv : Fin 9216 → EReal) (g : Fin 1024 → EReal)
    (a b : Fin 1024 → Fin 2816 → EReal) (w : Fin 2816 → Fin 1024 → EReal) (wo : Fin 1024 → Fin 1024 → EReal)
    (d : Fin 1024) : EReal :=
  halfVal (mixRow x (catRow p q) (fun e => mv ⟨5120 + e, by omega⟩) wo) g (fun e => mv ⟨6144 + e, by omega⟩)
    (fun e => mv ⟨7168 + e, by omega⟩) (fun e => mv ⟨8192 + e, by omega⟩) a b w d

/-- One entry of the last half step of the trunk and the final norm, from the row, the mixer's output and the nine
    modulation vectors one after the other. -/
def lastRow (x mx : Fin 1024 → EReal) (mv : Fin 9216 → EReal) (g : Fin 1024 → EReal) (a b : Fin 1024 → Fin 2816 → EReal)
    (w : Fin 2816 → Fin 1024 → EReal) (wo : Fin 1024 → Fin 1024 → EReal) (fg : Fin 1024 → EReal) (d : Fin 1024) : EReal :=
  rmsVal (halfVal (mixRow x mx (fun e => mv ⟨5120 + e, by omega⟩) wo) g (fun e => mv ⟨6144 + e, by omega⟩)
    (fun e => mv ⟨7168 + e, by omega⟩) (fun e => mv ⟨8192 + e, by omega⟩) a b w) fg d

/-- The feed-forward over 2816 hidden columns, in eleven tiles of 256. -/
theorem ffVal_tiles (h : Fin 1024 → EReal) (a b : Fin 1024 → Fin 2816 → EReal) (w : Fin 2816 → Fin 1024 → EReal)
    (d : Fin 1024) : ffVal h a b w d = ∑ j : Fin 11, ffVal h (fun e (f : Fin 256) => a e ⟨j * 256 + f, by omega⟩)
      (fun e f => b e ⟨j * 256 + f, by omega⟩) (fun f e => w ⟨j * 256 + f, by omega⟩ e) d :=
  Fin.sum_univ_tiles 11 256 rfl _

/-- A sum of eleven in the order of an accumulator. -/
theorem sum11 (T : Fin 11 → EReal) : ∑ j, T j
    = T ⟨0, by decide⟩ + T ⟨1, by decide⟩ + T ⟨2, by decide⟩ + T ⟨3, by decide⟩ + T ⟨4, by decide⟩ + T ⟨5, by decide⟩
      + T ⟨6, by decide⟩ + T ⟨7, by decide⟩ + T ⟨8, by decide⟩ + T ⟨9, by decide⟩ + T ⟨10, by decide⟩ := by
  simp only [Fin.sum_univ_succ, Finset.univ_eq_empty, Finset.sum_empty, add_zero, ← add_assoc]
  rfl

end Layer
-- ==== Proof.Pre.lean ====
module

public import proofs.«01_k».proof.Defs
public import proofs.«01_k».proof.Proof.Norm

@[expose] public section

noncomputable section

namespace Cert.Pre_finite_scores

open Idealize.ShloMosaic

/-- The side conditions of the precondition's three broadcasts. -/
theorem facts : Facts := ⟨by decide +kernel, by decide +kernel, by decide +kernel⟩

theorem top_bits : Ideal.ofBits FTy.f32 0x7F800000#32 = ⊤ := by simp [Ideal.ofBits, Ideal.ieee]

theorem top_bits16 : Ideal.ofBits FTy.bf16 0x7F80#16 = ⊤ := by simp [Ideal.ofBits, Ideal.ieee]

theorem finite_of {a : EReal} (h : max a (-a) < ⊤) : a ≠ ⊤ ∧ a ≠ ⊥ := by
  constructor <;> rintro rfl <;> simp at h

theorem lt_of_bit {a b : EReal} (h : BitVec.ofBool (decide (a < b)) = 1#1) : a < b := by
  by_contra hn
  simp [hn] at h

variable [Facts] (q : FVec Ideal S8192x1024 .bf16) (k v : FVec Ideal S8192x256 .f32) (s : FVec Ideal S4x4 .f32)

theorem q_finite (h : (fn (F := Ideal) q k v s).1 = fun _ => 1#1) (i : S8192x1024.Idx) : q i ≠ ⊤ ∧ q i ≠ ⊥ := by
  have e := congrFun h i
  dsimp only [fn] at e
  pointwise at e
  exact finite_of (top_bits16 ▸ lt_of_bit e)

theorem k_finite (h : (fn (F := Ideal) q k v s).2.1 = fun _ => 1#1) (i : S8192x256.Idx) : k i ≠ ⊤ ∧ k i ≠ ⊥ := by
  have e := congrFun h i
  dsimp only [fn] at e
  pointwise at e
  exact finite_of (top_bits ▸ lt_of_bit e)

theorem s_below (h : (fn (F := Ideal) q k v s).2.2 = fun _ => 1#1) (i : S4x4.Idx) : s i ≠ ⊤ := by
  have e := congrFun h i
  dsimp only [fn] at e
  pointwise at e
  exact (top_bits ▸ lt_of_bit e).ne

end Cert.Pre_finite_scores
-- ==== Proof.RefFrames.lean ====
/- The references end with their arguments as they were and every semaphore at zero. -/
module

public import proofs.«01_k».proof.Defs
public import proofs.«01_k».proof.Proof.Gen.AttnRefIdeal.Run
public import proofs.«01_k».proof.Proof.Gen.FfnRefIdeal.Run
public import proofs.«01_k».proof.Proof.Gen.FfnLatRefIdeal.Run
public import proofs.«01_k».proof.Proof.Gen.FfnFirstRefIdeal.Run
public import proofs.«01_k».proof.Proof.Gen.FfnMidRefIdeal.Run
public import proofs.«01_k».proof.Proof.Gen.ProjRefIdeal.Run
public import proofs.«01_k».proof.Proof.Gen.InRefIdeal.Run
public import proofs.«01_k».proof.Proof.Gen.RotRefIdeal.Run
public import proofs.«01_k».proof.Proof.Pre

@[expose] public section

noncomputable section

namespace Cert.Proof

open Idealize.ShloMosaic Idealize.SL.Sem

theorem attnRef_frame : Cert.quiescent_AttnRefIdeal (hAttnRefIdeal := Cert.AttnRefIdeal.Gen.facts) := fun m g _ =>
  (θ_run _ _ _).mono (fun r h => ⟨fun c => (h c).2, sem_eq_zero_of_no_sems (by decide) r.2⟩)
    (Cert.AttnRefIdeal.Value.run m g)

theorem attnRef_frame_pre : Cert.quiescent_AttnRefIdeal_pre_finite_scores (hAttnRefIdeal := Cert.AttnRefIdeal.Gen.facts)
    (hPre_finite_scores := Cert.Pre_finite_scores.facts) := fun m g _ =>
  (θ_run _ _ _).mono (fun r h => ⟨fun c => (h c).2, sem_eq_zero_of_no_sems (by decide) r.2⟩)
    (Cert.AttnRefIdeal.Value.run m g)

theorem ffnRef_frame : Cert.quiescent_FfnRefIdeal (hFfnRefIdeal := Cert.FfnRefIdeal.Gen.facts) := fun m g _ =>
  (θ_run _ _ _).mono (fun r h => ⟨fun c => (h c).2, sem_eq_zero_of_no_sems (by decide) r.2⟩)
    (Cert.FfnRefIdeal.Value.run m g)

theorem ffnLatRef_frame : Cert.quiescent_FfnLatRefIdeal (hFfnLatRefIdeal := Cert.FfnLatRefIdeal.Gen.facts) := fun m g _ =>
  (θ_run _ _ _).mono (fun r h => ⟨fun c => (h c).2, sem_eq_zero_of_no_sems (by decide) r.2⟩)
    (Cert.FfnLatRefIdeal.Value.run m g)

theorem ffnFirstRef_frame : Cert.quiescent_FfnFirstRefIdeal (hFfnFirstRefIdeal := Cert.FfnFirstRefIdeal.Gen.facts) := fun m g _ =>
  (θ_run _ _ _).mono (fun r h => ⟨fun c => (h c).2, sem_eq_zero_of_no_sems (by decide) r.2⟩)
    (Cert.FfnFirstRefIdeal.Value.run m g)

theorem ffnMidRef_frame : Cert.quiescent_FfnMidRefIdeal (hFfnMidRefIdeal := Cert.FfnMidRefIdeal.Gen.facts) := fun m g _ =>
  (θ_run _ _ _).mono (fun r h => ⟨fun c => (h c).2, sem_eq_zero_of_no_sems (by decide) r.2⟩)
    (Cert.FfnMidRefIdeal.Value.run m g)

theorem projRef_frame : Cert.quiescent_ProjRefIdeal (hProjRefIdeal := Cert.ProjRefIdeal.Gen.facts) := fun m g _ =>
  (θ_run _ _ _).mono (fun r h => ⟨fun c => (h c).2.2.2, sem_eq_zero_of_no_sems (by decide) r.2⟩)
    (Cert.ProjRefIdeal.Value.run m g)

theorem inRef_frame : Cert.quiescent_InRefIdeal (hInRefIdeal := Cert.InRefIdeal.Gen.facts) := fun m g _ =>
  (θ_run _ _ _).mono (fun r h => ⟨fun c => (h c).2.2.2.2.2.2, sem_eq_zero_of_no_sems (by decide) r.2⟩)
    (Cert.InRefIdeal.Value.run m g)

theorem rotRef_frame : Cert.quiescent_RotRefIdeal (hRotRefIdeal := Cert.RotRefIdeal.Gen.facts) := fun m g _ =>
  (θ_run _ _ _).mono (fun r h => ⟨fun c => (h c).2.2.2, sem_eq_zero_of_no_sems (by decide) r.2⟩)
    (Cert.RotRefIdeal.Value.run m g)

end Cert.Proof

end
-- ==== Proof.AttnHead.lean ====
module

public import proofs.«01_k».proof.Proof.Gen.AttnIdeal.Value
public import Idealize.ShloMosaic.Lib.Pipeline.ValueKit
public import Idealize.ShloMosaic.Lib.Pointwise

@[expose] public section

set_option maxRecDepth 16384

noncomputable section

namespace Cert.AttnIdeal.Value

open Cert.AttnIdeal Cert.AttnIdeal.Gen Idealize.ShloMosaic Idealize.ShloMosaic.TcCoe Idealize.SL.Sem

/-- The scores of one head: the queries against the keys, contracted over 128 lanes. -/
def scores (q kx : FVec Ideal S256x128 .bf16) : FVec Ideal S256x256 .f32 :=
  matmul dot_S256x128_S256x128_S256x256_1_1_0_0_n_n none q kx (constant S256x256 .f32 0x00000000#32)

/-- The row maximum of the scores and the sink. -/
def top (s : FVec Ideal S256x256 .f32) (sk : Ideal .f32) : FVec Ideal S256x1 .f32 :=
  maximumf (shapeCast S256x1 (multiReduction .maximumf [1] S256 s 0xFF800000#32 reduces_S256x256_S256 (.inl rfl) rfl)
    shapeCasts_S256_S256x1) (broadcast S256x1 sk)

/-- The exponentials of the scores below their row maximum. -/
def expo (s : FVec Ideal S256x256 .f32) (mx : FVec Ideal S256x1 .f32) : FVec Ideal S256x256 .f32 :=
  exp (subf s (broadcastTo S256x256 mx broadcasts_S256x1_S256x256))

/-- The row sums of the exponentials, the sink among them. -/
def total (p : FVec Ideal S256x256 .f32) (mx : FVec Ideal S256x1 .f32) (sk : Ideal .f32) : FVec Ideal S256x1 .f32 :=
  addf (shapeCast S256x1 (multiReduction .add [1] S256 p 0x00000000#32 reduces_S256x256_S256 (.inl rfl) rfl)
    shapeCasts_S256_S256x1) (exp (subf (broadcast S256x1 sk) mx))

/-- One head's part of a 128-column piece. -/
def head (q kx vx : FVec Ideal S256x128 .bf16) (sk : Ideal .f32) : FVec Ideal S256x128 .f32 :=
  mulf (matmul dot_S256x256_S256x128_S256x128_1_0_0_1_n_n none
      (truncf .bf16 (expo (scores q kx) (top (scores q kx) sk)) bitsLt_bf16_f32) vx
      (constant S256x128 .f32 0x00000000#32))
    (broadcastTo S256x128 (divf (broadcast S256x1 (Scalar.ofBits .f32 0x3F800000#32))
      (total (expo (scores q kx) (top (scores q kx) sk)) (top (scores q kx) sk) sk)) broadcasts_S256x1_S256x128)

theorem scores_at (q kx : FVec Ideal S256x128 .bf16) (r k : Fin 256) :
    scores q kx (ix2 r k) = ∑ d : Fin 128, q (ix2 r d) * kx (ix2 k d) := by
  pointwise [scores]

/-- The maximum of a row of scores and its sink, from below. -/
def mxOf (s : Fin 256 → EReal) (sk : EReal) : EReal :=
  max (Finset.fold max (Ideal.ofBits FTy.f32 0xFF800000#32) s Finset.univ) sk

/-- One entry of one head's output: exponentials below the maximum, their weighted sum over their total. -/
def att (s : Fin 256 → EReal) (sk : EReal) (v : Fin 256 → EReal) : EReal :=
  (∑ x, Ideal.exp (s x - mxOf s sk) * v x) *
    Ideal.div 1 (∑ x, Ideal.exp (s x - mxOf s sk) + Ideal.exp (sk - mxOf s sk))

theorem top_at (s : FVec Ideal S256x256 .f32) (sk : Ideal .f32) (r : Fin 256) (z : Fin 1) :
    top s sk (ix2 r z) = mxOf (fun k => s (ix2 r k)) sk := by
  pointwise [top]
  rfl

theorem expo_at (s : FVec Ideal S256x256 .f32) (mx : FVec Ideal S256x1 .f32) (r k : Fin 256) :
    expo s mx (ix2 r k) = Ideal.exp (s (ix2 r k) - mx (ix2 r 0)) := by
  pointwise [expo]

theorem total_at (p : FVec Ideal S256x256 .f32) (mx : FVec Ideal S256x1 .f32) (sk : Ideal .f32) (r : Fin 256) (z : Fin 1) :
    total p mx sk (ix2 r z) = ∑ x, p (ix2 r x) + Ideal.exp (sk - mx (ix2 r z)) := by
  pointwise [total]

theorem head_at (q kx vx : FVec Ideal S256x128 .bf16) (sk : Ideal .f32) (r : Fin 256) (l : Fin 128) :
    head q kx vx sk (ix2 r l) =
      att (fun k => ∑ d : Fin 128, q (ix2 r d) * kx (ix2 k d)) sk (fun k => vx (ix2 k l)) := by
  pointwise [head]
  simp only [expo_at, total_at, top_at, scores_at]
  rfl

/-! ### The two zero-padded copies of a 64-column group -/

/-- A group's 64 values in the lower lanes, zeros above. -/
def loF (f : Fin 64 → EReal) (l : Fin 128) : EReal := if (l : ℕ) < 64 then f ⟨l % 64, by omega⟩ else 0
/-- A group's 64 values in the upper lanes, zeros below. -/
def hiF (f : Fin 64 → EReal) (l : Fin 128) : EReal := if (l : ℕ) < 64 then 0 else f ⟨l % 64, by omega⟩

theorem lt64 : ∀ l : Fin 128, IntOp.cmpi CmpIPredicate.slt (BitVec.ofNat 32 (l : ℕ)) 64#32 = if (l : ℕ) < 64 then 1#1 else 0#1 := by
  decide +kernel

theorem select_lane (l : Fin 128) (a b : EReal) :
    Scalar.select (IntOp.cmpi CmpIPredicate.slt (BitVec.ofNat 32 (l : ℕ)) 64#32) a b = if (l : ℕ) < 64 then a else b := by
  rw [lt64]
  split <;> rfl

def zlanes : FVec Ideal S256x128 .f32 := broadcast S256x128 (Scalar.ofBits .f32 0x00000000#32)
def turned (S : FVec Ideal S256x128 .f32) : FVec Ideal S256x128 .f32 := dynamicRotate 1 64#32 none S rotates_S256x128_d1
def sl0 (X : Vec Ideal S256x256 .f32) : FVec Ideal S256x128 .f32 := extractStridedSlice S256x128 ![0, 0] X slices_S256x256_o0_0_S256x128
def sl1 (X : Vec Ideal S256x256 .f32) : FVec Ideal S256x128 .f32 := extractStridedSlice S256x128 ![0, 128] X slices_S256x256_o0_128_S256x128
def lowOf (S : FVec Ideal S256x128 .f32) : FVec Ideal S256x128 .bf16 := truncf .bf16 (select k0_pay1 S zlanes) bitsLt_bf16_f32
def highOf (S : FVec Ideal S256x128 .f32) : FVec Ideal S256x128 .bf16 := truncf .bf16 (select k0_pay1 zlanes S) bitsLt_bf16_f32

/-- Column `d` of group `g`. -/
def col (g : Fin 4) (d : Fin 64) : Fin 256 := ⟨64 * g + d, by omega⟩

theorem lowOf_at (S : FVec Ideal S256x128 .f32) (k : Fin 256) (l : Fin 128) :
    lowOf S (ix2 k l) = if (l : ℕ) < 64 then S (ix2 k l) else 0 := by
  pointwise [lowOf, zlanes, k0_pay1]
  exact select_lane l _ _

theorem highOf_at (S : FVec Ideal S256x128 .f32) (k : Fin 256) (l : Fin 128) :
    highOf S (ix2 k l) = if (l : ℕ) < 64 then 0 else S (ix2 k l) := by
  pointwise [highOf, zlanes, k0_pay1]
  exact select_lane l _ _

theorem even0 (X : Vec Ideal S256x256 .f32) (k : Fin 256) (l : Fin 128) :
    lowOf (sl0 X) (ix2 k l) = loF (fun d => X (ix2 k (col 0 d))) l := by
  rw [lowOf_at, loF]; split
  · pointwise [sl0]; blk_ext [col]
  · rfl
theorem odd0 (X : Vec Ideal S256x256 .f32) (k : Fin 256) (l : Fin 128) :
    highOf (turned (sl0 X)) (ix2 k l) = hiF (fun d => X (ix2 k (col 0 d))) l := by
  rw [highOf_at, hiF]; split
  · rfl
  · pointwise [turned, sl0]; blk_ext [col]
theorem even1 (X : Vec Ideal S256x256 .f32) (k : Fin 256) (l : Fin 128) :
    lowOf (turned (sl0 X)) (ix2 k l) = loF (fun d => X (ix2 k (col 1 d))) l := by
  rw [lowOf_at, loF]; split
  · pointwise [turned, sl0]; blk_ext [col]
  · rfl
theorem odd1 (X : Vec Ideal S256x256 .f32) (k : Fin 256) (l : Fin 128) :
    highOf (sl0 X) (ix2 k l) = hiF (fun d => X (ix2 k (col 1 d))) l := by
  rw [highOf_at, hiF]; split
  · rfl
  · pointwise [sl0]; blk_ext [col]
theorem even2 (X : Vec Ideal S256x256 .f32) (k : Fin 256) (l : Fin 128) :
    lowOf (sl1 X) (ix2 k l) = loF (fun d => X (ix2 k (col 2 d))) l := by
  rw [lowOf_at, loF]; split
  · pointwise [sl1]; blk_ext [col]
  · rfl
theorem odd2 (X : Vec Ideal S256x256 .f32) (k : Fin 256) (l : Fin 128) :
    highOf (turned (sl1 X)) (ix2 k l) = hiF (fun d => X (ix2 k (col 2 d))) l := by
  rw [highOf_at, hiF]; split
  · rfl
  · pointwise [turned, sl1]; blk_ext [col]
theorem even3 (X : Vec Ideal S256x256 .f32) (k : Fin 256) (l : Fin 128) :
    lowOf (turned (sl1 X)) (ix2 k l) = loF (fun d => X (ix2 k (col 3 d))) l := by
  rw [lowOf_at, loF]; split
  · pointwise [turned, sl1]; blk_ext [col]
  · rfl
theorem odd3 (X : Vec Ideal S256x256 .f32) (k : Fin 256) (l : Fin 128) :
    highOf (sl1 X) (ix2 k l) = hiF (fun d => X (ix2 k (col 3 d))) l := by
  rw [highOf_at, hiF]; split
  · rfl
  · pointwise [sl1]; blk_ext [col]

theorem sum_lo (a : Fin 128 → EReal) (f : Fin 64 → EReal) :
    ∑ l : Fin 128, a l * loF f l = ∑ d : Fin 64, a ⟨d, by omega⟩ * f d := by
  rw [show (∑ l : Fin 128, a l * loF f l) = ∑ l : Fin (64 + 64), a l * loF f l from rfl, Fin.sum_univ_add]
  have h2 : ∀ d : Fin 64, a (Fin.natAdd 64 d) * loF f (Fin.natAdd 64 d) = 0 := fun d => by
    rw [loF, if_neg (by simp), mul_zero]
  rw [Finset.sum_congr rfl fun d _ => h2 d, Finset.sum_const_zero, add_zero]
  refine Finset.sum_congr rfl fun d _ => ?_
  rw [loF, if_pos (by simp)]
  congr 2
  exact Fin.ext (Nat.mod_eq_of_lt d.isLt)

theorem sum_hi (a : Fin 128 → EReal) (f : Fin 64 → EReal) :
    ∑ l : Fin 128, a l * hiF f l = ∑ d : Fin 64, a ⟨64 + d, by omega⟩ * f d := by
  rw [show (∑ l : Fin 128, a l * hiF f l) = ∑ l : Fin (64 + 64), a l * hiF f l from rfl, Fin.sum_univ_add]
  have h2 : ∀ d : Fin 64, a (Fin.castAdd 64 d) * hiF f (Fin.castAdd 64 d) = 0 := fun d => by
    rw [hiF, if_pos (by simp), mul_zero]
  rw [Finset.sum_congr rfl fun d _ => h2 d, Finset.sum_const_zero, zero_add]
  refine Finset.sum_congr rfl fun d _ => ?_
  rw [hiF, if_neg (by simp)]
  congr 2
  refine Fin.ext ?_
  show (64 + (d : ℕ)) % 64 = d
  omega

theorem att_zero (s : Fin 256 → EReal) (sk : EReal) : att s sk (fun _ => 0) = 0 := by
  unfold att
  simp only [mul_zero, Finset.sum_const_zero, zero_mul]

/-- A 128-column piece holds two heads of one group side by side. -/
theorem piece_at (q kA kB vA vB : FVec Ideal S256x128 .bf16) (s0 s1 : Ideal .f32) (K V : Fin 256 → Fin 64 → EReal)
    (hkA : ∀ k l, kA (ix2 k l) = loF (K k) l) (hkB : ∀ k l, kB (ix2 k l) = hiF (K k) l)
    (hvA : ∀ k l, vA (ix2 k l) = loF (V k) l) (hvB : ∀ k l, vB (ix2 k l) = hiF (V k) l)
    (r : Fin 256) (l : Fin 128) :
    truncf (F := Ideal) .bf16 (addf (head q kA vA s0) (head q kB vB s1)) bitsLt_bf16_f32 (ix2 r l) =
      att (fun k => ∑ d : Fin 64, q (ix2 r ⟨64 * (l / 64) + d, by omega⟩) * K k d)
        (if (l : ℕ) < 64 then s0 else s1) (fun k => V k ⟨l % 64, by omega⟩) := by
  pointwise
  rw [head_at, head_at]
  simp only [hkA, hkB, hvA, hvB, sum_lo, sum_hi]
  by_cases h : (l : ℕ) < 64
  · simp only [hiF, loF, if_pos h, att_zero, add_zero]
    have e : (l : ℕ) / 64 = 0 := by omega
    simp only [e, Nat.mul_zero, Nat.zero_add]
  · simp only [hiF, loF, if_neg h, att_zero, zero_add]
    have e : (l : ℕ) / 64 = 1 := by omega
    simp only [e, Nat.mul_one]

end Cert.AttnIdeal.Value
-- ==== Proof.AttnSoftmax.lean ====
module

public import proofs.«01_k».proof.Proof.AttnHead

@[expose] public section

set_option maxRecDepth 16384

noncomputable section

namespace Cert.AttnIdeal.Value

open Idealize.ShloMosaic

theorem bot_bits : Ideal.ofBits FTy.f32 0xFF800000#32 = ⊥ := by simp [Ideal.ofBits, Ideal.ieee]

theorem coe_sum' {n : ℕ} (r : Fin n → ℝ) : ∑ x, ((r x : ℝ) : EReal) = ((∑ x, r x : ℝ) : EReal) := by
  induction n with
  | zero => simp
  | succ n ih => rw [Fin.sum_univ_succ, Fin.sum_univ_succ, ih, EReal.coe_add]

theorem sum_mul_coe {n : ℕ} (a : Fin n → EReal) (c : ℝ) (hc : 0 ≤ c) :
    ∑ x, a x * (c : EReal) = (∑ x, a x) * (c : EReal) := by
  induction n with
  | zero => simp
  | succ n ih =>
    rw [Fin.sum_univ_succ, Fin.sum_univ_succ, ih,
      EReal.right_distrib_of_nonneg_of_ne_top (by exact_mod_cast hc) (EReal.coe_ne_top c)]

/-- The scores with the sink's beside them. -/
def withSink {n : ℕ} (s : Fin n → EReal) (sk : EReal) (x : Fin (n + 1)) : EReal :=
  if h : (x : ℕ) < n then s ⟨x, h⟩ else sk

theorem withSink_castSucc {n : ℕ} (s : Fin n → EReal) (sk : EReal) (x : Fin n) : withSink s sk x.castSucc = s x := by
  unfold withSink; rw [dif_pos (by simp)]; rfl
theorem withSink_last {n : ℕ} (s : Fin n → EReal) (sk : EReal) : withSink s sk (Fin.last n) = sk := by
  unfold withSink; rw [dif_neg (by simp)]

theorem fold_withSink (s : Fin 256 → EReal) (sk : EReal) :
    max (Ideal.ofBits FTy.f32 0xFF800000#32) (Finset.fold max (Ideal.ofBits FTy.f32 0xFF800000#32) (withSink s sk) Finset.univ)
      = mxOf s sk := by
  refine eq_of_forall_ge_iff fun c => ?_
  simp only [mxOf, max_le_iff, Finset.fold_max_le, Finset.mem_univ, true_imp_iff, bot_bits, bot_le, true_and,
    Fin.forall_fin_succ', withSink_castSucc, withSink_last]

theorem mxOf_real (s : Fin 256 → EReal) (sk : EReal) (hs : ∀ k, s k ≠ ⊤) (hb : ∃ k, s k ≠ ⊥) (hsk : sk ≠ ⊤) :
    ∃ r : ℝ, mxOf s sk = r := by
  have h1 : mxOf s sk < ⊤ := by
    simp only [mxOf, max_lt_iff, Finset.fold_max_lt, Finset.mem_univ, true_imp_iff, bot_bits, bot_lt_top, true_and]
    exact ⟨fun k => lt_top_iff_ne_top.2 (hs k), lt_top_iff_ne_top.2 hsk⟩
  have h2 : ⊥ < mxOf s sk := by
    obtain ⟨k, hk⟩ := hb
    refine lt_of_lt_of_le (bot_lt_iff_ne_bot.2 hk) ?_
    exact le_max_of_le_left (Finset.le_fold_max _ |>.2 (Or.inr ⟨k, Finset.mem_univ _, le_rfl⟩))
  exact ⟨(mxOf s sk).toReal, (EReal.coe_toReal h1.ne h2.ne').symm⟩

theorem exp_real (a : EReal) (M : ℝ) (ha : a ≠ ⊤) : ∃ r : ℝ, 0 ≤ r ∧ (a ≠ ⊥ → 0 < r) ∧ Ideal.exp (a - M) = r := by
  induction a with
  | bot => exact ⟨0, le_rfl, fun h => absurd rfl h, by rw [EReal.bot_sub]; simp⟩
  | top => exact absurd rfl ha
  | coe a => exact ⟨Real.exp (a - M), (Real.exp_pos _).le, fun _ => Real.exp_pos _, by rw [← EReal.coe_sub]; rfl⟩

/-- The total of the exponentials is a positive real. -/
theorem total_real (s : Fin 256 → EReal) (sk : EReal) (hs : ∀ k, s k ≠ ⊤) (hb : ∃ k, s k ≠ ⊥) (hsk : sk ≠ ⊤) :
    ∃ d : ℝ, 0 < d ∧ ∑ x, Ideal.exp (s x - mxOf s sk) + Ideal.exp (sk - mxOf s sk) = d := by
  obtain ⟨M, hM⟩ := mxOf_real s sk hs hb hsk
  rw [hM]
  obtain ⟨k, hk⟩ := hb
  choose r hr0 hr1 hr using fun x => exp_real (s x) M (hs x)
  obtain ⟨e, he0, -, he⟩ := exp_real sk M hsk
  refine ⟨∑ x, r x + e, ?_, ?_⟩
  · have : 0 < ∑ x, r x := Finset.sum_pos' (fun x _ => hr0 x) ⟨k, Finset.mem_univ _, hr1 k hk⟩
    linarith
  · simp only [hr, he, coe_sum', EReal.coe_add]

theorem sum_withSink (s : Fin 256 → EReal) (sk M : EReal) :
    ∑ x, Ideal.exp (withSink s sk x - M) = ∑ x, Ideal.exp (s x - M) + Ideal.exp (sk - M) := by
  rw [Fin.sum_univ_castSucc]
  simp only [withSink_castSucc, withSink_last]

/-- Dividing each weight by the total, or the weighted sum once: the same when the total is a positive real. -/
theorem softmax_att (s : Fin 256 → EReal) (sk : EReal) (v : Fin 256 → EReal)
    (hs : ∀ k, s k ≠ ⊤) (hb : ∃ k, s k ≠ ⊥) (hsk : sk ≠ ⊤) :
    ∑ x, v x * Ideal.div (Ideal.exp (s x - mxOf s sk)) (∑ x, Ideal.exp (withSink s sk x - mxOf s sk)) = att s sk v := by
  obtain ⟨d, hd, hD⟩ := total_real s sk hs hb hsk
  unfold att
  rw [sum_withSink, hD]
  simp only [Ideal.div_coe hd.ne']
  rw [one_mul, ← sum_mul_coe _ _ (by positivity)]
  refine Finset.sum_congr rfl fun x _ => ?_
  rw [← mul_assoc, mul_comm (v x)]

theorem sum_prod_real {n : ℕ} (a b : Fin n → EReal) (ha : ∀ d, a d ≠ ⊤ ∧ a d ≠ ⊥) (hb : ∀ d, b d ≠ ⊤ ∧ b d ≠ ⊥) :
    ∑ d, a d * b d ≠ ⊤ ∧ ∑ d, a d * b d ≠ ⊥ := by
  have h : ∑ d, a d * b d = ((∑ d, (a d).toReal * (b d).toReal : ℝ) : EReal) := by
    rw [← coe_sum']
    refine Finset.sum_congr rfl fun d _ => ?_
    rw [EReal.coe_mul, EReal.coe_toReal (ha d).1 (ha d).2, EReal.coe_toReal (hb d).1 (hb d).2]
  rw [h]
  exact ⟨EReal.coe_ne_top _, EReal.coe_ne_bot _⟩

end Cert.AttnIdeal.Value
-- ==== Proof.AttnRef.lean ====
module

public import proofs.«01_k».proof.Proof.Gen.AttnRefIdeal.Read
public import proofs.«01_k».proof.Proof.AttnSoftmax
public import Idealize.ShloMosaic.Lib.Pipeline.ValueKit
public import Idealize.ShloMosaic.Lib.Pointwise

@[expose] public section

set_option maxRecDepth 16384

noncomputable section

namespace Cert.AttnIdeal.Value

open Cert.AttnIdeal Idealize.ShloMosaic

/-- What both programs compute: row `R`, column `C` of the output is head `C / 64` of its 256-row block. -/
def attnArr (q : FVec Ideal S8192x1024 .bf16) (k v : FVec Ideal S8192x256 .f32) (sink : FVec Ideal S4x4 .f32)
    (R : Fin 8192) (C : Fin 1024) : EReal :=
  att (fun x => ∑ d : Fin 64, q (ix2 R ⟨64 * (C / 64) + d, by omega⟩) *
      k (ix2 ⟨256 * (R / 256) + x, by omega⟩ (col ⟨C / 256, by omega⟩ d)))
    (sink (ix2 ⟨C / 256, by omega⟩ ⟨C / 64 % 4, by omega⟩))
    (fun x => v (ix2 ⟨256 * (R / 256) + x, by omega⟩ (col ⟨C / 256, by omega⟩ ⟨C % 64, by omega⟩)))

end Cert.AttnIdeal.Value

namespace Cert.AttnRefIdeal.Read

open Cert.AttnRefIdeal Cert.AttnRefIdeal.Gen Idealize.ShloMosaic Idealize.ShloMosaic.TcCoe Idealize.SL.Sem Idealize.ShloMosaic.StableHlo
open Cert.AttnIdeal.Value (att mxOf col withSink)

variable (q : FVec Ideal S8192x1024 .bf16) (k v : FVec Ideal S8192x256 .f32) (sink : FVec Ideal S4x4 .f32)

/-- The scores of query row `b` of block `n` for head `(g, i)`. -/
def sc (n : Fin 32) (g i : Fin 4) (b : Fin 256) (x : Fin 256) : EReal :=
  ∑ d : Fin 64, k (ix2 ⟨n * 256 + x, by omega⟩ ⟨g * 64 + d, by omega⟩) * q (ix2 ⟨n * 256 + b, by omega⟩ ⟨g * 256 + i * 64 + d, by omega⟩)

theorem v8_at (n : Fin 32) (g i : Fin 4) (b : Fin 256) (x : Fin 257) :
    val_main_v8 (F := Ideal) q k sink (ix5 n g i b x) = withSink (sc q k n g i b) (sink (ix2 g i)) x := by
  pointwise [val_main_v8, val_main_v5, val_main_v4, val_main_v2, val_main_v1, val_main_v0, val_main_v7, val_main_v6]
  rfl

theorem red_at (X : FVec Ideal S32x4x4x256x257 .f32) (z : FVec Ideal S_ .f32) (n : Fin 32) (g i : Fin 4) (b : Fin 256) :
    Host.reduce FloatOps.maximumf X z reducesTo_S32x4x4x256x257_S32x4x4x256_d4 h_S_ (ix4 n g i b) =
      Finset.fold max (z (Shape.Idx.first h_S_)) (fun x => X (ix5 n g i b x)) Finset.univ := by
  pointwise

theorem cst_at (i : S_.Idx) : val_main_cst (F := Ideal) i = Ideal.ofBits FTy.f32 0xFF800000#32 := by
  pointwise [val_main_cst]

theorem red2_at (X : FVec Ideal S32x4x4x256x257 .f32) (z : FVec Ideal S_ .f32) (e : EReal) (hz : ∀ i, z i = e)
    (s : Fin 257 → EReal) (n : Fin 32) (g i : Fin 4) (b : Fin 256) (h : ∀ x, X (ix5 n g i b x) = s x) :
    Host.reduce FloatOps.maximumf X z reducesTo_S32x4x4x256x257_S32x4x4x256_d4 h_S_ (ix4 n g i b) =
      Finset.fold max e s Finset.univ := by
  rw [red_at, hz]
  simp only [h]

theorem v9_of (n : Fin 32) (g i : Fin 4) (b : Fin 256) (s : Fin 257 → EReal)
    (h : ∀ x, val_main_v8 (F := Ideal) q k sink (ix5 n g i b x) = s x) :
    val_main_v9 (F := Ideal) q k sink (ix4 n g i b) = Finset.fold max (Ideal.ofBits FTy.f32 0xFF800000#32) s Finset.univ := by
  unfold val_main_v9
  generalize val_main_v8 (F := Ideal) q k sink = X at h ⊢
  exact red2_at X _ _ cst_at s n g i b h

theorem v9_at (n : Fin 32) (g i : Fin 4) (b : Fin 256) :
    val_main_v9 (F := Ideal) q k sink (ix4 n g i b) =
      Finset.fold max (Ideal.ofBits FTy.f32 0xFF800000#32) (withSink (sc q k n g i b) (sink (ix2 g i))) Finset.univ :=
  v9_of q k sink n g i b _ (v8_at q k sink n g i b)

theorem v10_at (i : S32x4x4x256.Idx) : val_main_v10 (F := Ideal) i = Ideal.ofBits FTy.f32 0xFF800000#32 := by
  rw [val_main_v10_apply]
  pointwise [val_main_cst_0]

theorem max_of (X Y : FVec Ideal S32x4x4x256 .f32) (i : S32x4x4x256.Idx) (a b : EReal) (ha : X i = a) (hb : Y i = b) :
    maximumf (F := Ideal) X Y i = max a b := by
  rw [← ha, ← hb]
  rfl

theorem v11_at (n : Fin 32) (g i : Fin 4) (b : Fin 256) :
    val_main_v11 (F := Ideal) q k sink (ix4 n g i b) = mxOf (sc q k n g i b) (sink (ix2 g i)) := by
  rw [← Cert.AttnIdeal.Value.fold_withSink]
  have h := v9_at q k sink n g i b
  unfold val_main_v11
  generalize val_main_v9 (F := Ideal) q k sink = Y at h ⊢
  exact max_of _ Y _ _ _ (v10_at _) h

theorem v3_at (n : Fin 32) (b : Fin 256) (g : Fin 4) (d : Fin 64) :
    val_main_v3 (F := Ideal) v (ix4 n b g d) = v (ix2 ⟨n * 256 + b, by omega⟩ ⟨g * 64 + d, by omega⟩) := by
  pointwise [val_main_v3]

theorem v15_at (n : Fin 32) (g i : Fin 4) (b : Fin 256) (x : Fin 257) :
    val_main_v15 (F := Ideal) q k sink (ix5 n g i b x) =
      Ideal.exp (withSink (sc q k n g i b) (sink (ix2 g i)) x - mxOf (sc q k n g i b) (sink (ix2 g i))) := by
  rw [← v8_at, ← v11_at]
  pointwise [val_main_v15, val_main_v14, val_main_v13, val_main_v12]

theorem v16_at (n : Fin 32) (g i : Fin 4) (b : Fin 256) :
    val_main_v16 (F := Ideal) q k sink (ix4 n g i b) =
      ∑ x, Ideal.exp (withSink (sc q k n g i b) (sink (ix2 g i)) x - mxOf (sc q k n g i b) (sink (ix2 g i))) := by
  simp only [← v15_at]
  pointwise [val_main_v16, val_main_cst_1]

theorem v20_at (n : Fin 32) (g i : Fin 4) (b x : Fin 256) :
    val_main_v20 (F := Ideal) q k sink (ix5 n g i b x) =
      Ideal.div (val_main_v15 (F := Ideal) q k sink (ix5 n g i b ⟨x, by omega⟩)) (val_main_v16 (F := Ideal) q k sink (ix4 n g i b)) := by
  pointwise [val_main_v20, val_main_v19, val_main_v18, val_main_v17]

theorem sc_eq (R : Fin 8192) (C : Fin 1024) :
    sc q k ⟨R / 256, by omega⟩ ⟨C / 256, by omega⟩ ⟨C / 64 % 4, by omega⟩ ⟨R % 256, by omega⟩ = fun x : Fin 256 =>
      ∑ d : Fin 64, q (ix2 R ⟨64 * (C / 64) + d, by omega⟩) *
        k (ix2 ⟨256 * (R / 256) + x, by omega⟩ (col ⟨C / 256, by omega⟩ d)) := by
  funext x
  refine Finset.sum_congr rfl fun d _ => ?_
  rw [mul_comm]
  refine Ideal.mul_congr ?_ ?_
  · blk_ext
  · blk_ext [col]

theorem v24_at (hq : ∀ i, q i ≠ ⊤ ∧ q i ≠ ⊥) (hk : ∀ i, k i ≠ ⊤ ∧ k i ≠ ⊥) (hs : ∀ i, sink i ≠ ⊤) (R : Fin 8192) (C : Fin 1024) :
    val_main_v24 (F := Ideal) q k v sink (ix2 R C) = Cert.AttnIdeal.Value.attnArr q k v sink R C := by
  pointwise [val_main_v24, val_main_v23, val_main_v22, val_main_v21]
  simp only [v3_at, v20_at, v15_at, v16_at, sc_eq]
  unfold Cert.AttnIdeal.Value.attnArr
  rw [← Cert.AttnIdeal.Value.softmax_att]
  · refine Finset.sum_congr rfl fun x _ => ?_
    refine Ideal.mul_congr ?_ ?_
    · blk_ext [col]
    · exact congrArg (fun z => Ideal.div (Ideal.exp (z - _)) _) (Cert.AttnIdeal.Value.withSink_castSucc _ _ x)
  · exact fun x => (Cert.AttnIdeal.Value.sum_prod_real _ _ (fun d => hq _) (fun d => hk _)).1
  · exact ⟨0, (Cert.AttnIdeal.Value.sum_prod_real _ _ (fun d => hq _) (fun d => hk _)).2⟩
  · exact hs _

end Cert.AttnRefIdeal.Read
-- ==== Proof.AttnFinal.lean ====
module

public import proofs.«01_k».proof.Proof.AttnRef

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0] ∧ win0_1.index t = ![t.val, 0] ∧ win0_2.index t = ![t.val, 0]
    ∧ win0_3.index t = ![t.val, 0] ∧ win0_4.index t = ![t.val, 0] :=
  (by decide +kernel : ∀ t : Fin grid0.N, _)

/-- The output array as a function of the argument arrays. -/
def out (c : Dev nD) : FVec Ideal S8192x1024 .bf16 := fun i =>
  attnArr (m ((c : Thread nD τ).loc main_arg0)) (m ((c : Thread nD τ).loc main_arg1)) (m ((c : Thread nD τ).loc main_arg2))
    (m ((c : Thread nD τ).loc main_arg3)) (i 0) (i 1)

/-- The sinks, as the kernel reads them. -/
theorem sink_at (c : Dev nD) (t : Fin cfg0.N) (h : Fin 16) :
    iblk m c 0 t (ix1 h) = m ((c : Thread nD τ).loc main_arg3) (ix2 ⟨h / 4, by omega⟩ ⟨h % 4, by omega⟩) := by
  blk_simp [iblk, idx t]
  entry_read
  pointwise
  blk_point [idx t]

theorem sink_of (c : Dev nD) (t : Fin cfg0.N) (h : Fin 16) (a b : Fin 4) (ha : (a : ℕ) = h / 4) (hb : (b : ℕ) = h % 4) :
    iblk m c 0 t (ix1 h) = m ((c : Thread nD τ).loc main_arg3) (ix2 a b) := by
  rw [sink_at]
  exact congrArg _ (congrArg₂ ix2 (Fin.ext ha.symm) (Fin.ext hb.symm))

theorem sink_ld (c : Dev nD) (t : Fin cfg0.N) (i : S16.Idx) (h : Fin 16) (j : S8192x1024.Idx) (hi : (i 0 : ℕ) = h)
    (y1 : ℕ) (hy : y1 / 64 = h) (hj : (j 1 : ℕ) = y1) :
    iblk m c 0 t i = m ((c : Thread nD τ).loc main_arg3) (ix2 ⟨(j 1 : ℕ) / 256, by have := (j 1).isLt; show (j 1 : ℕ) / 256 < 4; change (j 1 : ℕ) < 1024 at this; omega⟩ ⟨(j 1 : ℕ) / 64 % 4, by omega⟩) := by
  rw [← sink_of m c t h _ _ (by show (j 1 : ℕ) / 256 = h / 4; omega) (by show (j 1 : ℕ) / 64 % 4 = h % 4; omega)]
  refine congrArg (iblk m c 0 t) (funext fun a => ?_)
  match a with
  | ⟨0, _⟩ => exact Fin.ext hi

theorem emb1 (t : Fin cfg0.N) (y : ((cfg0.win 4).xblock (cfg0.grid.coords t)).Idx) :
    ((((win0_4).blk t).view.emb y) 1 : ℕ) = y 1 := by
  blk_simp [idx t]

theorem att_congr {s s' : Fin 256 → EReal} {sk sk' : EReal} {v v' : Fin 256 → EReal} (hs : ∀ k, s k = s' k) (hk : sk = sk')
    (hv : ∀ k, v k = v' k) : att s sk v = att s' sk' v' := by
  rw [funext hs, hk, funext hv]

theorem final (c : Dev nD) : (dats m 0 c).arrAt 4 (cfgs 0).N = out m c := by
  refine (dats m 0 c).arrAt_eq_of_covers 4 _ (by decide +kernel) fun t _ y => ?_
  blk_simp
  rw [after0_4]
  unfold outsAt0
  unfold out0_A_4
  frame_out
  canon_tiles x h
  case piece7 =>
    refine (congrFun (show _ = truncf (F := Ideal) .bf16 (addf (head _ (lowOf (sl0 _)) (lowOf (sl0 _)) _)
       (head _ (highOf (turned (sl0 _))) (highOf (turned (sl0 _))) _)) bitsLt_bf16_f32 from rfl) _).trans ?_
    idx_vars x
    rw [piece_at _ _ _ _ _ _ _ _ _ (even0 _) (odd0 _) (even0 _) (odd0 _)]
    refine att_congr (fun k => Finset.sum_congr rfl fun d _ => Ideal.mul_congr ?_ ?_) ?_ (fun k => ?_)
    · blk_point [iblk, V, idx t]
    · blk_point [iblk, V, col, idx t]
    · split
      · exact sink_ld m c t _ ⟨0, by decide⟩ _ (by rfl) (y 1) (by show (y 1 : ℕ) / 64 = 0; omega) (by rw [emb1])
      · exact sink_ld m c t _ ⟨1, by decide⟩ _ (by rfl) (y 1) (by show (y 1 : ℕ) / 64 = 1; omega) (by rw [emb1])
    · blk_point [iblk, V, col, idx t]
  case piece6 =>
    refine (congrFun (show _ = truncf (F := Ideal) .bf16 (addf (head _ (lowOf (sl0 _)) (lowOf (sl0 _)) _)
       (head _ (highOf (turned (sl0 _))) (highOf (turned (sl0 _))) _)) bitsLt_bf16_f32 from rfl) _).trans ?_
    idx_vars x
    rw [piece_at _ _ _ _ _ _ _ _ _ (even0 _) (odd0 _) (even0 _) (odd0 _)]
    refine att_congr (fun k => Finset.sum_congr rfl fun d _ => Ideal.mul_congr ?_ ?_) ?_ (fun k => ?_)
    · blk_point [iblk, V, idx t]
    · blk_point [iblk, V, col, idx t]
    · split
      · exact sink_ld m c t _ ⟨2, by decide⟩ _ (by rfl) (y 1) (by show (y 1 : ℕ) / 64 = 2; omega) (by rw [emb1])
      · exact sink_ld m c t _ ⟨3, by decide⟩ _ (by rfl) (y 1) (by show (y 1 : ℕ) / 64 = 3; omega) (by rw [emb1])
    · blk_point [iblk, V, col, idx t]
  case piece5 =>
    refine (congrFun (show _ = truncf (F := Ideal) .bf16 (addf (head _ (lowOf (turned (sl0 _))) (lowOf (turned (sl0 _))) _)
       (head _ (highOf (sl0 _)) (highOf (sl0 _)) _)) bitsLt_bf16_f32 from rfl) _).trans ?_
    idx_vars x
    rw [piece_at _ _ _ _ _ _ _ _ _ (even1 _) (odd1 _) (even1 _) (odd1 _)]
    refine att_congr (fun k => Finset.sum_congr rfl fun d _ => Ideal.mul_congr ?_ ?_) ?_ (fun k => ?_)
    · blk_point [iblk, V, idx t]
    · blk_point [iblk, V, col, idx t]
    · split
      · exact sink_ld m c t _ ⟨4, by decide⟩ _ (by rfl) (y 1) (by show (y 1 : ℕ) / 64 = 4; omega) (by rw [emb1])
      · exact sink_ld m c t _ ⟨5, by decide⟩ _ (by rfl) (y 1) (by show (y 1 : ℕ) / 64 = 5; omega) (by rw [emb1])
    · blk_point [iblk, V, col, idx t]
  case piece4 =>
    refine (congrFun (show _ = truncf (F := Ideal) .bf16 (addf (head _ (lowOf (turned (sl0 _))) (lowOf (turned (sl0 _))) _)
       (head _ (highOf (sl0 _)) (highOf (sl0 _)) _)) bitsLt_bf16_f32 from rfl) _).trans ?_
    idx_vars x
    rw [piece_at _ _ _ _ _ _ _ _ _ (even1 _) (odd1 _) (even1 _) (odd1 _)]
    refine att_congr (fun k => Finset.sum_congr rfl fun d _ => Ideal.mul_congr ?_ ?_) ?_ (fun k => ?_)
    · blk_point [iblk, V, idx t]
    · blk_point [iblk, V, col, idx t]
    · split
      · exact sink_ld m c t _ ⟨6, by decide⟩ _ (by rfl) (y 1) (by show (y 1 : ℕ) / 64 = 6; omega) (by rw [emb1])
      · exact sink_ld m c t _ ⟨7, by decide⟩ _ (by rfl) (y 1) (by show (y 1 : ℕ) / 64 = 7; omega) (by rw [emb1])
    · blk_point [iblk, V, col, idx t]
  case piece3 =>
    refine (congrFun (show _ = truncf (F := Ideal) .bf16 (addf (head _ (lowOf (sl1 _)) (lowOf (sl1 _)) _)
       (head _ (highOf (turned (sl1 _))) (highOf (turned (sl1 _))) _)) bitsLt_bf16_f32 from rfl) _).trans ?_
    idx_vars x
    rw [piece_at _ _ _ _ _ _ _ _ _ (even2 _) (odd2 _) (even2 _) (odd2 _)]
    refine att_congr (fun k => Finset.sum_congr rfl fun d _ => Ideal.mul_congr ?_ ?_) ?_ (fun k => ?_)
    · blk_point [iblk, V, idx t]
    · blk_point [iblk, V, col, idx t]
    · split
      · exact sink_ld m c t _ ⟨8, by decide⟩ _ (by rfl) (y 1) (by show (y 1 : ℕ) / 64 = 8; omega) (by rw [emb1])
      · exact sink_ld m c t _ ⟨9, by decide⟩ _ (by rfl) (y 1) (by show (y 1 : ℕ) / 64 = 9; omega) (by rw [emb1])
    · blk_point [iblk, V, col, idx t]
  case piece2 =>
    refine (congrFun (show _ = truncf (F := Ideal) .bf16 (addf (head _ (lowOf (sl1 _)) (lowOf (sl1 _)) _)
       (head _ (highOf (turned (sl1 _))) (highOf (turned (sl1 _))) _)) bitsLt_bf16_f32 from rfl) _).trans ?_
    idx_vars x
    rw [piece_at _ _ _ _ _ _ _ _ _ (even2 _) (odd2 _) (even2 _) (odd2 _)]
    refine att_congr (fun k => Finset.sum_congr rfl fun d _ => Ideal.mul_congr ?_ ?_) ?_ (fun k => ?_)
    · blk_point [iblk, V, idx t]
    · blk_point [iblk, V, col, idx t]
    · split
      · exact sink_ld m c t _ ⟨10, by decide⟩ _ (by rfl) (y 1) (by show (y 1 : ℕ) / 64 = 10; omega) (by rw [emb1])
      · exact sink_ld m c t _ ⟨11, by decide⟩ _ (by rfl) (y 1) (by show (y 1 : ℕ) / 64 = 11; omega) (by rw [emb1])
    · blk_point [iblk, V, col, idx t]
  case piece1 =>
    refine (congrFun (show _ = truncf (F := Ideal) .bf16 (addf (head _ (lowOf (turned (sl1 _))) (lowOf (turned (sl1 _))) _)
       (head _ (highOf (sl1 _)) (highOf (sl1 _)) _)) bitsLt_bf16_f32 from rfl) _).trans ?_
    idx_vars x
    rw [piece_at _ _ _ _ _ _ _ _ _ (even3 _) (odd3 _) (even3 _) (odd3 _)]
    refine att_congr (fun k => Finset.sum_congr rfl fun d _ => Ideal.mul_congr ?_ ?_) ?_ (fun k => ?_)
    · blk_point [iblk, V, idx t]
    · blk_point [iblk, V, col, idx t]
    · split
      · exact sink_ld m c t _ ⟨12, by decide⟩ _ (by rfl) (y 1) (by show (y 1 : ℕ) / 64 = 12; omega) (by rw [emb1])
      · exact sink_ld m c t _ ⟨13, by decide⟩ _ (by rfl) (y 1) (by show (y 1 : ℕ) / 64 = 13; omega) (by rw [emb1])
    · blk_point [iblk, V, col, idx t]
  case piece0 =>
    refine (congrFun (show _ = truncf (F := Ideal) .bf16 (addf (head _ (lowOf (turned (sl1 _))) (lowOf (turned (sl1 _))) _)
       (head _ (highOf (sl1 _)) (highOf (sl1 _)) _)) bitsLt_bf16_f32 from rfl) _).trans ?_
    idx_vars x
    rw [piece_at _ _ _ _ _ _ _ _ _ (even3 _) (odd3 _) (even3 _) (odd3 _)]
    refine att_congr (fun k => Finset.sum_congr rfl fun d _ => Ideal.mul_congr ?_ ?_) ?_ (fun k => ?_)
    · blk_point [iblk, V, idx t]
    · blk_point [iblk, V, col, idx t]
    · split
      · exact sink_ld m c t _ ⟨14, by decide⟩ _ (by rfl) (y 1) (by show (y 1 : ℕ) / 64 = 14; omega) (by rw [emb1])
      · exact sink_ld m c t _ ⟨15, by decide⟩ _ (by rfl) (y 1) (by show (y 1 : ℕ) / 64 = 15; omega) (by rw [emb1])
    · blk_point [iblk, V, col, idx t]

end Cert.AttnIdeal.Value
-- ==== Proof.AttnClaim.lean ====
/- The attention's value claim: with finite queries and keys, and sink scores below infinity, the kernel's result is
   the reference's. -/
module

public import proofs.«01_k».proof.Defs
public import proofs.«01_k».proof.Proof.Gen.AttnIdeal.Value
public import proofs.«01_k».proof.Proof.Gen.AttnRefIdeal.Run
public import proofs.«01_k».proof.Proof.Gen.AttnRefIdeal.Read
public import proofs.«01_k».proof.Proof.AttnRef
public import proofs.«01_k».proof.Proof.AttnFinal
public import proofs.«01_k».proof.Proof.Pre

@[expose] public section

noncomputable section

namespace Cert.Proof

open Idealize.ShloMosaic Idealize.SL.Sem

theorem attn : Cert.algebraic_AttnIdeal_AttnRefIdeal_pre_finite_scores (hAttnIdeal := Cert.AttnIdeal.Gen.facts)
    (hAttnRefIdeal := Cert.AttnRefIdeal.Gen.facts) (hPre_finite_scores := Cert.Pre_finite_scores.facts) := by
  letI := Cert.Pre_finite_scores.facts
  intro m g m' g' hpre hagree
  refine ⟨_, Cert.AttnIdeal.Value.run_blocks m g,
    (θ_run _ _ _).mono (fun r h c => ⟨(h c).1.trans ?_, (h c).2⟩) (Cert.AttnRefIdeal.Value.run m' g')⟩
  obtain ⟨h0, h1, h2, h3⟩ := hagree c
  obtain ⟨hq, hk, hs⟩ := hpre c
  refine (Cert.AttnRefIdeal.Read.val_main_v24_eq m' c).trans ?_
  rw [h0, h1, h2, h3]
  refine Eq.trans ?_ (Cert.AttnIdeal.Value.final m c).symm
  funext i
  idx_vars i
  exact Cert.AttnRefIdeal.Read.v24_at _ _ _ _ (Cert.Pre_finite_scores.q_finite _ _ _ _ hq)
    (Cert.Pre_finite_scores.k_finite _ _ _ _ hk) (Cert.Pre_finite_scores.s_below _ _ _ _ hs) _ _

end Cert.Proof

end
-- ==== Proof.FfnTiles.lean ====
/- The feed-forward of a block of normalised rows as every half feed-forward call computes it: eleven tiles of 256 hidden
   columns added up in an accumulator. -/
module

public import proofs.«01_k».proof.Proof.Gen.FfnIdeal.Skeleton
public import proofs.«01_k».proof.Proof.Norm

@[expose] public section

set_option maxRecDepth 16384

noncomputable section

namespace Layer

open Cert.FfnIdeal Cert.FfnIdeal.Gen Idealize.ShloMosaic Idealize.ShloMosaic.TcCoe

section parts
variable (B : FVec Ideal S1x16x1024 .f32) (X : FVec Ideal S1024x2816 .bf16) (Y : FVec Ideal S2816x1024 .bf16)

/-- One modulation vector of the block of nine. -/
abbrev modPart (k : ℕ) (h : ∀ a, (![0, k, 0] : Fin 3 → ℕ) a + S1x1x1024.size a ≤ S1x16x1024.size a) :
    FVec Ideal S1x1x1024 .f32 :=
  View.ld (Val := Elt Ideal) (S := S1x16x1024) (e' := .f32) B (Rect.unit (s := S1x16x1024) ![0, k, 0] ![1, 1, 1024] h)
/-- 256 columns of a first weight. -/
abbrev colPart (k : ℕ) (h : ∀ a, (![0, k] : Fin 2 → ℕ) a + S1024x256.size a ≤ S1024x2816.size a) :
    FVec Ideal S1024x256 .bf16 :=
  View.ld (Val := Elt Ideal) (S := S1024x2816) (e' := .bf16) X (Rect.unit (s := S1024x2816) ![0, k] ![1024, 256] h)
/-- 256 rows of the second weight. -/
abbrev rowPart (k : ℕ) (h : ∀ a, (![k, 0] : Fin 2 → ℕ) a + S256x1024.size a ≤ S2816x1024.size a) :
    FVec Ideal S256x1024 .bf16 :=
  View.ld (Val := Elt Ideal) (S := S2816x1024) (e' := .bf16) Y (Rect.unit (s := S2816x1024) ![k, 0] ![256, 1024] h)
end parts

section tiles
variable (h : FVec Ideal S512x1024 .bf16) (u v : FVec Ideal S1024x256 .bf16) (w : FVec Ideal S256x1024 .bf16)
  (acc : FVec Ideal S512x1024 .f32) (r : Fin 512) (d : Fin 1024)

/-- The accumulator after the first tile. -/
def firstTile : FVec Ideal S512x1024 .f32 := k0_pay8 (k0_pay13 h u v w)
/-- The accumulator after one more tile. -/
def nextTile : FVec Ideal S512x1024 .f32 := k0_pay12 h u v w acc

/-- A tile of the feed-forward, from the block's normalised rows. -/
abbrev tile : EReal := ffVal (fun e => h (ix2 r e)) (fun e f => u (ix2 e f)) (fun e f => v (ix2 e f)) (fun f e => w (ix2 f e)) d

theorem firstTile_at : firstTile h u v w (ix2 r d) = tile h u v w r d := by
  pointwise [firstTile, k0_pay8, k0_pay13]
  rfl
theorem nextTile_at : nextTile h u v w acc (ix2 r d) = acc (ix2 r d) + tile h u v w r d := by
  pointwise [nextTile, k0_pay12]
  rfl
end tiles

/-- A tile of the feed-forward read at equal positions. -/
theorem tile_shift (h : Fin 1024 → EReal) (A B : Fin 1024 → Fin 2816 → EReal) (W : Fin 2816 → Fin 1024 → EReal)
    {p q : Fin 256 → Fin 2816} (hpq : ∀ f, (p f : ℕ) = q f) (d : Fin 1024) :
    ffVal h (fun e f => A e (p f)) (fun e f => B e (p f)) (fun f e => W (p f) e) d
      = ffVal h (fun e f => A e (q f)) (fun e f => B e (q f)) (fun f e => W (q f) e) d := by
  rw [funext fun f => Fin.ext (hpq f)]

section all
variable (h : FVec Ideal S512x1024 .bf16) (A B : FVec Ideal S1024x2816 .bf16) (W : FVec Ideal S2816x1024 .bf16)

/-- The accumulator after the eleven tiles. -/
def allTiles : FVec Ideal S512x1024 .f32 :=
  nextTile h (colPart A 2560 inb_S1024x2816_S1024x256_0_2560) (colPart B 2560 inb_S1024x2816_S1024x256_0_2560)
    (rowPart W 2560 inb_S2816x1024_S256x1024_2560_0) (nextTile h (colPart A 2304 inb_S1024x2816_S1024x256_0_2304) (colPart B 2304 inb_S1024x2816_S1024x256_0_2304)
    (rowPart W 2304 inb_S2816x1024_S256x1024_2304_0) (nextTile h (colPart A 2048 inb_S1024x2816_S1024x256_0_2048) (colPart B 2048 inb_S1024x2816_S1024x256_0_2048)
    (rowPart W 2048 inb_S2816x1024_S256x1024_2048_0) (nextTile h (colPart A 1792 inb_S1024x2816_S1024x256_0_1792) (colPart B 1792 inb_S1024x2816_S1024x256_0_1792)
    (rowPart W 1792 inb_S2816x1024_S256x1024_1792_0) (nextTile h (colPart A 1536 inb_S1024x2816_S1024x256_0_1536) (colPart B 1536 inb_S1024x2816_S1024x256_0_1536)
    (rowPart W 1536 inb_S2816x1024_S256x1024_1536_0) (nextTile h (colPart A 1280 inb_S1024x2816_S1024x256_0_1280) (colPart B 1280 inb_S1024x2816_S1024x256_0_1280)
    (rowPart W 1280 inb_S2816x1024_S256x1024_1280_0) (nextTile h (colPart A 1024 inb_S1024x2816_S1024x256_0_1024) (colPart B 1024 inb_S1024x2816_S1024x256_0_1024)
    (rowPart W 1024 inb_S2816x1024_S256x1024_1024_0) (nextTile h (colPart A 768 inb_S1024x2816_S1024x256_0_768) (colPart B 768 inb_S1024x2816_S1024x256_0_768)
    (rowPart W 768 inb_S2816x1024_S256x1024_768_0) (nextTile h (colPart A 512 inb_S1024x2816_S1024x256_0_512) (colPart B 512 inb_S1024x2816_S1024x256_0_512)
    (rowPart W 512 inb_S2816x1024_S256x1024_512_0) (nextTile h (colPart A 256 inb_S1024x2816_S1024x256_0_256) (colPart B 256 inb_S1024x2816_S1024x256_0_256)
    (rowPart W 256 inb_S2816x1024_S256x1024_256_0) (firstTile h (colPart A 0 inb_S1024x2816_S1024x256_0_0) (colPart B 0 inb_S1024x2816_S1024x256_0_0) (rowPart W 0 inb_S2816x1024_S256x1024_0_0)))))))))))

variable {A B W} {a b : Fin 1024 → Fin 2816 → EReal} {w : Fin 2816 → Fin 1024 → EReal}

theorem allTiles_at (hA : ∀ e f, A (ix2 e f) = a e f) (hB : ∀ e f, B (ix2 e f) = b e f) (hW : ∀ f e, W (ix2 f e) = w f e)
    (r : Fin 512) (d : Fin 1024) : allTiles h A B W (ix2 r d) = ffVal (fun e => h (ix2 r e)) a b w d := by
  unfold allTiles
  simp only [firstTile_at, nextTile_at, tile, colPart, rowPart]
  pointwise
  rw [ffVal_tiles, sum11]
  simp only [hA, hB, hW]
  refine Ideal.add_congr (Ideal.add_congr (Ideal.add_congr (Ideal.add_congr (Ideal.add_congr (Ideal.add_congr (Ideal.add_congr
    (Ideal.add_congr (Ideal.add_congr (Ideal.add_congr ?_ ?_) ?_) ?_) ?_) ?_) ?_) ?_) ?_) ?_) ?_
  all_goals
    refine tile_shift (fun e => h (ix2 r e)) a b w (fun f => ?_) d
    dsimp only
    all_goals omega
end all

end Layer
-- ==== Proof.FfnBody.lean ====
/- What one block of the last half feed-forward call holds, from the blocks that it reads. -/
module

public import proofs.«01_k».proof.Proof.Gen.FfnIdeal.Value
public import proofs.«01_k».proof.Proof.FfnTiles

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)
open Layer

section pays

theorem pay2_at (v0 : Vec Ideal S512x1024 .f32) (v1 : Vec Ideal S512x1024 .bf16) (v2 : Vec Ideal S1024x1024 .bf16)
    (v5 : Vec Ideal S1x1x1024 .f32) (r : Fin 512) (d : Fin 1024) :
    k0_pay2 v0 v1 v2 v5 (ix2 r d) = v0 (ix2 r d) + v5 (ix3 0 0 d) * ∑ x, v1 (ix2 r x) * v2 (ix2 x d) := by
  pointwise [k0_pay2]

theorem pay5_at (v0 : Vec Ideal S512x1024 .f32) (v1 : Vec Ideal S512x1024 .bf16) (v2 : Vec Ideal S1024x1024 .bf16)
    (v5 v13 v15 : Vec Ideal S1x1x1024 .f32) (v11 : Vec Ideal S1x1024 .f32) (r : Fin 512) (d : Fin 1024) :
    k0_pay5 (k0_pay3 v0 v1 v2 v5 v11 v15) (k0_pay4 v13) (ix2 r d) = adaVal (fun e => k0_pay2 v0 v1 v2 v5 (ix2 r e))
      (fun e => v11 (ix2 0 e)) (fun e => v13 (ix3 0 0 e)) (fun e => v15 (ix3 0 0 e)) d := by
  pointwise [k0_pay5, k0_pay3, k0_pay4]
  rfl

theorem pay1_at (v0 acc : Vec Ideal S512x1024 .f32) (v5 : Vec Ideal S1x1x1024 .f32) (v11 : Vec Ideal S1x1024 .f32) (r : Fin 512) (d : Fin 1024) :
    k0_pay1 (k0_pay23 v0) (k0_pay24 v5) (Scalar.ofBits .f32 0x3F000000#32) acc v11 (ix2 r d) = rmsVal (fun e => v0 (ix2 r e) +
      Ideal.ofBits FTy.f32 0x3F000000#32 * v5 (ix3 0 0 e) * acc (ix2 r e)) (fun e => v11 (ix2 0 e)) d := by
  pointwise [k0_pay1, k0_pay23, k0_pay24]
  rfl
end pays

section block
variable (B0 : FVec Ideal S512x1024 .f32) (B1 : FVec Ideal S512x1024 .bf16) (B2 : FVec Ideal S1024x1024 .bf16)
  (B3 : FVec Ideal S1x16x1024 .f32) (B4 : FVec Ideal S1x1024 .f32) (B5 B6 : FVec Ideal S1024x2816 .bf16)
  (B7 : FVec Ideal S2816x1024 .bf16) (B8 : FVec Ideal S1x1024 .f32)

/-- The norm's row before the shift. -/
abbrev preP : FVec Ideal S512x1024 .f32 := k0_pay3 B0 B1 B2 (modPart B3 5 inb_S1x16x1024_S1x1x1024_0_5_0) B4
  (modPart B3 7 inb_S1x16x1024_S1x1x1024_0_7_0)
/-- The shift. -/
abbrev preQ : FVec Ideal S512x1024 .f32 := k0_pay4 (modPart B3 6 inb_S1x16x1024_S1x1x1024_0_6_0)
/-- The normalised rows. -/
abbrev preH : FVec Ideal S512x1024 .bf16 := k0_pay5 (preP B0 B1 B2 B3 B4) (preQ B3)
/-- The block that is written: the eleven tiles added up, the half step, the final norm. -/
def blockOut : FVec Ideal S512x1024 .f32 :=
  k0_pay1 (k0_pay23 (k0_pay2 (F := Ideal) B0 B1 B2 (modPart B3 5 inb_S1x16x1024_S1x1x1024_0_5_0)))
    (k0_pay24 (modPart B3 8 inb_S1x16x1024_S1x1x1024_0_8_0)) (FloatOps.ofBits FTy.f32 0x3F000000#32)
    (allTiles (preH B0 B1 B2 B3 B4) B5 B6 B7) B8

variable (x mx : Fin 1024 → EReal) (mv : Fin 9216 → EReal) (g : Fin 1024 → EReal) (a b : Fin 1024 → Fin 2816 → EReal)
  (w : Fin 2816 → Fin 1024 → EReal) (wo : Fin 1024 → Fin 1024 → EReal) (fg : Fin 1024 → EReal) (r : Fin 512) (d : Fin 1024)

/-- An entry of the block, where row `r` of the blocks read is the row given. -/
theorem blockOut_at (b0 : ∀ e, B0 (ix2 r e) = x e) (b1 : ∀ e, B1 (ix2 r e) = mx e) (b2 : ∀ k e, B2 (ix2 k e) = wo k e)
    (b3 : ∀ (j : Fin 16) (hj : (j : ℕ) < 9) (e : Fin 1024), B3 (ix3 0 j e) = mv ⟨1024 * j + e, by omega⟩)
    (b4 : ∀ e, B4 (ix2 0 e) = g e) (b5 : ∀ e f, B5 (ix2 e f) = a e f) (b6 : ∀ e f, B6 (ix2 e f) = b e f)
    (b7 : ∀ f e, B7 (ix2 f e) = w f e) (b8 : ∀ e, B8 (ix2 0 e) = fg e) :
    blockOut B0 B1 B2 B3 B4 B5 B6 B7 B8 (ix2 r d) = lastRow x mx mv g a b w wo fg d := by
  have b35 : ∀ e : Fin 1024, B3 (ix3 0 5 e) = mv ⟨5120 + e, by omega⟩ := b3 5 (by decide)
  have b36 : ∀ e : Fin 1024, B3 (ix3 0 6 e) = mv ⟨6144 + e, by omega⟩ := b3 6 (by decide)
  have b37 : ∀ e : Fin 1024, B3 (ix3 0 7 e) = mv ⟨7168 + e, by omega⟩ := b3 7 (by decide)
  have b38 : ∀ e : Fin 1024, B3 (ix3 0 8 e) = mv ⟨8192 + e, by omega⟩ := b3 8 (by decide)
  unfold blockOut
  refine (pay1_at _ _ _ _ _ _).trans ?_
  simp only [allTiles_at _ b5 b6 b7, pay2_at, preH, preP, preQ, pay5_at, modPart]
  pointwise
  refine rmsVal_congr (fun d => ?_) b8 d
  unfold halfVal mixRow
  simp only [b0, b1, b2, b35, b36, b37, b38, b4]
end block

end Cert.FfnIdeal.Value
-- ==== Proof.FfnFinal.lean ====
module

public import proofs.«01_k».proof.Proof.Gen.FfnIdeal.Value
public import proofs.«01_k».proof.Proof.FfnBody

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)
open Layer

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![8, 0, 0] ∧ win0_4.index t = ![0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

/-- The last half step of the trunk and the final norm, entry by entry: the context rows have row 8's modulations. -/
def lastVal (x : FVec Ideal S8192x1024 .f32) (mix : FVec Ideal S8192x1024 .bf16) (mods : FVec Ideal S16x9216 .f32)
    (g : FVec Ideal S1024 .f32) (w1 w3 : FVec Ideal S1024x2816 .f32) (w2 : FVec Ideal S2816x1024 .f32)
    (wo : FVec Ideal S1024x1024 .f32) (fg : FVec Ideal S1024 .f32) (R : Fin 8192) (C : Fin 1024) : EReal :=
  lastRow (fun e => x (ix2 R e)) (fun e => mix (ix2 R e)) (fun e => mods (ix2 8 e)) (fun e => g (ix1 e))
    (fun e f => w1 (ix2 e f)) (fun e f => w3 (ix2 e f)) (fun f e => w2 (ix2 f e)) (fun k e => wo (ix2 k e))
    (fun e => fg (ix1 e)) C

theorem lastVal_congr (x mix mods g w1 w3 w2 wo fg) {R R' : Fin 8192} {C C' : Fin 1024} (hR : (R : ℕ) = R') (hC : (C : ℕ) = C') :
    lastVal x mix mods g w1 w3 w2 wo fg R C = lastVal x mix mods g w1 w3 w2 wo fg R' C' := by
  rw [Fin.ext hR, Fin.ext hC]

/-- The modulation rows as the grid reads them: nine rows of 1024 and seven of zeros. -/
def padded (x : FVec Ideal S16x9216 .f32) : FVec Ideal S16x16x1024 .f32 :=
  pad S16x16x1024 ![0, 0, 0] ![0, 7, 0] ![0, 0, 0] (shapeCast S16x9x1024 x shapeCasts_S16x9216_S16x9x1024)
    (sitofp .f32 (constantI S_ 32 0#32)) pads_S16x9x1024_S16x16x1024_000_070_000 h_S_

theorem padded_at (x : FVec Ideal S16x9216 .f32) (b j : Fin 16) (hj : (j : ℕ) < 9) (e : Fin 1024) :
    padded x (ix3 b j e) = x (ix2 b ⟨1024 * j + e, by omega⟩) := by
  pointwise [padded]
  rw [dif_pos hj]
  exact congrArg x (congrArg (ix2 b) (Fin.ext (by show (j : ℕ) * 1024 + e = 1024 * j + e; omega)))

theorem V_main_v1 (c : Dev nD) : V m c main_v1 = padded (m ((c : Thread nD τ).loc main_arg2)) := by
  simp only [V, hostOps0, hostOps0_1, hostOps0_2, List.flatten_cons, List.flatten_nil, List.append_nil, List.cons_append,
    List.nil_append]
  entry_read
  rfl

theorem V_main_v2 (c : Dev nD) : V m c main_v2 = broadcastInDim S1x1024 ![1] bcast_S1024_S1x1024_1
    (m ((c : Thread nD τ).loc main_arg3)) := by
  simp only [V, hostOps0, hostOps0_1, hostOps0_2, List.flatten_cons, List.flatten_nil, List.append_nil, List.cons_append,
    List.nil_append]
  entry_read
  rfl

theorem V_main_v7 (c : Dev nD) : V m c main_v7 = broadcastInDim S1x1024 ![1] bcast_S1024_S1x1024_1
    (m ((c : Thread nD τ).loc main_arg8)) := by
  simp only [V, hostOps0, hostOps0_1, hostOps0_2, List.flatten_cons, List.flatten_nil, List.append_nil, List.cons_append,
    List.nil_append]
  entry_read
  rfl

theorem blk3 (c : Dev nD) (t : Fin cfg0.N) (j : Fin 16) (hj : (j : ℕ) < 9) (e : Fin 1024) :
    iblk m c 3 t (ix3 0 j e) = m ((c : Thread nD τ).loc main_arg2) (ix2 8 ⟨1024 * j + e, by omega⟩) := by
  blk_simp [iblk, idx t]
  rw [V_main_v1]
  refine Eq.trans ?_ (padded_at _ 8 j hj e)
  generalize padded _ = X
  blk_point [idx t]

theorem blk4 (c : Dev nD) (t : Fin cfg0.N) (e : Fin 1024) :
    iblk m c 4 t (ix2 0 e) = m ((c : Thread nD τ).loc main_arg3) (ix1 e) := by
  blk_simp [iblk, idx t]
  rw [V_main_v2]
  pointwise
  blk_point [idx t]

theorem blk8 (c : Dev nD) (t : Fin cfg0.N) (e : Fin 1024) :
    iblk m c 8 t (ix2 0 e) = m ((c : Thread nD τ).loc main_arg8) (ix1 e) := by
  blk_simp [iblk, idx t]
  rw [V_main_v7]
  pointwise
  blk_point [idx t]

theorem blk2 (c : Dev nD) (t : Fin cfg0.N) (i : Fin 1024) (j : Fin 1024) :
    iblk m c 2 t (ix2 i j) = m ((c : Thread nD τ).loc main_arg7) (ix2 i j) := by
  blk_simp [iblk, idx t]
  entry_read
  pointwise
  blk_point [idx t]

theorem blk5 (c : Dev nD) (t : Fin cfg0.N) (i : Fin 1024) (j : Fin 2816) :
    iblk m c 5 t (ix2 i j) = m ((c : Thread nD τ).loc main_arg4) (ix2 i j) := by
  blk_simp [iblk, idx t]
  entry_read
  pointwise
  blk_point [idx t]

theorem blk6 (c : Dev nD) (t : Fin cfg0.N) (i : Fin 1024) (j : Fin 2816) :
    iblk m c 6 t (ix2 i j) = m ((c : Thread nD τ).loc main_arg5) (ix2 i j) := by
  blk_simp [iblk, idx t]
  entry_read
  pointwise
  blk_point [idx t]

theorem blk7 (c : Dev nD) (t : Fin cfg0.N) (i : Fin 2816) (j : Fin 1024) :
    iblk m c 7 t (ix2 i j) = m ((c : Thread nD τ).loc main_arg6) (ix2 i j) := by
  blk_simp [iblk, idx t]
  entry_read
  pointwise
  blk_point [idx t]

theorem blk0 (c : Dev nD) (t : Fin cfg0.N) (r : Fin 512) (e : Fin 1024) :
    iblk m c 0 t (ix2 r e) = m ((c : Thread nD τ).loc main_arg0) (ix2 ⟨512 * t + r, by have : t.val < 16 := t.isLt; omega⟩ e) := by
  blk_point [iblk, V, idx t]

theorem blk1 (c : Dev nD) (t : Fin cfg0.N) (r : Fin 512) (e : Fin 1024) :
    iblk m c 1 t (ix2 r e) = m ((c : Thread nD τ).loc main_arg1) (ix2 ⟨512 * t + r, by have : t.val < 16 := t.isLt; omega⟩ e) := by
  blk_point [iblk, V, idx t]

def out (c : Dev nD) : FVec Ideal S8192x1024 .f32 := fun i => lastVal (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (i 0) (i 1)

theorem final (c : Dev nD) : (dats m 0 c).arrAt 9 (cfgs 0).N = out m c := by
  refine (dats m 0 c).arrAt_eq_of_covers 9 _ (by decide +kernel) fun t _ y => ?_
  blk_simp
  rw [after0_9]
  unfold outsAt0
  unfold out0_A_9
  frame_out
  idx_vars y
  refine Eq.trans ?_ (lastVal_congr _ _ _ _ _ _ _ _ _ (R := ⟨512 * t + y0, by have : t.val < 16 := t.isLt; omega⟩) (C := y1) ?_ ?_)
  · exact blockOut_at _ _ _ _ _ _ _ _ _ _ _ _ _ _ _ _ _ _ y0 y1 (blk0 m c t y0) (blk1 m c t y0) (blk2 m c t) (blk3 m c t)
      (blk4 m c t) (blk5 m c t) (blk6 m c t) (blk7 m c t) (blk8 m c t)
  · blk_simp [idx t]
    dsimp only
    omega
  · blk_simp [idx t]

end Cert.FfnIdeal.Value
-- ==== Proof.FfnRef.lean ====
module

public import proofs.«01_k».proof.Proof.Gen.FfnRefIdeal.Read
public import proofs.«01_k».proof.Proof.FfnFinal

@[expose] public section

set_option maxRecDepth 16384

noncomputable section

namespace Cert.FfnRefIdeal.Read

open Cert.FfnRefIdeal Cert.FfnRefIdeal.Gen Idealize.ShloMosaic
open Layer
open Cert.FfnIdeal.Value (lastVal)

variable (x : FVec Ideal S8192x1024 .f32) (mix : FVec Ideal S8192x1024 .bf16) (mods : FVec Ideal S16x9216 .f32)
  (g : FVec Ideal S1024 .f32) (w1 w3 : FVec Ideal S1024x2816 .f32) (w2 : FVec Ideal S2816x1024 .f32)
  (wo : FVec Ideal S1024x1024 .f32) (fg : FVec Ideal S1024 .f32) (n : Fin 32) (b : Fin 256)

/-- The rows with the gated projection of the mixer's output added. -/
abbrev mrow : Fin 1024 → EReal := mixRow (fun e => x (ix2 ⟨n * 256 + b, by omega⟩ e)) (fun e => mix (ix2 ⟨n * 256 + b, by omega⟩ e))
  (fun e => mods (ix2 8 ⟨5120 + e, by omega⟩)) (fun k e => wo (ix2 k e))

theorem v17_at (e : Fin 1024) : val_main_v17 (F := Ideal) x mix mods wo (ix3 n b e)
    = mrow x mix mods wo n b e := by
  pointwise [val_main_v17, val_main_v16, val_main_v15, val_main_v14, val_main_v13, val_main_v12, val_main_v11, val_main_v7,
    val_main_v1, val_main_v0]
  rfl

/-- The normalised rows. -/
abbrev hrow : Fin 1024 → EReal := adaVal (mrow x mix mods wo n b) (fun e => g (ix1 e))
  (fun e => mods (ix2 8 ⟨6144 + e, by omega⟩)) (fun e => mods (ix2 8 ⟨7168 + e, by omega⟩))

theorem v36_at (e : Fin 1024) : val_main_v36 (F := Ideal) x mix mods g wo (ix3 n b e) = hrow x mix mods g wo n b e := by
  pointwise [val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v8, val_main_v9, val_main_v1, val_main_v0, val_main_cst, val_main_cst_0, val_main_cst_1, val_main_cst_2]
  simp only [v17_at]
  rfl

theorem v37_at (f : Fin 2816) : val_main_v37 (F := Ideal) x mix mods g w1 wo (ix3 n b f)
    = ∑ e, hrow x mix mods g wo n b e * w1 (ix2 e f) := by
  pointwise [val_main_v37]
  simp only [v36_at]

theorem v39_at (f : Fin 2816) : val_main_v39 (F := Ideal) x mix mods g w3 wo (ix3 n b f)
    = ∑ e, hrow x mix mods g wo n b e * w3 (ix2 e f) := by
  pointwise [val_main_v39]
  simp only [v36_at]

theorem v40_at (f : Fin 2816) : val_main_v40 (F := Ideal) x mix mods g w1 w3 wo (ix3 n b f)
    = unitVal (hrow x mix mods g wo n b) (fun e f => w1 (ix2 e f)) (fun e f => w3 (ix2 e f)) f := by
  pointwise [val_main_v40, val_main_v38, val_main_call0_v0, val_main_call0_v1, val_main_call0_v2, val_main_call0_v3,
    val_main_call0_v4, val_main_call0_v5, val_main_call0_cst, val_main_call0_cst_0]
  rw [v37_at, v39_at]
  rfl

theorem v46_at (d : Fin 1024) : val_main_v46 (F := Ideal) x mix mods g w1 w3 w2 wo (ix3 n b d)
    = halfVal (mrow x mix mods wo n b) (fun e => g (ix1 e)) (fun e => mods (ix2 8 ⟨6144 + e, by omega⟩))
    (fun e => mods (ix2 8 ⟨7168 + e, by omega⟩)) (fun e => mods (ix2 8 ⟨8192 + e, by omega⟩))
    (fun e f => w1 (ix2 e f)) (fun e f => w3 (ix2 e f)) (fun f e => w2 (ix2 f e)) d := by
  pointwise [val_main_v41, val_main_v42, val_main_v43, val_main_v44, val_main_v45, val_main_v46, val_main_v10, val_main_v1, val_main_v0, val_main_cst_3]
  simp only [v17_at, v40_at]
  rfl

theorem v60_at (R : Fin 8192) (C : Fin 1024) : val_main_v60 (F := Ideal) x mix mods g w1 w3 w2 wo fg (ix2 R C)
    = lastVal x mix mods g w1 w3 w2 wo fg R C := by
  pointwise [val_main_v47, val_main_v48, val_main_v49, val_main_v50, val_main_v51, val_main_v52, val_main_v53, val_main_v54, val_main_v55, val_main_v56, val_main_v57, val_main_v58, val_main_v59, val_main_v60, val_main_cst_4, val_main_cst_5, val_main_cst_6]
  simp only [v46_at]
  refine Eq.trans ?_ (Cert.FfnIdeal.Value.lastVal_congr x mix mods g w1 w3 w2 wo fg (R := ⟨R / 256 * 256 + R % 256, by omega⟩) (C := C)
    (by dsimp only; omega) rfl)
  rfl

end Cert.FfnRefIdeal.Read
-- ==== Proof.FfnClaim.lean ====
/- The feed-forward claim: the kernel's result is the reference's. -/
module

public import proofs.«01_k».proof.Defs
public import proofs.«01_k».proof.Proof.Gen.FfnIdeal.Value
public import proofs.«01_k».proof.Proof.Gen.FfnRefIdeal.Run
public import proofs.«01_k».proof.Proof.Gen.FfnRefIdeal.Read
public import proofs.«01_k».proof.Proof.FfnRef
public import proofs.«01_k».proof.Proof.FfnFinal

@[expose] public section

noncomputable section

namespace Cert.Proof

open Idealize.ShloMosaic Idealize.SL.Sem

theorem ffn : Cert.algebraic_FfnIdeal_FfnRefIdeal (hFfnIdeal := Cert.FfnIdeal.Gen.facts)
    (hFfnRefIdeal := Cert.FfnRefIdeal.Gen.facts) := by
  intro m g m' g' _ hagree
  refine ⟨_, Cert.FfnIdeal.Value.run_blocks m g,
    (θ_run _ _ _).mono (fun r h c => ⟨(h c).1.trans ?_, (h c).2⟩) (Cert.FfnRefIdeal.Value.run m' g')⟩
  obtain ⟨h0, h1, h2, h3, h4, h5, h6, h7, h8⟩ := hagree c
  refine (Cert.FfnRefIdeal.Read.val_main_v60_eq m' c).trans ?_
  rw [h0, h1, h2, h3, h4, h5, h6, h7, h8]
  refine Eq.trans ?_ (Cert.FfnIdeal.Value.final m c).symm
  funext i
  idx_vars i
  exact Cert.FfnRefIdeal.Read.v60_at _ _ _ _ _ _ _ _ _ _ _

end Cert.Proof

end
-- ==== Proof.FfnLatFinal.lean ====
module

public import proofs.«01_k».proof.Proof.Gen.FfnLatIdeal.Value
public import proofs.«01_k».proof.Proof.FfnFinal

@[expose] public section

set_option maxRecDepth 16384

noncomputable section

namespace Cert.FfnLatIdeal.Value

open Cert.FfnLatIdeal Cert.FfnLatIdeal.Gen Idealize.ShloMosaic Idealize.ShloMosaic.TcCoe Idealize.SL.Sem
open Idealize.ShloMosaic.Pipeline (Dat)
open Layer
open Cert.FfnIdeal.Value (padded padded_at blockOut blockOut_at)

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val / 4, 0, 0] ∧ win0_4.index t = ![0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

/-- The last half step of the trunk and the final norm, entry by entry: the latent rows have their sequence's modulations. -/
def lastVal (x : FVec Ideal S16384x1024 .f32) (mix : FVec Ideal S16384x1024 .bf16) (mods : FVec Ideal S16x9216 .f32)
    (g : FVec Ideal S1024 .f32) (w1 w3 : FVec Ideal S1024x2816 .f32) (w2 : FVec Ideal S2816x1024 .f32)
    (wo : FVec Ideal S1024x1024 .f32) (fg : FVec Ideal S1024 .f32) (R : Fin 16384) (C : Fin 1024) : EReal :=
  lastRow (fun e => x (ix2 R e)) (fun e => mix (ix2 R e)) (fun e => mods (ix2 ⟨R / 2048, by omega⟩ e)) (fun e => g (ix1 e))
    (fun e f => w1 (ix2 e f)) (fun e f => w3 (ix2 e f)) (fun f e => w2 (ix2 f e)) (fun k e => wo (ix2 k e))
    (fun e => fg (ix1 e)) C

theorem lastVal_congr (x mix mods g w1 w3 w2 wo fg) {R R' : Fin 16384} {C C' : Fin 1024} (hR : (R : ℕ) = R') (hC : (C : ℕ) = C') :
    lastVal x mix mods g w1 w3 w2 wo fg R C = lastVal x mix mods g w1 w3 w2 wo fg R' C' := by
  rw [Fin.ext hR, Fin.ext hC]

theorem V_main_v1 (c : Dev nD) : V m c main_v1 = padded (m ((c : Thread nD τ).loc main_arg2)) := by
  simp only [V, hostOps0, hostOps0_1, hostOps0_2, List.flatten_cons, List.flatten_nil, List.append_nil, List.cons_append,
    List.nil_append]
  entry_read
  rfl

theorem V_main_v2 (c : Dev nD) : V m c main_v2 = broadcastInDim S1x1024 ![1] bcast_S1024_S1x1024_1
    (m ((c : Thread nD τ).loc main_arg3)) := by
  simp only [V, hostOps0, hostOps0_1, hostOps0_2, List.flatten_cons, List.flatten_nil, List.append_nil, List.cons_append,
    List.nil_append]
  entry_read
  rfl

theorem V_main_v7 (c : Dev nD) : V m c main_v7 = broadcastInDim S1x1024 ![1] bcast_S1024_S1x1024_1
    (m ((c : Thread nD τ).loc main_arg8)) := by
  simp only [V, hostOps0, hostOps0_1, hostOps0_2, List.flatten_cons, List.flatten_nil, List.append_nil, List.cons_append,
    List.nil_append]
  entry_read
  rfl

theorem blk3 (c : Dev nD) (t : Fin cfg0.N) (j : Fin 16) (hj : (j : ℕ) < 9) (e : Fin 1024) :
    iblk m c 3 t (ix3 0 j e) = m ((c : Thread nD τ).loc main_arg2)
      (ix2 ⟨t / 4, by have : t.val < 32 := t.isLt; omega⟩ ⟨1024 * j + e, by omega⟩) := by
  blk_simp [iblk, idx t]
  rw [V_main_v1]
  refine Eq.trans ?_ (padded_at _ _ j hj e)
  generalize padded _ = X
  blk_point [idx t]

theorem blk4 (c : Dev nD) (t : Fin cfg0.N) (e : Fin 1024) :
    iblk m c 4 t (ix2 0 e) = m ((c : Thread nD τ).loc main_arg3) (ix1 e) := by
  blk_simp [iblk, idx t]
  rw [V_main_v2]
  pointwise
  blk_point [idx t]

theorem blk8 (c : Dev nD) (t : Fin cfg0.N) (e : Fin 1024) :
    iblk m c 8 t (ix2 0 e) = m ((c : Thread nD τ).loc main_arg8) (ix1 e) := by
  blk_simp [iblk, idx t]
  rw [V_main_v7]
  pointwise
  blk_point [idx t]

theorem blk2 (c : Dev nD) (t : Fin cfg0.N) (i : Fin 1024) (j : Fin 1024) :
    iblk m c 2 t (ix2 i j) = m ((c : Thread nD τ).loc main_arg7) (ix2 i j) := by
  blk_simp [iblk, idx t]
  entry_read
  pointwise
  blk_point [idx t]

theorem blk5 (c : Dev nD) (t : Fin cfg0.N) (i : Fin 1024) (j : Fin 2816) :
    iblk m c 5 t (ix2 i j) = m ((c : Thread nD τ).loc main_arg4) (ix2 i j) := by
  blk_simp [iblk, idx t]
  entry_read
  pointwise
  blk_point [idx t]

theorem blk6 (c : Dev nD) (t : Fin cfg0.N) (i : Fin 1024) (j : Fin 2816) :
    iblk m c 6 t (ix2 i j) = m ((c : Thread nD τ).loc main_arg5) (ix2 i j) := by
  blk_simp [iblk, idx t]
  entry_read
  pointwise
  blk_point [idx t]

theorem blk7 (c : Dev nD) (t : Fin cfg0.N) (i : Fin 2816) (j : Fin 1024) :
    iblk m c 7 t (ix2 i j) = m ((c : Thread nD τ).loc main_arg6) (ix2 i j) := by
  blk_simp [iblk, idx t]
  entry_read
  pointwise
  blk_point [idx t]

theorem blk0 (c : Dev nD) (t : Fin cfg0.N) (r : Fin 512) (e : Fin 1024) :
    iblk m c 0 t (ix2 r e) = m ((c : Thread nD τ).loc main_arg0) (ix2 ⟨512 * t + r, by have : t.val < 32 := t.isLt; omega⟩ e) := by
  blk_point [iblk, V, idx t]

theorem blk1 (c : Dev nD) (t : Fin cfg0.N) (r : Fin 512) (e : Fin 1024) :
    iblk m c 1 t (ix2 r e) = m ((c : Thread nD τ).loc main_arg1) (ix2 ⟨512 * t + r, by have : t.val < 32 := t.isLt; omega⟩ e) := by
  blk_point [iblk, V, idx t]

def out (c : Dev nD) : FVec Ideal S16384x1024 .f32 := fun i => lastVal (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (i 0) (i 1)

theorem final (c : Dev nD) : (dats m 0 c).arrAt 9 (cfgs 0).N = out m c := by
  refine (dats m 0 c).arrAt_eq_of_covers 9 _ (by decide +kernel) fun t _ y => ?_
  blk_simp
  rw [after0_9]
  unfold outsAt0
  unfold out0_A_9
  frame_out
  idx_vars y
  refine Eq.trans ?_ (lastVal_congr _ _ _ _ _ _ _ _ _ (R := ⟨512 * t + y0, by have : t.val < 32 := t.isLt; omega⟩) (C := y1) ?_ ?_)
  · have b3 : ∀ (j : Fin 16) (hj : (j : ℕ) < 9) (e : Fin 1024), iblk m c 3 t (ix3 0 j e) = m ((c : Thread nD τ).loc main_arg2)
        (ix2 ⟨(512 * t + y0) / 2048, by have : t.val < 32 := t.isLt; omega⟩ ⟨1024 * j + e, by omega⟩) := fun j hj e => by
      refine (blk3 m c t j hj e).trans (congrArg (m ((c : Thread nD τ).loc main_arg2)) (congrArg (fun q => ix2 q _) (Fin.ext ?_)))
      dsimp only
      omega
    exact blockOut_at _ _ _ _ _ _ _ _ _ _ _ _ _ _ _ _ _ _ y0 y1 (blk0 m c t y0) (blk1 m c t y0) (blk2 m c t) b3
      (blk4 m c t) (blk5 m c t) (blk6 m c t) (blk7 m c t) (blk8 m c t)
  · blk_simp [idx t]
    dsimp only
    omega
  · blk_simp [idx t]

end Cert.FfnLatIdeal.Value
-- ==== Proof.FfnLatRef.lean ====
module

public import proofs.«01_k».proof.Proof.Gen.FfnLatRefIdeal.Read
public import proofs.«01_k».proof.Proof.FfnLatFinal

@[expose] public section

set_option maxRecDepth 16384

noncomputable section

namespace Cert.FfnLatRefIdeal.Read

open Cert.FfnLatRefIdeal Cert.FfnLatRefIdeal.Gen Idealize.ShloMosaic
open Layer
open Cert.FfnLatIdeal.Value (lastVal)

variable (x : FVec Ideal S16384x1024 .f32) (mix : FVec Ideal S16384x1024 .bf16) (mods : FVec Ideal S16x9216 .f32)
  (g : FVec Ideal S1024 .f32) (w1 w3 : FVec Ideal S1024x2816 .f32) (w2 : FVec Ideal S2816x1024 .f32)
  (wo : FVec Ideal S1024x1024 .f32) (fg : FVec Ideal S1024 .f32) (n : Fin 8) (b : Fin 2048)

/-- The rows with the gated projection of the mixer's output added. -/
abbrev mrow : Fin 1024 → EReal := mixRow (fun e => x (ix2 ⟨n * 2048 + b, by omega⟩ e)) (fun e => mix (ix2 ⟨n * 2048 + b, by omega⟩ e))
  (fun e => mods (ix2 ⟨n, by omega⟩ ⟨5120 + e, by omega⟩)) (fun k e => wo (ix2 k e))

theorem v17_at (e : Fin 1024) : val_main_v17 (F := Ideal) x mix mods wo (ix3 n b e)
    = mrow x mix mods wo n b e := by
  pointwise [val_main_v17, val_main_v16, val_main_v15, val_main_v14, val_main_v13, val_main_v12, val_main_v11, val_main_v7,
    val_main_v1, val_main_v0]
  rfl

/-- The normalised rows. -/
abbrev hrow : Fin 1024 → EReal := adaVal (mrow x mix mods wo n b) (fun e => g (ix1 e))
  (fun e => mods (ix2 ⟨n, by omega⟩ ⟨6144 + e, by omega⟩)) (fun e => mods (ix2 ⟨n, by omega⟩ ⟨7168 + e, by omega⟩))

theorem v36_at (e : Fin 1024) : val_main_v36 (F := Ideal) x mix mods g wo (ix3 n b e) = hrow x mix mods g wo n b e := by
  pointwise [val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v8, val_main_v9, val_main_v1, val_main_v0, val_main_cst, val_main_cst_0, val_main_cst_1, val_main_cst_2]
  simp only [v17_at]
  rfl

theorem v37_at (f : Fin 2816) : val_main_v37 (F := Ideal) x mix mods g w1 wo (ix3 n b f)
    = ∑ e, hrow x mix mods g wo n b e * w1 (ix2 e f) := by
  pointwise [val_main_v37]
  simp only [v36_at]

theorem v39_at (f : Fin 2816) : val_main_v39 (F := Ideal) x mix mods g w3 wo (ix3 n b f)
    = ∑ e, hrow x mix mods g wo n b e * w3 (ix2 e f) := by
  pointwise [val_main_v39]
  simp only [v36_at]

theorem v40_at (f : Fin 2816) : val_main_v40 (F := Ideal) x mix mods g w1 w3 wo (ix3 n b f)
    = unitVal (hrow x mix mods g wo n b) (fun e f => w1 (ix2 e f)) (fun e f => w3 (ix2 e f)) f := by
  pointwise [val_main_v40, val_main_v38, val_main_call0_v0, val_main_call0_v1, val_main_call0_v2, val_main_call0_v3,
    val_main_call0_v4, val_main_call0_v5, val_main_call0_cst, val_main_call0_cst_0]
  rw [v37_at, v39_at]
  rfl

theorem v46_at (d : Fin 1024) : val_main_v46 (F := Ideal) x mix mods g w1 w3 w2 wo (ix3 n b d)
    = halfVal (mrow x mix mods wo n b) (fun e => g (ix1 e)) (fun e => mods (ix2 ⟨n, by omega⟩ ⟨6144 + e, by omega⟩))
    (fun e => mods (ix2 ⟨n, by omega⟩ ⟨7168 + e, by omega⟩)) (fun e => mods (ix2 ⟨n, by omega⟩ ⟨8192 + e, by omega⟩))
    (fun e f => w1 (ix2 e f)) (fun e f => w3 (ix2 e f)) (fun f e => w2 (ix2 f e)) d := by
  pointwise [val_main_v41, val_main_v42, val_main_v43, val_main_v44, val_main_v45, val_main_v46, val_main_v10, val_main_v1, val_main_v0, val_main_cst_3]
  simp only [v17_at, v40_at]
  rfl

theorem v60_at (R : Fin 16384) (C : Fin 1024) : val_main_v60 (F := Ideal) x mix mods g w1 w3 w2 wo fg (ix2 R C)
    = lastVal x mix mods g w1 w3 w2 wo fg R C := by
  pointwise [val_main_v47, val_main_v48, val_main_v49, val_main_v50, val_main_v51, val_main_v52, val_main_v53, val_main_v54, val_main_v55, val_main_v56, val_main_v57, val_main_v58, val_main_v59, val_main_v60, val_main_cst_4, val_main_cst_5, val_main_cst_6]
  simp only [v46_at]
  refine Eq.trans ?_ (Cert.FfnLatIdeal.Value.lastVal_congr x mix mods g w1 w3 w2 wo fg (R := ⟨R / 2048 * 2048 + R % 2048, by omega⟩) (C := C)
    (by dsimp only; omega) rfl)
  have e : (⟨((R : ℕ) / 2048 * 2048 + R % 2048) / 2048, by omega⟩ : Fin 16) = ⟨R / 2048, by omega⟩ := Fin.ext (by dsimp only; omega)
  unfold lastVal
  dsimp only
  rw [e]
  rfl

end Cert.FfnLatRefIdeal.Read
-- ==== Proof.FfnLatClaim.lean ====
/- The feed-forward claim for the latent rows: the kernel's result is the reference's. -/
module

public import proofs.«01_k».proof.Defs
public import proofs.«01_k».proof.Proof.Gen.FfnLatIdeal.Value
public import proofs.«01_k».proof.Proof.Gen.FfnLatRefIdeal.Run
public import proofs.«01_k».proof.Proof.Gen.FfnLatRefIdeal.Read
public import proofs.«01_k».proof.Proof.FfnLatRef
public import proofs.«01_k».proof.Proof.FfnLatFinal

@[expose] public section

noncomputable section

namespace Cert.Proof

open Idealize.ShloMosaic Idealize.SL.Sem

theorem ffnLat : Cert.algebraic_FfnLatIdeal_FfnLatRefIdeal (hFfnLatIdeal := Cert.FfnLatIdeal.Gen.facts)
    (hFfnLatRefIdeal := Cert.FfnLatRefIdeal.Gen.facts) := by
  intro m g m' g' _ hagree
  refine ⟨_, Cert.FfnLatIdeal.Value.run_blocks m g,
    (θ_run _ _ _).mono (fun r h c => ⟨(h c).1.trans ?_, (h c).2⟩) (Cert.FfnLatRefIdeal.Value.run m' g')⟩
  obtain ⟨h0, h1, h2, h3, h4, h5, h6, h7, h8⟩ := hagree c
  refine (Cert.FfnLatRefIdeal.Read.val_main_v60_eq m' c).trans ?_
  rw [h0, h1, h2, h3, h4, h5, h6, h7, h8]
  refine Eq.trans ?_ (Cert.FfnLatIdeal.Value.final m c).symm
  funext i
  idx_vars i
  exact Cert.FfnLatRefIdeal.Read.v60_at _ _ _ _ _ _ _ _ _ _ _

end Cert.Proof

end
-- ==== Proof.FfnFirstFinal.lean ====
/- What the first half feed-forward call leaves in its result. -/
module

public import proofs.«01_k».proof.Proof.Gen.FfnFirstIdeal.Value
public import proofs.«01_k».proof.Proof.FfnTiles
public import proofs.«01_k».proof.Proof.FfnFinal

@[expose] public section

set_option maxRecDepth 16384

noncomputable section

namespace Cert.FfnFirstIdeal.Value

open Cert.FfnFirstIdeal Cert.FfnFirstIdeal.Gen Idealize.ShloMosaic Idealize.ShloMosaic.TcCoe Idealize.SL.Sem
open Idealize.ShloMosaic.Pipeline (Dat)
open Layer
open Cert.FfnIdeal.Value (padded padded_at)

theorem pay1_at (v0 : Vec Ideal S512x1024 .f32) (v2 : Vec Ideal S1x1024 .f32) (v4 v6 : Vec Ideal S1x1x1024 .f32)
    (r : Fin 512) (d : Fin 1024) : k0_pay1 v0 v2 v4 v6 (ix2 r d) = adaVal (fun e => v0 (ix2 r e)) (fun e => v2 (ix2 0 e))
      (fun e => v4 (ix3 0 0 e)) (fun e => v6 (ix3 0 0 e)) d := by
  pointwise [k0_pay1]
  rfl

theorem pay18_at (v0 : Vec Ideal S512x1024 .f32) (v5 : Vec Ideal S1x1x1024 .f32) (acc : Vec Ideal S512x1024 .f32)
    (r : Fin 512) (d : Fin 1024) : k0_pay18 v0 v5 acc (ix2 r d)
      = v0 (ix2 r d) + Ideal.ofBits FTy.f32 0x3F000000#32 * v5 (ix3 0 0 d) * acc (ix2 r d) := by
  pointwise [k0_pay18]

section block
variable (B0 : FVec Ideal S512x1024 .f32) (B1 : FVec Ideal S1x16x1024 .f32) (B2 : FVec Ideal S1x1024 .f32)
  (B3 B4 : FVec Ideal S1024x2816 .bf16) (B5 : FVec Ideal S2816x1024 .bf16)

/-- The block that is written. -/
def blockOut : FVec Ideal S512x1024 .f32 :=
  k0_pay18 B0 (modPart B1 2 inb_S1x16x1024_S1x1x1024_0_2_0) (allTiles (k0_pay1 B0 B2
    (modPart B1 0 inb_S1x16x1024_S1x1x1024_0_0_0) (modPart B1 1 inb_S1x16x1024_S1x1x1024_0_1_0)) B3 B4 B5)

variable (x : Fin 1024 → EReal) (mv : Fin 9216 → EReal) (g : Fin 1024 → EReal) (a b : Fin 1024 → Fin 2816 → EReal)
  (w : Fin 2816 → Fin 1024 → EReal) (r : Fin 512) (d : Fin 1024)

theorem blockOut_at (b0 : ∀ e, B0 (ix2 r e) = x e)
    (b1 : ∀ (j : Fin 16) (hj : (j : ℕ) < 9) (e : Fin 1024), B1 (ix3 0 j e) = mv ⟨1024 * j + e, by omega⟩)
    (b2 : ∀ e, B2 (ix2 0 e) = g e) (b3 : ∀ e f, B3 (ix2 e f) = a e f) (b4 : ∀ e f, B4 (ix2 e f) = b e f)
    (b5 : ∀ f e, B5 (ix2 f e) = w f e) : blockOut B0 B1 B2 B3 B4 B5 (ix2 r d) = firstRow x mv g a b w d := by
  have b10 : ∀ e : Fin 1024, B1 (ix3 0 0 e) = mv ⟨e, by omega⟩ := fun e =>
    (b1 0 (by decide) e).trans (congrArg mv (Fin.ext (Nat.zero_add _)))
  have b11 : ∀ e : Fin 1024, B1 (ix3 0 1 e) = mv ⟨1024 + e, by omega⟩ := b1 1 (by decide)
  have b12 : ∀ e : Fin 1024, B1 (ix3 0 2 e) = mv ⟨2048 + e, by omega⟩ := b1 2 (by decide)
  unfold blockOut
  refine (pay18_at _ _ _ _ _).trans ?_
  simp only [allTiles_at _ b3 b4 b5, pay1_at, modPart]
  pointwise
  simp only [b0, b10, b11, b12, b2]
  rfl
end block

variable (m : (ℓ : Loc nD τ sig) → Buf (Elt Ideal) ℓ)

theorem idx : ∀ t : Fin cfg0.N, win0_0.index t = ![t.val, 0] ∧ win0_1.index t = ![8, 0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The first half step of the trunk, entry by entry: the context rows have row 8's modulations. -/
def firstVal (x : FVec Ideal S8192x1024 .f32) (mods : FVec Ideal S16x9216 .f32) (g : FVec Ideal S1024 .f32)
    (w1 w3 : FVec Ideal S1024x2816 .f32) (w2 : FVec Ideal S2816x1024 .f32) (R : Fin 8192) (C : Fin 1024) : EReal :=
  firstRow (fun e => x (ix2 R e)) (fun e => mods (ix2 8 e)) (fun e => g (ix1 e)) (fun e f => w1 (ix2 e f))
    (fun e f => w3 (ix2 e f)) (fun f e => w2 (ix2 f e)) C

theorem firstVal_congr (x mods g w1 w3 w2) {R R' : Fin 8192} {C C' : Fin 1024} (hR : (R : ℕ) = R') (hC : (C : ℕ) = C') :
    firstVal x mods g w1 w3 w2 R C = firstVal x mods g w1 w3 w2 R' C' := by
  rw [Fin.ext hR, Fin.ext hC]

theorem V_main_v1 (c : Dev nD) : V m c main_v1 = padded (m ((c : Thread nD τ).loc main_arg1)) := by
  simp only [V, hostOps0, hostOps0_1, hostOps0_2, List.flatten_cons, List.flatten_nil, List.append_nil, List.cons_append,
    List.nil_append]
  entry_read
  rfl

theorem V_main_v2 (c : Dev nD) : V m c main_v2 = broadcastInDim S1x1024 ![1] bcast_S1024_S1x1024_1
    (m ((c : Thread nD τ).loc main_arg2)) := by
  simp only [V, hostOps0, hostOps0_1, hostOps0_2, List.flatten_cons, List.flatten_nil, List.append_nil, List.cons_append,
    List.nil_append]
  entry_read
  rfl

theorem blk1 (c : Dev nD) (t : Fin cfg0.N) (j : Fin 16) (hj : (j : ℕ) < 9) (e : Fin 1024) :
    iblk m c 1 t (ix3 0 j e) = m ((c : Thread nD τ).loc main_arg1) (ix2 8 ⟨1024 * j + e, by omega⟩) := by
  blk_simp [iblk, idx t]
  rw [V_main_v1]
  refine Eq.trans ?_ (padded_at _ 8 j hj e)
  generalize padded _ = X
  blk_point [idx t]

theorem blk2 (c : Dev nD) (t : Fin cfg0.N) (e : Fin 1024) :
    iblk m c 2 t (ix2 0 e) = m ((c : Thread nD τ).loc main_arg2) (ix1 e) := by
  blk_simp [iblk, idx t]
  rw [V_main_v2]
  pointwise
  blk_point [idx t]

theorem blk3 (c : Dev nD) (t : Fin cfg0.N) (i : Fin 1024) (j : Fin 2816) :
    iblk m c 3 t (ix2 i j) = m ((c : Thread nD τ).loc main_arg3) (ix2 i j) := by
  blk_simp [iblk, idx t]
  entry_read
  pointwise
  blk_point [idx t]

theorem blk4 (c : Dev nD) (t : Fin cfg0.N) (i : Fin 1024) (j : Fin 2816) :
    iblk m c 4 t (ix2 i j) = m ((c : Thread nD τ).loc main_arg4) (ix2 i j) := by
  blk_simp [iblk, idx t]
  entry_read
  pointwise
  blk_point [idx t]

theorem blk5 (c : Dev nD) (t : Fin cfg0.N) (i : Fin 2816) (j : Fin 1024) :
    iblk m c 5 t (ix2 i j) = m ((c : Thread nD τ).loc main_arg5) (ix2 i j) := by
  blk_simp [iblk, idx t]
  entry_read
  pointwise
  blk_point [idx t]

theorem blk0 (c : Dev nD) (t : Fin cfg0.N) (r : Fin 512) (e : Fin 1024) : iblk m c 0 t (ix2 r e)
    = m ((c : Thread nD τ).loc main_arg0) (ix2 ⟨512 * t + r, by have : t.val < 16 := t.isLt; omega⟩ e) := by
  blk_point [iblk, V, idx t]

def out (c : Dev nD) : FVec Ideal S8192x1024 .f32 := fun i => firstVal (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (i 0) (i 1)

theorem final (c : Dev nD) : (dats m 0 c).arrAt 6 (cfgs 0).N = out m c := by
  refine (dats m 0 c).arrAt_eq_of_covers 6 _ (by decide +kernel) fun t _ y => ?_
  blk_simp
  rw [after0_6]
  unfold outsAt0
  unfold out0_A_6
  frame_out
  idx_vars y
  refine Eq.trans ?_ (firstVal_congr _ _ _ _ _ _ (R := ⟨512 * t + y0, by have : t.val < 16 := t.isLt; omega⟩) (C := y1) ?_ ?_)
  · exact blockOut_at _ _ _ _ _ _ _ _ _ _ _ _ y0 y1 (blk0 m c t y0) (blk1 m c t) (blk2 m c t) (blk3 m c t) (blk4 m c t)
      (blk5 m c t)
  · blk_simp [idx t]
    dsimp only
    omega
  · blk_simp [idx t]

end Cert.FfnFirstIdeal.Value
-- ==== Proof.FfnFirstRef.lean ====
module

public import proofs.«01_k».proof.Proof.Gen.FfnFirstRefIdeal.Read
public import proofs.«01_k».proof.Proof.FfnFirstFinal

@[expose] public section

set_option maxRecDepth 16384

noncomputable section

namespace Cert.FfnFirstRefIdeal.Read

open Cert.FfnFirstRefIdeal Cert.FfnFirstRefIdeal.Gen Idealize.ShloMosaic
open Layer
open Cert.FfnFirstIdeal.Value (firstVal)

variable (x : FVec Ideal S8192x1024 .f32) (mods : FVec Ideal S16x9216 .f32) (g : FVec Ideal S1024 .f32)
  (w1 w3 : FVec Ideal S1024x2816 .f32) (w2 : FVec Ideal S2816x1024 .f32) (n : Fin 32) (b : Fin 256)

/-- The normalised rows. -/
abbrev hrow : Fin 1024 → EReal := adaVal (fun e => x (ix2 ⟨n * 256 + b, by omega⟩ e)) (fun e => g (ix1 e))
  (fun e => mods (ix2 8 ⟨e, by omega⟩)) (fun e => mods (ix2 8 ⟨1024 + e, by omega⟩))

theorem v11_at (e : Fin 1024) : val_main_v11 (F := Ideal) x (ix3 n b e) = x (ix2 ⟨n * 256 + b, by omega⟩ e) := by
  pointwise [val_main_v11]

theorem v30_at (e : Fin 1024) : val_main_v30 (F := Ideal) x mods g (ix3 n b e) = hrow x mods g n b e := by
  pointwise [val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v2, val_main_v3, val_main_v1,
    val_main_v0, val_main_cst, val_main_cst_0, val_main_cst_1, val_main_cst_2]
  simp only [v11_at]
  rfl

theorem v31_at (f : Fin 2816) : val_main_v31 (F := Ideal) x mods g w1 (ix3 n b f) = ∑ e, hrow x mods g n b e * w1 (ix2 e f) := by
  pointwise [val_main_v31]
  simp only [v30_at]

theorem v33_at (f : Fin 2816) : val_main_v33 (F := Ideal) x mods g w3 (ix3 n b f) = ∑ e, hrow x mods g n b e * w3 (ix2 e f) := by
  pointwise [val_main_v33]
  simp only [v30_at]

theorem v34_at (f : Fin 2816) : val_main_v34 (F := Ideal) x mods g w1 w3 (ix3 n b f)
    = unitVal (hrow x mods g n b) (fun e f => w1 (ix2 e f)) (fun e f => w3 (ix2 e f)) f := by
  pointwise [val_main_v34, val_main_v32, val_main_call0_v0, val_main_call0_v1, val_main_call0_v2, val_main_call0_v3,
    val_main_call0_v4, val_main_call0_v5, val_main_call0_cst, val_main_call0_cst_0]
  rw [v31_at, v33_at]
  rfl

theorem v41_at (R : Fin 8192) (C : Fin 1024) : val_main_v41 (F := Ideal) x mods g w1 w3 w2 (ix2 R C)
    = firstVal x mods g w1 w3 w2 R C := by
  pointwise [val_main_v35, val_main_v36, val_main_v37, val_main_v38, val_main_v39, val_main_v40, val_main_v41, val_main_v4,
    val_main_v1, val_main_v0, val_main_cst_3]
  simp only [v11_at, v34_at]
  refine Eq.trans ?_ (Cert.FfnFirstIdeal.Value.firstVal_congr x mods g w1 w3 w2 (R := ⟨R / 256 * 256 + R % 256, by omega⟩) (C := C)
    (by dsimp only; omega) rfl)
  rfl

end Cert.FfnFirstRefIdeal.Read
-- ==== Proof.FfnFirstClaim.lean ====
/- The first half feed-forward claim: the kernel's result is the reference's. -/
module

public import proofs.«01_k».proof.Defs
public import proofs.«01_k».proof.Proof.Gen.FfnFirstIdeal.Value
public import proofs.«01_k».proof.Proof.Gen.FfnFirstRefIdeal.Run
public import proofs.«01_k».proof.Proof.Gen.FfnFirstRefIdeal.Read
public import proofs.«01_k».proof.Proof.FfnFirstRef
public import proofs.«01_k».proof.Proof.FfnFirstFinal

@[expose] public section

noncomputable section

namespace Cert.Proof

open Idealize.ShloMosaic Idealize.SL.Sem

theorem ffnFirst : Cert.algebraic_FfnFirstIdeal_FfnFirstRefIdeal (hFfnFirstIdeal := Cert.FfnFirstIdeal.Gen.facts)
    (hFfnFirstRefIdeal := Cert.FfnFirstRefIdeal.Gen.facts) := by
  intro m g m' g' _ hagree
  refine ⟨_, Cert.FfnFirstIdeal.Value.run_blocks m g,
    (θ_run _ _ _).mono (fun r h c => ⟨(h c).1.trans ?_, (h c).2⟩) (Cert.FfnFirstRefIdeal.Value.run m' g')⟩
  obtain ⟨h0, h1, h2, h3, h4, h5⟩ := hagree c
  refine (Cert.FfnFirstRefIdeal.Read.val_main_v41_eq m' c).trans ?_
  rw [h0, h1, h2, h3, h4, h5]
  refine Eq.trans ?_ (Cert.FfnFirstIdeal.Value.final m c).symm
  funext i
  idx_vars i
  exact Cert.FfnFirstRefIdeal.Read.v41_at _ _ _ _ _ _ _ _

end Cert.Proof

end
-- ==== Proof.FfnMidFinal.lean ====
/- What the second half feed-forward call, which adds the mixers' output first, leaves in its result. -/
module

public import proofs.«01_k».proof.Proof.Gen.FfnMidIdeal.Value
public import proofs.«01_k».proof.Proof.FfnTiles
public import proofs.«01_k».proof.Proof.FfnFinal

@[expose] public section

set_option maxRecDepth 16384

noncomputable section

namespace Cert.FfnMidIdeal.Value

open Cert.FfnMidIdeal Cert.FfnMidIdeal.Gen Idealize.ShloMosaic Idealize.ShloMosaic.TcCoe Idealize.SL.Sem
open Idealize.ShloMosaic.Pipeline (Dat)
open Layer
open Cert.FfnIdeal.Value (padded padded_at)

theorem pay1_at (v0 : Vec Ideal S512x1024 .f32) (v5 : Vec Ideal S1x1x1024 .f32) (acc : Vec Ideal S512x1024 .f32)
    (r : Fin 512) (d : Fin 1024) : k0_pay1 v0 v5 acc (ix2 r d)
      = v0 (ix2 r d) + Ideal.ofBits FTy.f32 0x3F000000#32 * v5 (ix3 0 0 d) * acc (ix2 r d) := by
  pointwise [k0_pay1]

theorem pay2_at (v0 : Vec Ideal S512x1024 .f32) (v1 v5 : Vec Ideal S512x512 .bf16) (v2 v6 : Vec Ideal S512x1024 .bf16)
    (v10 : Vec Ideal S1x1x1024 .f32) (r : Fin 512) (d : Fin 1024) : k0_pay2 v0 v1 v2 v5 v6 v10 (ix2 r d)
      = v0 (ix2 r d) + v10 (ix3 0 0 d) * (∑ k, v1 (ix2 r k) * v2 (ix2 k d) + ∑ k, v5 (ix2 r k) * v6 (ix2 k d)) := by
  pointwise [k0_pay2]

theorem pay7_at (v0 : Vec Ideal S512x1024 .f32) (v1 v5 : Vec Ideal S512x512 .bf16) (v2 v6 : Vec Ideal S512x1024 .bf16)
    (v10 v18 v20 : Vec Ideal S1x1x1024 .f32) (v16 : Vec Ideal S1x1024 .f32) (r : Fin 512) (d : Fin 1024) :
    k0_pay7 (k0_pay2 v0 v1 v2 v5 v6 v10) (k0_pay3 v16) (k0_pay4 v18) (k0_pay5 v20) (k0_pay6 v0 v1 v2 v5 v6 v10) (ix2 r d)
      = adaVal (fun e => k0_pay2 v0 v1 v2 v5 v6 v10 (ix2 r e)) (fun e => v16 (ix2 0 e)) (fun e => v18 (ix3 0 0 e))
        (fun e => v20 (ix3 0 0 e)) d := by
  pointwise [k0_pay7, k0_pay3, k0_pay4, k0_pay5, k0_pay6]
  rfl

section block
variable (B0 : FVec Ideal S512x1024 .f32) (B1 B2 : FVec Ideal S512x512 .bf16) (B3 : FVec Ideal S1024x1024 .bf16)
  (B4 : FVec Ideal S1x16x1024 .f32) (B5 : FVec Ideal S1x1024 .f32) (B6 B7 : FVec Ideal S1024x2816 .bf16)
  (B8 : FVec Ideal S2816x1024 .bf16)

/-- 512 rows of the mixers' output projection. -/
abbrev outPart (k : ℕ) (h : ∀ a, (![k, 0] : Fin 2 → ℕ) a + S512x1024.size a ≤ S1024x1024.size a) : FVec Ideal S512x1024 .bf16 :=
  View.ld (Val := Elt Ideal) (S := S1024x1024) (e' := .bf16) B3 (Rect.unit (s := S1024x1024) ![k, 0] ![512, 1024] h)

/-- The block with the mixers' output added. -/
abbrev mixed : FVec Ideal S512x1024 .f32 :=
  k0_pay2 (F := Ideal) B0 B1 (outPart B3 0 inb_S1024x1024_S512x1024_0_0) B2 (outPart B3 512 inb_S1024x1024_S512x1024_512_0)
    (modPart B4 5 inb_S1x16x1024_S1x1x1024_0_5_0)

/-- The normalised rows. -/
abbrev normed : FVec Ideal S512x1024 .bf16 :=
  k0_pay7 (mixed B0 B1 B2 B3 B4) (k0_pay3 (F := Ideal) B5) (k0_pay4 (modPart B4 6 inb_S1x16x1024_S1x1x1024_0_6_0))
    (k0_pay5 (modPart B4 7 inb_S1x16x1024_S1x1x1024_0_7_0)) (k0_pay6 (F := Ideal) B0 B1
      (outPart B3 0 inb_S1024x1024_S512x1024_0_0) B2 (outPart B3 512 inb_S1024x1024_S512x1024_512_0)
      (modPart B4 5 inb_S1x16x1024_S1x1x1024_0_5_0))

/-- The block that is written. -/
def blockOut : FVec Ideal S512x1024 .f32 :=
  k0_pay1 (mixed B0 B1 B2 B3 B4) (modPart B4 8 inb_S1x16x1024_S1x1x1024_0_8_0)
    (allTiles (normed B0 B1 B2 B3 B4 B5) B6 B7 B8)

variable (x : Fin 1024 → EReal) (p q : Fin 512 → EReal) (mv : Fin 9216 → EReal) (g : Fin 1024 → EReal)
  (a b : Fin 1024 → Fin 2816 → EReal) (w : Fin 2816 → Fin 1024 → EReal) (wo : Fin 1024 → Fin 1024 → EReal)
  (r : Fin 512) (d : Fin 1024)

theorem blockOut_at (b0 : ∀ e, B0 (ix2 r e) = x e) (b1 : ∀ e, B1 (ix2 r e) = p e) (b2 : ∀ e, B2 (ix2 r e) = q e)
    (b3 : ∀ k e, B3 (ix2 k e) = wo k e)
    (b4 : ∀ (j : Fin 16) (hj : (j : ℕ) < 9) (e : Fin 1024), B4 (ix3 0 j e) = mv ⟨1024 * j + e, by omega⟩)
    (b5 : ∀ e, B5 (ix2 0 e) = g e) (b6 : ∀ e f, B6 (ix2 e f) = a e f) (b7 : ∀ e f, B7 (ix2 e f) = b e f)
    (b8 : ∀ f e, B8 (ix2 f e) = w f e) : blockOut B0 B1 B2 B3 B4 B5 B6 B7 B8 (ix2 r d) = midRow x p q mv g a b w wo d := by
  have b45 : ∀ e : Fin 1024, B4 (ix3 0 5 e) = mv ⟨5120 + e, by omega⟩ := b4 5 (by decide)
  have b46 : ∀ e : Fin 1024, B4 (ix3 0 6 e) = mv ⟨6144 + e, by omega⟩ := b4 6 (by decide)
  have b47 : ∀ e : Fin 1024, B4 (ix3 0 7 e) = mv ⟨7168 + e, by omega⟩ := b4 7 (by decide)
  have b48 : ∀ e : Fin 1024, B4 (ix3 0 8 e) = mv ⟨8192 + e, by omega⟩ := b4 8 (by decide)
  have hm : ∀ e, mixed B0 B1 B2 B3 B4 (ix2 r e) = mixRow x (catRow p q) (fun e => mv ⟨5120 + e, by omega⟩) wo e := fun e => by
    unfold mixRow
    rw [sum_catRow]
    refine (pay2_at _ _ _ _ _ _ r e).trans ?_
    simp only [modPart, outPart]
    pointwise
    simp only [b0, b1, b2, b3, b45]
  unfold blockOut
  refine (pay1_at _ _ _ _ _).trans ?_
  simp only [allTiles_at _ b6 b7 b8, normed, pay7_at, hm, modPart]
  pointwise
  simp only [b46, b47, b48, b5]
  rfl
end block

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![8, 0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

/-- The second half step of the trunk, entry by entry: the context rows have row 8's modulations. -/
def midVal (x : FVec Ideal S8192x1024 .f32) (p q : FVec Ideal S8192x512 .bf16) (mods : FVec Ideal S16x9216 .f32)
    (g : FVec Ideal S1024 .f32) (w1 w3 : FVec Ideal S1024x2816 .f32) (w2 : FVec Ideal S2816x1024 .f32)
    (wo : FVec Ideal S1024x1024 .f32) (R : Fin 8192) (C : Fin 1024) : EReal :=
  midRow (fun e => x (ix2 R e)) (fun e => p (ix2 R e)) (fun e => q (ix2 R e)) (fun e => mods (ix2 8 e)) (fun e => g (ix1 e))
    (fun e f => w1 (ix2 e f)) (fun e f => w3 (ix2 e f)) (fun f e => w2 (ix2 f e)) (fun k e => wo (ix2 k e)) C

theorem midVal_congr (x p q mods g w1 w3 w2 wo) {R R' : Fin 8192} {C C' : Fin 1024} (hR : (R : ℕ) = R') (hC : (C : ℕ) = C') :
    midVal x p q mods g w1 w3 w2 wo R C = midVal x p q mods g w1 w3 w2 wo R' C' := by
  rw [Fin.ext hR, Fin.ext hC]

theorem V_main_v1 (c : Dev nD) : V m c main_v1 = padded (m ((c : Thread nD τ).loc main_arg3)) := by
  simp only [V, hostOps0, hostOps0_1, hostOps0_2, List.flatten_cons, List.flatten_nil, List.append_nil, List.cons_append,
    List.nil_append]
  entry_read
  rfl

theorem V_main_v2 (c : Dev nD) : V m c main_v2 = broadcastInDim S1x1024 ![1] bcast_S1024_S1x1024_1
    (m ((c : Thread nD τ).loc main_arg4)) := by
  simp only [V, hostOps0, hostOps0_1, hostOps0_2, List.flatten_cons, List.flatten_nil, List.append_nil, List.cons_append,
    List.nil_append]
  entry_read
  rfl

theorem blk4 (c : Dev nD) (t : Fin cfg0.N) (j : Fin 16) (hj : (j : ℕ) < 9) (e : Fin 1024) :
    iblk m c 4 t (ix3 0 j e) = m ((c : Thread nD τ).loc main_arg3) (ix2 8 ⟨1024 * j + e, by omega⟩) := by
  blk_simp [iblk, idx t]
  rw [V_main_v1]
  refine Eq.trans ?_ (padded_at _ 8 j hj e)
  generalize padded _ = X
  blk_point [idx t]

theorem blk5 (c : Dev nD) (t : Fin cfg0.N) (e : Fin 1024) :
    iblk m c 5 t (ix2 0 e) = m ((c : Thread nD τ).loc main_arg4) (ix1 e) := by
  blk_simp [iblk, idx t]
  rw [V_main_v2]
  pointwise
  blk_point [idx t]

theorem blk6 (c : Dev nD) (t : Fin cfg0.N) (i : Fin 1024) (j : Fin 2816) :
    iblk m c 6 t (ix2 i j) = m ((c : Thread nD τ).loc main_arg5) (ix2 i j) := by
  blk_simp [iblk, idx t]
  entry_read
  pointwise
  blk_point [idx t]

theorem blk7 (c : Dev nD) (t : Fin cfg0.N) (i : Fin 1024) (j : Fin 2816) :
    iblk m c 7 t (ix2 i j) = m ((c : Thread nD τ).loc main_arg6) (ix2 i j) := by
  blk_simp [iblk, idx t]
  entry_read
  pointwise
  blk_point [idx t]

theorem blk8 (c : Dev nD) (t : Fin cfg0.N) (i : Fin 2816) (j : Fin 1024) :
    iblk m c 8 t (ix2 i j) = m ((c : Thread nD τ).loc main_arg7) (ix2 i j) := by
  blk_simp [iblk, idx t]
  entry_read
  pointwise
  blk_point [idx t]

theorem blk0 (c : Dev nD) (t : Fin cfg0.N) (r : Fin 512) (e : Fin 1024) : iblk m c 0 t (ix2 r e)
    = m ((c : Thread nD τ).loc main_arg0) (ix2 ⟨512 * t + r, by have : t.val < 16 := t.isLt; omega⟩ e) := by
  blk_point [iblk, V, idx t]

theorem blk1 (c : Dev nD) (t : Fin cfg0.N) (r : Fin 512) (e : Fin 512) : iblk m c 1 t (ix2 r e)
    = m ((c : Thread nD τ).loc main_arg1) (ix2 ⟨512 * t + r, by have : t.val < 16 := t.isLt; omega⟩ e) := by
  blk_point [iblk, V, idx t]

theorem blk2 (c : Dev nD) (t : Fin cfg0.N) (r : Fin 512) (e : Fin 512) : iblk m c 2 t (ix2 r e)
    = m ((c : Thread nD τ).loc main_arg2) (ix2 ⟨512 * t + r, by have : t.val < 16 := t.isLt; omega⟩ e) := by
  blk_point [iblk, V, idx t]

theorem blk3 (c : Dev nD) (t : Fin cfg0.N) (i : Fin 1024) (j : Fin 1024) :
    iblk m c 3 t (ix2 i j) = m ((c : Thread nD τ).loc main_arg8) (ix2 i j) := by
  blk_simp [iblk, idx t]
  entry_read
  pointwise
  blk_point [idx t]

def out (c : Dev nD) : FVec Ideal S8192x1024 .f32 := fun i => midVal (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (i 0) (i 1)

theorem final (c : Dev nD) : (dats m 0 c).arrAt 9 (cfgs 0).N = out m c := by
  refine (dats m 0 c).arrAt_eq_of_covers 9 _ (by decide +kernel) fun t _ y => ?_
  blk_simp
  rw [after0_9]
  unfold outsAt0
  unfold out0_A_9
  frame_out
  idx_vars y
  refine Eq.trans ?_ (midVal_congr _ _ _ _ _ _ _ _ _ (R := ⟨512 * t + y0, by have : t.val < 16 := t.isLt; omega⟩) (C := y1) ?_ ?_)
  · exact blockOut_at _ _ _ _ _ _ _ _ _ _ _ _ _ _ _ _ _ _ y0 y1 (blk0 m c t y0) (blk1 m c t y0) (blk2 m c t y0) (blk3 m c t)
      (blk4 m c t) (blk5 m c t) (blk6 m c t) (blk7 m c t) (blk8 m c t)
  · blk_simp [idx t]
    dsimp only
    omega
  · blk_simp [idx t]

end Cert.FfnMidIdeal.Value
-- ==== Proof.FfnMidRef.lean ====
module

public import proofs.«01_k».proof.Proof.Gen.FfnMidRefIdeal.Read
public import proofs.«01_k».proof.Proof.FfnMidFinal

@[expose] public section

set_option maxRecDepth 16384

noncomputable section

namespace Cert.FfnMidRefIdeal.Read

open Cert.FfnMidRefIdeal Cert.FfnMidRefIdeal.Gen Idealize.ShloMosaic
open Layer
open Cert.FfnMidIdeal.Value (midVal)

variable (x : FVec Ideal S8192x1024 .f32) (p q : FVec Ideal S8192x512 .bf16) (mods : FVec Ideal S16x9216 .f32)
  (g : FVec Ideal S1024 .f32) (w1 w3 : FVec Ideal S1024x2816 .f32) (w2 : FVec Ideal S2816x1024 .f32)
  (wo : FVec Ideal S1024x1024 .f32) (n : Fin 32) (b : Fin 256)

theorem v16_at (k : Fin 1024) : val_main_v16 (F := Ideal) p q (ix3 n b k)
    = catRow (fun e => p (ix2 ⟨n * 256 + b, by omega⟩ e)) (fun e => q (ix2 ⟨n * 256 + b, by omega⟩ e)) k := by
  pointwise [val_main_v16, val_main_v15, val_main_v14, val_main_v13, val_main_v12]
  rfl

/-- The rows with the gated projection of the mixers' output added. -/
abbrev mrow : Fin 1024 → EReal := mixRow (fun e => x (ix2 ⟨n * 256 + b, by omega⟩ e))
  (catRow (fun e => p (ix2 ⟨n * 256 + b, by omega⟩ e)) (fun e => q (ix2 ⟨n * 256 + b, by omega⟩ e)))
  (fun e => mods (ix2 8 ⟨5120 + e, by omega⟩)) (fun k e => wo (ix2 k e))

theorem v20_at (e : Fin 1024) : val_main_v20 (F := Ideal) x p q mods wo (ix3 n b e) = mrow x p q mods wo n b e := by
  pointwise [val_main_v20, val_main_v19, val_main_v18, val_main_v17, val_main_v11, val_main_v7, val_main_v1, val_main_v0]
  simp only [v16_at]
  rfl

/-- The normalised rows. -/
abbrev hrow : Fin 1024 → EReal := adaVal (mrow x p q mods wo n b) (fun e => g (ix1 e))
  (fun e => mods (ix2 8 ⟨6144 + e, by omega⟩)) (fun e => mods (ix2 8 ⟨7168 + e, by omega⟩))

theorem v39_at (e : Fin 1024) : val_main_v39 (F := Ideal) x p q mods g wo (ix3 n b e) = hrow x p q mods g wo n b e := by
  pointwise [val_main_v21, val_main_v22, val_main_v23, val_main_v24, val_main_v25, val_main_v26, val_main_v27, val_main_v28,
    val_main_v29, val_main_v30, val_main_v31, val_main_v32, val_main_v33, val_main_v34, val_main_v35, val_main_v36,
    val_main_v37, val_main_v38, val_main_v39, val_main_v8, val_main_v9, val_main_v1, val_main_v0, val_main_cst,
    val_main_cst_0, val_main_cst_1, val_main_cst_2]
  simp only [v20_at]
  rfl

theorem v40_at (f : Fin 2816) : val_main_v40 (F := Ideal) x p q mods g w1 wo (ix3 n b f)
    = ∑ e, hrow x p q mods g wo n b e * w1 (ix2 e f) := by
  pointwise [val_main_v40]
  simp only [v39_at]

theorem v42_at (f : Fin 2816) : val_main_v42 (F := Ideal) x p q mods g w3 wo (ix3 n b f)
    = ∑ e, hrow x p q mods g wo n b e * w3 (ix2 e f) := by
  pointwise [val_main_v42]
  simp only [v39_at]

theorem v43_at (f : Fin 2816) : val_main_v43 (F := Ideal) x p q mods g w1 w3 wo (ix3 n b f)
    = unitVal (hrow x p q mods g wo n b) (fun e f => w1 (ix2 e f)) (fun e f => w3 (ix2 e f)) f := by
  pointwise [val_main_v43, val_main_v41, val_main_call0_v0, val_main_call0_v1, val_main_call0_v2, val_main_call0_v3,
    val_main_call0_v4, val_main_call0_v5, val_main_call0_cst, val_main_call0_cst_0]
  rw [v40_at, v42_at]
  rfl

theorem v50_at (R : Fin 8192) (C : Fin 1024) : val_main_v50 (F := Ideal) x p q mods g w1 w3 w2 wo (ix2 R C)
    = midVal x p q mods g w1 w3 w2 wo R C := by
  pointwise [val_main_v44, val_main_v45, val_main_v46, val_main_v47, val_main_v48, val_main_v49, val_main_v50, val_main_v10,
    val_main_v1, val_main_v0, val_main_cst_3]
  simp only [v20_at, v43_at]
  refine Eq.trans ?_ (Cert.FfnMidIdeal.Value.midVal_congr x p q mods g w1 w3 w2 wo (R := ⟨R / 256 * 256 + R % 256, by omega⟩)
    (C := C) (by dsimp only; omega) rfl)
  rfl

end Cert.FfnMidRefIdeal.Read
-- ==== Proof.FfnMidClaim.lean ====
/- The second half feed-forward claim: the kernel's result is the reference's. -/
module

public import proofs.«01_k».proof.Defs
public import proofs.«01_k».proof.Proof.Gen.FfnMidIdeal.Value
public import proofs.«01_k».proof.Proof.Gen.FfnMidRefIdeal.Run
public import proofs.«01_k».proof.Proof.Gen.FfnMidRefIdeal.Read
public import proofs.«01_k».proof.Proof.FfnMidRef
public import proofs.«01_k».proof.Proof.FfnMidFinal

@[expose] public section

noncomputable section

namespace Cert.Proof

open Idealize.ShloMosaic Idealize.SL.Sem

theorem ffnMid : Cert.algebraic_FfnMidIdeal_FfnMidRefIdeal (hFfnMidIdeal := Cert.FfnMidIdeal.Gen.facts)
    (hFfnMidRefIdeal := Cert.FfnMidRefIdeal.Gen.facts) := by
  intro m g m' g' _ hagree
  refine ⟨_, Cert.FfnMidIdeal.Value.run_blocks m g,
    (θ_run _ _ _).mono (fun r h c => ⟨(h c).1.trans ?_, (h c).2⟩) (Cert.FfnMidRefIdeal.Value.run m' g')⟩
  obtain ⟨h0, h1, h2, h3, h4, h5, h6, h7, h8⟩ := hagree c
  refine (Cert.FfnMidRefIdeal.Read.val_main_v50_eq m' c).trans ?_
  rw [h0, h1, h2, h3, h4, h5, h6, h7, h8]
  refine Eq.trans ?_ (Cert.FfnMidIdeal.Value.final m c).symm
  funext i
  idx_vars i
  exact Cert.FfnMidRefIdeal.Read.v50_at _ _ _ _ _ _ _ _ _ _ _

end Cert.Proof

end
-- ==== Proof.ProjFinal.lean ====
module

public import proofs.«01_k».proof.Proof.Gen.ProjIdeal.Value
public import proofs.«01_k».proof.Proof.Norm

@[expose] public section

set_option maxRecDepth 16384

noncomputable section

namespace Cert.ProjIdeal.Value

open Cert.ProjIdeal Cert.ProjIdeal.Gen Idealize.ShloMosaic Idealize.ShloMosaic.TcCoe Idealize.SL.Sem
open Idealize.ShloMosaic.Pipeline (Dat)
open Layer

variable (m : (ℓ : Loc nD τ sig) → Buf (Elt Ideal) ℓ)

theorem idx : ∀ t : Fin cfg0.N, win0_0.index t = ![t.val, 0] ∧ win0_1.index t = ![8, 0, 0] ∧ win0_2.index t = ![0, 0]
    ∧ win0_3.index t = ![0, 0] ∧ win0_4.index t = ![t.val, 0] ∧ win0_5.index t = ![t.val, 0] ∧ win0_6.index t = ![t.val, 0] :=
  (by decide +kernel : ∀ t : Fin grid0.N, _)

/-- Column `J` of the projection of the normalised row `R`. -/
def projCol (x : FVec Ideal S8192x1024 .f32) (mods : FVec Ideal S16x9216 .f32) (g : FVec Ideal S1024 .f32)
    (w : FVec Ideal S1024x1536 .f32) (R : Fin 8192) (J : Fin 1536) : EReal :=
  ∑ d : Fin 1024, adaVal (fun e => x (ix2 R e)) (fun e => g (ix1 e)) (fun e => mods (ix2 8 ⟨3072 + e, by omega⟩))
    (fun e => mods (ix2 8 ⟨4096 + e, by omega⟩)) d * w (ix2 d J)

theorem norm_at (v0 : Vec Ideal S512x1024 .f32) (v1 : Vec Ideal S1x1024 .f32) (v3 v5 : Vec Ideal S1x1x1024 .f32)
    (r : Fin 512) (d : Fin 1024) :
    k0_pay6 v0 v1 v3 v5 (ix2 r d) = adaVal (fun e => v0 (ix2 r e)) (fun e => v1 (ix2 0 e)) (fun e => v3 (ix3 0 0 e))
      (fun e => v5 (ix3 0 0 e)) d := by
  pointwise [k0_pay6]
  rfl

/-- The modulation rows as the grid reads them: nine rows of 1024 and seven of zeros. -/
def padded (x : FVec Ideal S16x9216 .f32) : FVec Ideal S16x16x1024 .f32 :=
  pad S16x16x1024 ![0, 0, 0] ![0, 7, 0] ![0, 0, 0] (shapeCast S16x9x1024 x shapeCasts_S16x9216_S16x9x1024)
    (sitofp .f32 (constantI S_ 32 0#32)) pads_S16x9x1024_S16x16x1024_000_070_000 h_S_

theorem padded_at (x : FVec Ideal S16x9216 .f32) (b j : Fin 16) (hj : (j : ℕ) < 9) (e : Fin 1024) :
    padded x (ix3 b j e) = x (ix2 b ⟨1024 * j + e, by omega⟩) := by
  pointwise [padded]
  rw [dif_pos hj]
  exact congrArg x (congrArg (ix2 b) (Fin.ext (by show (j : ℕ) * 1024 + e = 1024 * j + e; omega)))

theorem V_main_v1 (c : Dev nD) : V m c main_v1 = padded (m ((c : Thread nD τ).loc main_arg1)) := by
  simp only [V, hostOps0, hostOps0_1, hostOps0_2, List.flatten_cons, List.flatten_nil, List.append_nil, List.cons_append,
    List.nil_append]
  entry_read
  rfl

theorem V_main_v2 (c : Dev nD) : V m c main_v2 = broadcastInDim S1x1024 ![1] bcast_S1024_S1x1024_1
    (m ((c : Thread nD τ).loc main_arg2)) := by
  simp only [V, hostOps0, hostOps0_1, hostOps0_2, List.flatten_cons, List.flatten_nil, List.append_nil, List.cons_append,
    List.nil_append]
  entry_read
  rfl

theorem blk1 (c : Dev nD) (t : Fin cfg0.N) (j : Fin 16) (hj : (j : ℕ) < 9) (e : Fin 1024) :
    iblk m c 1 t (ix3 0 j e) = m ((c : Thread nD τ).loc main_arg1) (ix2 8 ⟨1024 * j + e, by omega⟩) := by
  blk_simp [iblk, idx t]
  rw [V_main_v1]
  refine Eq.trans ?_ (padded_at _ 8 j hj e)
  generalize padded _ = X
  blk_point [idx t]

theorem blk2 (c : Dev nD) (t : Fin cfg0.N) (e : Fin 1024) :
    iblk m c 2 t (ix2 0 e) = m ((c : Thread nD τ).loc main_arg2) (ix1 e) := by
  blk_simp [iblk, idx t]
  rw [V_main_v2]
  pointwise
  blk_point [idx t]

theorem blk3 (c : Dev nD) (t : Fin cfg0.N) (d : Fin 1024) (J : Fin 1536) :
    iblk m c 3 t (ix2 d J) = m ((c : Thread nD τ).loc main_arg3) (ix2 d J) := by
  blk_simp [iblk, idx t]
  simp only [hostOps0, hostOps0_1, hostOps0_2, List.flatten_cons, List.flatten_nil, List.append_nil, List.cons_append,
    List.nil_append]
  entry_read
  pointwise
  blk_point [idx t]

theorem blk0 (c : Dev nD) (t : Fin cfg0.N) (r : Fin 512) (e : Fin 1024) :
    iblk m c 0 t (ix2 r e) = m ((c : Thread nD τ).loc main_arg0) (ix2 ⟨512 * t + r, by have : t.val < 16 := t.isLt; omega⟩ e) := by
  blk_point [iblk, V, idx t]

theorem proj_sum {v0 : Vec Ideal S512x1024 .f32} {v1 : Vec Ideal S1x1024 .f32} {v3 v5 : Vec Ideal S1x1x1024 .f32}
    {x : FVec Ideal S8192x1024 .f32} {mods : FVec Ideal S16x9216 .f32} {g : FVec Ideal S1024 .f32}
    {w : FVec Ideal S1024x1536 .f32} {W : Fin 1024 → EReal} {r : Fin 512} {R : Fin 8192} {J : Fin 1536}
    (h0 : ∀ e, v0 (ix2 r e) = x (ix2 R e)) (h1 : ∀ e, v1 (ix2 0 e) = g (ix1 e))
    (h3 : ∀ e : Fin 1024, v3 (ix3 0 0 e) = mods (ix2 8 ⟨3072 + e, by omega⟩))
    (h5 : ∀ e : Fin 1024, v5 (ix3 0 0 e) = mods (ix2 8 ⟨4096 + e, by omega⟩)) (hw : ∀ d, W d = w (ix2 d J)) :
    ∑ d : Fin 1024, k0_pay6 v0 v1 v3 v5 (ix2 r d) * W d = projCol x mods g w R J :=
  Finset.sum_congr rfl fun d _ => Ideal.mul_congr ((norm_at v0 v1 v3 v5 r d).trans (adaVal_congr h0 h1 h3 h5 d)) (hw d)

theorem ld3 (c : Dev nD) (t : Fin cfg0.N) (e : Fin 1024) : View.ld (iblk m c 1 t) r0_2 (ix3 0 0 e)
    = m ((c : Thread nD τ).loc main_arg1) (ix2 8 ⟨3072 + e, by omega⟩) := by
  pointwise
  exact blk1 m c t 3 (by decide) e

theorem ld4 (c : Dev nD) (t : Fin cfg0.N) (e : Fin 1024) : View.ld (iblk m c 1 t) r0_3 (ix3 0 0 e)
    = m ((c : Thread nD τ).loc main_arg1) (ix2 8 ⟨4096 + e, by omega⟩) := by
  pointwise
  exact blk1 m c t 4 (by decide) e

theorem final6 (c : Dev nD) : (dats m 0 c).arrAt 6 (cfgs 0).N = fun i => projCol (m ((c : Thread nD τ).loc main_arg0))
    (m ((c : Thread nD τ).loc main_arg1)) (m ((c : Thread nD τ).loc main_arg2)) (m ((c : Thread nD τ).loc main_arg3)) (i 0)
      ⟨1280 + (i 1 : ℕ), by have : (i 1 : ℕ) < 256 := (i 1).isLt; omega⟩ := by
  refine (dats m 0 c).arrAt_eq_of_covers 6 _ (by decide +kernel) fun t _ y => ?_
  blk_simp
  rw [after0_6]
  unfold_out out0_6
  frame_out
  idx_vars y
  pointwise [k0_pay5]
  refine proj_sum (fun e => ?_) (blk2 m c t) (ld3 m c t) (ld4 m c t) (fun d => (blk3 m c t d _).trans ?_)
  · blk_point [iblk, V, idx t]
  · blk_point [idx t]

theorem final5 (c : Dev nD) : (dats m 0 c).arrAt 5 (cfgs 0).N = fun i => projCol (m ((c : Thread nD τ).loc main_arg0))
    (m ((c : Thread nD τ).loc main_arg1)) (m ((c : Thread nD τ).loc main_arg2)) (m ((c : Thread nD τ).loc main_arg3)) (i 0)
      ⟨1024 + (i 1 : ℕ), by have : (i 1 : ℕ) < 256 := (i 1).isLt; omega⟩ := by
  refine (dats m 0 c).arrAt_eq_of_covers 5 _ (by decide +kernel) fun t _ y => ?_
  blk_simp
  rw [after0_5]
  unfold_out out0_5
  frame_out
  canon_tiles x h
  all_goals
    idx_vars x
    pointwise [k0_pay2, k0_pay3, k0_pay4]
    refine proj_sum (fun e => ?_) (blk2 m c t) (ld3 m c t) (ld4 m c t) (fun d => (blk3 m c t d _).trans ?_)
    · blk_point [iblk, V, idx t]
    · blk_point [idx t]

theorem final4 (c : Dev nD) : (dats m 0 c).arrAt 4 (cfgs 0).N = fun i => projCol (m ((c : Thread nD τ).loc main_arg0))
    (m ((c : Thread nD τ).loc main_arg1)) (m ((c : Thread nD τ).loc main_arg2)) (m ((c : Thread nD τ).loc main_arg3)) (i 0)
      ⟨(i 1 : ℕ), by have : (i 1 : ℕ) < 1024 := (i 1).isLt; omega⟩ * Ideal.ofBits FTy.f32 0x3E000000#32 := by
  refine (dats m 0 c).arrAt_eq_of_covers 4 _ (by decide +kernel) fun t _ y => ?_
  blk_simp
  rw [after0_4]
  unfold_out out0_4
  frame_out
  canon_tiles x h
  all_goals
    idx_vars x
    pointwise [k0_pay1, k0_pay7, k0_pay8, k0_pay9, k0_pay10, k0_pay11, k0_pay12, k0_pay13, k0_pay14, k0_pay15, k0_pay16,
      k0_pay17, k0_pay18]
    refine Ideal.mul_congr (proj_sum (fun e => ?_) (blk2 m c t) (ld3 m c t) (ld4 m c t)
      (fun d => (blk3 m c t d _).trans ?_)) rfl
    · blk_point [iblk, V, idx t]
    · blk_point [idx t]

end Cert.ProjIdeal.Value
-- ==== Proof.ProjRef.lean ====
module

public import proofs.«01_k».proof.Proof.Gen.ProjRefIdeal.Read
public import proofs.«01_k».proof.Proof.ProjFinal

@[expose] public section

set_option maxRecDepth 16384

noncomputable section

namespace Cert.ProjRefIdeal.Read

open Cert.ProjRefIdeal Cert.ProjRefIdeal.Gen Idealize.ShloMosaic
open Layer
open Cert.ProjIdeal.Value (projCol)

theorem v30_at (x : FVec Ideal S8192x1024 .f32) (mods : FVec Ideal S16x9216 .f32) (g : FVec Ideal S1024 .f32)
    (n : Fin 32) (b : Fin 256) (d : Fin 1024) : val_main_v30 (F := Ideal) x mods g (ix3 n b d)
      = adaVal (fun e => x (ix2 ⟨n * 256 + b, by omega⟩ e)) (fun e => g (ix1 e)) (fun e => mods (ix2 8 ⟨3072 + e, by omega⟩))
          (fun e => mods (ix2 8 ⟨4096 + e, by omega⟩)) d := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst, val_main_cst_0, val_main_cst_1, val_main_cst_2]
  rfl

theorem v31_at (x : FVec Ideal S8192x1024 .f32) (mods : FVec Ideal S16x9216 .f32) (g : FVec Ideal S1024 .f32)
    (w : FVec Ideal S1024x1536 .f32) (n : Fin 32) (b : Fin 256) (J : Fin 1536) :
    val_main_v31 (F := Ideal) x mods g w (ix3 n b J) = projCol x mods g w ⟨n * 256 + b, by omega⟩ J := by
  pointwise [val_main_v31]
  simp only [v30_at]
  rfl

theorem v39_at (x : FVec Ideal S8192x1024 .f32) (mods : FVec Ideal S16x9216 .f32) (g : FVec Ideal S1024 .f32)
    (w : FVec Ideal S1024x1536 .f32) (R : Fin 8192) (C : Fin 256) : val_main_v39 (F := Ideal) x mods g w (ix2 R C)
      = projCol x mods g w R ⟨1024 + C, by omega⟩ := by
  pointwise [val_main_v39, val_main_v33]
  rw [v31_at]
  exact congrArg (fun r => projCol x mods g w r _) (Fin.ext (by dsimp only; omega))

theorem v40_at (x : FVec Ideal S8192x1024 .f32) (mods : FVec Ideal S16x9216 .f32) (g : FVec Ideal S1024 .f32)
    (w : FVec Ideal S1024x1536 .f32) (R : Fin 8192) (C : Fin 256) : val_main_v40 (F := Ideal) x mods g w (ix2 R C)
      = projCol x mods g w R ⟨1280 + C, by omega⟩ := by
  pointwise [val_main_v40, val_main_v34]
  rw [v31_at]
  exact congrArg (fun r => projCol x mods g w r _) (Fin.ext (by dsimp only; omega))

theorem v38_at (x : FVec Ideal S8192x1024 .f32) (mods : FVec Ideal S16x9216 .f32) (g : FVec Ideal S1024 .f32)
    (w : FVec Ideal S1024x1536 .f32) (R : Fin 8192) (C : Fin 1024) : val_main_v38 (F := Ideal) x mods g w (ix2 R C)
      = projCol x mods g w R ⟨C, by omega⟩ * Ideal.ofBits FTy.f32 0x3E000000#32 := by
  pointwise [val_main_v38, val_main_v37, val_main_v36, val_main_v35, val_main_v32, val_main_cst_3]
  rw [v31_at]
  exact congrArg (fun r => projCol x mods g w r _ * _) (Fin.ext (by dsimp only; omega))

end Cert.ProjRefIdeal.Read
-- ==== Proof.ProjClaim.lean ====
/- The projection's value claim: the kernel's three results are the reference's. -/
module

public import proofs.«01_k».proof.Defs
public import proofs.«01_k».proof.Proof.Gen.ProjIdeal.Value
public import proofs.«01_k».proof.Proof.Gen.ProjRefIdeal.Run
public import proofs.«01_k».proof.Proof.Gen.ProjRefIdeal.Read
public import proofs.«01_k».proof.Proof.ProjRef
public import proofs.«01_k».proof.Proof.ProjFinal

@[expose] public section

noncomputable section

namespace Cert.Proof

open Idealize.ShloMosaic Idealize.SL.Sem

theorem proj : Cert.algebraic_ProjIdeal_ProjRefIdeal (hProjIdeal := Cert.ProjIdeal.Gen.facts)
    (hProjRefIdeal := Cert.ProjRefIdeal.Gen.facts) := by
  intro m g m' g' _ hagree
  refine ⟨_, _, _, Cert.ProjIdeal.Value.run_blocks m g,
    (θ_run _ _ _).mono (fun r h c => ⟨(h c).1.trans ?_, (h c).2.1.trans ?_, (h c).2.2.1.trans ?_, (h c).2.2.2⟩)
      (Cert.ProjRefIdeal.Value.run m' g')⟩
  all_goals obtain ⟨h0, h1, h2, h3⟩ := hagree c
  · refine (Cert.ProjRefIdeal.Read.val_main_v38_eq _ _ _ _).trans ?_
    rw [h0, h1, h2, h3]
    refine Eq.trans ?_ (Cert.ProjIdeal.Value.final4 m c).symm
    funext i
    idx_vars i
    exact Cert.ProjRefIdeal.Read.v38_at _ _ _ _ _ _
  · refine (Cert.ProjRefIdeal.Read.val_main_v39_eq _ _ _ _).trans ?_
    rw [h0, h1, h2, h3]
    refine Eq.trans ?_ (Cert.ProjIdeal.Value.final5 m c).symm
    funext i
    idx_vars i
    exact Cert.ProjRefIdeal.Read.v39_at _ _ _ _ _ _
  · refine (Cert.ProjRefIdeal.Read.val_main_v40_eq _ _ _ _).trans ?_
    rw [h0, h1, h2, h3]
    refine Eq.trans ?_ (Cert.ProjIdeal.Value.final6 m c).symm
    funext i
    idx_vars i
    exact Cert.ProjRefIdeal.Read.v40_at _ _ _ _ _ _

end Cert.Proof

end
-- ==== Proof.Gate.lean ====
module

public import proofs.«01_k».proof.Proof.Norm

@[expose] public section

set_option maxRecDepth 16384

noncomputable section

namespace Layer

open Idealize.ShloMosaic

/-- A gate's log decay from its logit: a sixteenth of the logarithm of the sigmoid. -/
def gateVal (z : EReal) : EReal :=
  (min z 0 - Ideal.log1p (Ideal.exp (0 - max z (-z)))) * Ideal.ofBits FTy.f32 0x3D800000#32

theorem log1p_exp_ne_bot (e : EReal) : Ideal.log1p (Ideal.exp e) ≠ ⊥ := by
  have hl : ∀ r : ℝ, 0 ≤ r → Ideal.log (1 + (r : EReal)) ≠ ⊥ := fun r hr => by
    have h : (1 : EReal) + (r : EReal) = ((1 + r : ℝ) : EReal) := by push_cast; rfl
    have hp : Ideal.log ((1 + r : ℝ) : EReal) = if 1 + r ≤ 0 then ⊥ else ((Real.log (1 + r) : ℝ) : EReal) := rfl
    rw [h, hp, if_neg (by linarith)]
    exact EReal.coe_ne_bot _
  induction e with
  | bot => exact hl 0 le_rfl
  | top => exact fun h => absurd (h : (⊤ : EReal) = ⊥) top_ne_bot
  | coe r => exact hl _ (Real.exp_pos r).le

theorem div_sixteen (x : EReal) : Ideal.div x (Ideal.ofBits FTy.f32 0x41800000#32) = x * Ideal.ofBits FTy.f32 0x3D800000#32 := by
  have h16 : Ideal.ofBits FTy.f32 0x41800000#32 = ((16 : ℝ) : EReal) := by
    simp [Ideal.ofBits, Ideal.ieee, -EReal.coe_mul]; norm_num
  have hr : Ideal.ofBits FTy.f32 0x3D800000#32 = (((16 : ℝ)⁻¹ : ℝ) : EReal) := by
    simp [Ideal.ofBits, Ideal.ieee, -EReal.coe_mul]; norm_num
  rw [h16, hr, Ideal.div, if_neg (by exact_mod_cast (by norm_num : (16 : ℝ) ≠ 0)), EReal.coe_inv]

/-- The logarithm of the sigmoid as minus the softplus of minus the logit. -/
theorem softplus_neg (z : EReal) :
    Ideal.div (-(max (-z) 0 + Ideal.log1p (Ideal.exp (-(max (-z) (- -z)))))) (Ideal.ofBits FTy.f32 0x41800000#32) = gateVal z := by
  rw [div_sixteen, gateVal, neg_neg, max_comm (-z) z, zero_sub]
  refine congrArg (· * _) ?_
  rw [EReal.neg_add (.inl (ne_of_gt (lt_of_lt_of_le EReal.bot_lt_zero (le_max_right _ _)))) (.inr (log1p_exp_ne_bot _))]
  refine congrArg (· - _) ?_
  rcases le_total z 0 with h | h
  · rw [min_eq_left h, max_eq_left (EReal.neg_nonneg.mpr h), neg_neg]
  · rw [min_eq_right h, max_eq_right (EReal.neg_le_zero.mpr h), neg_zero]

/-- A sum over 128 terms that vanish but for sixteen of them. -/
theorem sum_window (f : Fin 128 → EReal) (o : ℕ) (ho : o + 16 ≤ 128) (hz : ∀ j : Fin 128, ¬(o ≤ j.val ∧ j.val < o + 16) → f j = 0) :
    ∑ j, f j = ∑ k : Fin 16, f ⟨o + k, by omega⟩ := by
  refine (Fintype.sum_of_injective (fun k : Fin 16 => (⟨o + k, by omega⟩ : Fin 128)) (fun a b h => ?_) _ f (fun j hj => ?_)
    (fun _ => rfl)).symm
  · have := congrArg Fin.val h
    dsimp only at this
    exact Fin.ext (by omega)
  · refine hz j fun h => hj ⟨⟨j - o, by omega⟩, Fin.ext ?_⟩
    dsimp only
    omega

section Scatter

variable {α : Type} {s si u : Shape} {w : ℕ} (d : ScatterDims s si u) (x : s.Idx → α) (idx : IVec si w) (upd : u.Idx → α)

/-- An entry that no update lands on keeps its value. -/
theorem scatter_miss (i : s.Idx) (h : ∀ j, d.resultIdx? j idx ≠ some i) : Host.scatter d (fun _ b => b) x idx upd i = x i := by
  unfold Host.scatter
  generalize List.finRange u.numel = l
  induction l generalizing x with
  | nil => rfl
  | cons n l ih =>
    rw [List.foldl_cons, ih]
    have hn := h (u.rowMajor.symm n)
    generalize d.resultIdx? (u.rowMajor.symm n) idx = o at hn
    cases o with
    | none => rfl
    | some i' => exact if_neg fun e : i = i' => hn (congrArg some e.symm)

/-- An entry that one update lands on takes it. -/
theorem scatter_hit (i : s.Idx) (j : u.Idx) (h : d.resultIdx? j idx = some i)
    (hu : ∀ j', d.resultIdx? j' idx = some i → j' = j) : Host.scatter d (fun _ b => b) x idx upd i = upd j := by
  have hm : u.rowMajor j ∈ List.finRange u.numel := List.mem_finRange _
  unfold Host.scatter
  revert hm
  generalize List.finRange u.numel = l
  suffices hs : ∀ y : s.Idx → α, u.rowMajor j ∈ l ∨ y i = upd j → List.foldl (fun r n =>
      match d.resultIdx? (u.rowMajor.symm n) idx with
      | some i => fun i' => if i' = i then upd (u.rowMajor.symm n) else r i'
      | none => r) y l i = upd j from fun hm => hs x (.inl hm)
  induction l with
  | nil => exact fun y hy => hy.resolve_left (List.not_mem_nil)
  | cons n l ih =>
    intro y hy
    rw [List.foldl_cons]
    refine ih _ ?_
    by_cases hn : n = u.rowMajor j
    · refine .inr ?_
      rw [hn, Equiv.symm_apply_apply, h]
      exact if_pos rfl
    · refine hy.imp (fun hm => (List.mem_cons.mp hm).resolve_left fun e => hn e.symm) fun e => ?_
      have hne : d.resultIdx? (u.rowMajor.symm n) idx ≠ some i := fun e' => hn (by rw [← hu _ e', Equiv.apply_symm_apply])
      generalize d.resultIdx? (u.rowMajor.symm n) idx = o at hne
      cases o with
      | none => exact e
      | some i' => exact (if_neg fun e'' : i = i' => hne (congrArg some e''.symm)).trans e

end Scatter

end Layer
-- ==== Proof.InFinal.lean ====
module

public import proofs.«01_k».proof.Proof.Gen.InIdeal.Value
public import proofs.«01_k».proof.Proof.Gate

@[expose] public section

set_option maxRecDepth 16384

noncomputable section

namespace Cert.InIdeal.Value

open Cert.InIdeal Cert.InIdeal.Gen Idealize.ShloMosaic Idealize.ShloMosaic.TcCoe Idealize.SL.Sem
open Idealize.ShloMosaic.Pipeline (Dat)
open Layer

variable (m : (ℓ : Loc nD τ sig) → Buf (Elt Ideal) ℓ)

theorem idx : ∀ t : Fin cfg0.N, win0_0.index t = ![t.val, 0] ∧ win0_1.index t = ![8, 0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0] :=
  (by decide +kernel : ∀ t : Fin grid0.N, _)

/-- Column `J` of the projection of the normalised row `R`. -/
def inCol (x : FVec Ideal S8192x1024 .f32) (mods : FVec Ideal S16x9216 .f32) (g : FVec Ideal S1024 .f32)
    (w : FVec Ideal S1024x2080 .f32) (R : Fin 8192) (J : Fin 2080) : EReal :=
  ∑ d : Fin 1024, adaVal (fun e => x (ix2 R e)) (fun e => g (ix1 e)) (fun e => mods (ix2 8 ⟨3072 + e, by omega⟩))
    (fun e => mods (ix2 8 ⟨4096 + e, by omega⟩)) d * w (ix2 d J)

/-- The log decay of row `R` in column `C`, from the sixteen columns of the projection from `o` on. -/
def gateCol (x : FVec Ideal S8192x1024 .f32) (mods : FVec Ideal S16x9216 .f32) (g : FVec Ideal S1024 .f32)
    (w : FVec Ideal S1024x2080 .f32) (wg : FVec Ideal S16x256 .f32) (bg : FVec Ideal S256 .f32) (o : ℕ) (ho : o + 16 ≤ 2080)
    (R : Fin 8192) (C : Fin 256) : EReal :=
  gateVal (∑ k : Fin 16, inCol x mods g w R ⟨o + k, by omega⟩ * wg (ix2 k C) + bg (ix1 C))

theorem norm_at (v0 : Vec Ideal S512x1024 .f32) (v1 : Vec Ideal S1x1024 .f32) (v3 v5 : Vec Ideal S1x1x1024 .f32)
    (r : Fin 512) (d : Fin 1024) :
    k0_pay2 v0 v1 v3 v5 (ix2 r d) = adaVal (fun e => v0 (ix2 r e)) (fun e => v1 (ix2 0 e)) (fun e => v3 (ix3 0 0 e))
      (fun e => v5 (ix3 0 0 e)) d := by
  pointwise [k0_pay2]
  rfl

/-- The modulation rows as the grid reads them: nine rows of 1024 and seven of zeros. -/
def padded (x : FVec Ideal S16x9216 .f32) : FVec Ideal S16x16x1024 .f32 :=
  pad S16x16x1024 ![0, 0, 0] ![0, 7, 0] ![0, 0, 0] (shapeCast S16x9x1024 x shapeCasts_S16x9216_S16x9x1024)
    (sitofp .f32 (constantI S_ 32 0#32)) pads_S16x9x1024_S16x16x1024_000_070_000 h_S_

theorem padded_at (x : FVec Ideal S16x9216 .f32) (b j : Fin 16) (hj : (j : ℕ) < 9) (e : Fin 1024) :
    padded x (ix3 b j e) = x (ix2 b ⟨1024 * j + e, by omega⟩) := by
  pointwise [padded]
  rw [dif_pos hj]
  exact congrArg x (congrArg (ix2 b) (Fin.ext (by show (j : ℕ) * 1024 + e = 1024 * j + e; omega)))

/-- The weights of the projection but the gates', as the grid reads them. -/
def mainW (w : FVec Ideal S1024x2080 .f32) : FVec Ideal S1024x2048 .bf16 :=
  truncf .bf16 (concatenate S1024x2048 1 [⟨S1024x1536, extractStridedSlice S1024x1536 ![0, 0] w slices_S1024x2080_S1024x1536_0_0⟩,
    ⟨S1024x512, extractStridedSlice S1024x512 ![0, 1568] w slices_S1024x2080_S1024x512_0_1568⟩]
    concatenates_S1024x1536_S1024x512_S1024x2048_d1) bitsLt_bf16_f32

theorem mainW_lo (w : FVec Ideal S1024x2080 .f32) (d : Fin 1024) (J : Fin 2048) (K : Fin 2080) (hJ : (J : ℕ) < 1536)
    (hK : (J : ℕ) = K) : mainW w (ix2 d J) = w (ix2 d K) := by
  pointwise [mainW]
  rw [dif_pos hJ]
  exact congrArg w (congrArg (ix2 d) (Fin.ext hK))

theorem mainW_hi (w : FVec Ideal S1024x2080 .f32) (d : Fin 1024) (J : Fin 2048) (K : Fin 2080) (hJ : 1536 ≤ (J : ℕ))
    (hK : 32 + (J : ℕ) = K) : mainW w (ix2 d J) = w (ix2 d K) := by
  pointwise [mainW]
  rw [dif_neg (by omega)]
  exact congrArg w (congrArg (ix2 d) (Fin.ext (by dsimp only; omega)))

/-- The gates' 32 columns of the projection's weights, padded with zeros. -/
def gateW (w : FVec Ideal S1024x2080 .f32) : FVec Ideal S1024x128 .bf16 :=
  truncf .bf16 (pad S1024x128 ![0, 0] ![0, 96] ![0, 0] (extractStridedSlice S1024x32 ![0, 1536] w slices_S1024x2080_S1024x32_0_1536)
    (sitofp .f32 (constantI S_ 32 0#32)) pads_S1024x32_S1024x128_000_0960 h_S_) bitsLt_bf16_f32

theorem gateW_at (w : FVec Ideal S1024x2080 .f32) (d : Fin 1024) (j : Fin 128) (hj : (j : ℕ) < 32) :
    gateW w (ix2 d j) = w (ix2 d ⟨1536 + j, by omega⟩) := by
  pointwise [gateW]
  rw [dif_pos hj]

/-- Where an update of the second gate weights lands: shifted by the window's start. -/
theorem lands (idx : IVec S2 32) (a b : ℕ) (h0 : (idx (ix1 0)).toInt = a) (h1 : (idx (ix1 1)).toInt = b)
    (ha : a + 16 ≤ 128) (hb : b + 256 ≤ 512) (k : Fin 16) (C : Fin 256) :
    scatter_S128x512_S2_S16x256_01_n_01_0.resultIdx? (ix2 k C) idx
      = some (ix2 ⟨a + k, by omega⟩ ⟨b + C, by omega⟩) := by
  have s0 : scatter_S128x512_S2_S16x256_01_n_01_0.start (ix2 k C) idx 0 = a := by
    unfold ScatterDims.start
    rw [dif_pos (by decide)]
    refine Eq.trans (congrArg (fun i => (idx i).toInt) (funext fun z => ?_)) h0
    fin_cases z
    rfl
  have s1 : scatter_S128x512_S2_S16x256_01_n_01_0.start (ix2 k C) idx 1 = b := by
    unfold ScatterDims.start
    rw [dif_pos (by decide)]
    refine Eq.trans (congrArg (fun i => (idx i).toInt) (funext fun z => ?_)) h1
    fin_cases z
    rfl
  have w0 : scatter_S128x512_S2_S16x256_01_n_01_0.window (ix2 k C) 0 = k := by
    unfold ScatterDims.window
    rw [dif_pos (by decide)]
    rfl
  have w1 : scatter_S128x512_S2_S16x256_01_n_01_0.window (ix2 k C) 1 = C := by
    unfold ScatterDims.window
    rw [dif_pos (by decide)]
    rfl
  have z0 : S128x512.size 0 = 128 := rfl
  have z1 : S128x512.size 1 = 512 := rfl
  unfold ScatterDims.resultIdx?
  rw [dif_pos (fun z => by
    fin_cases z
    · show 0 ≤ ScatterDims.start _ _ idx 0 + (ScatterDims.window _ _ 0 : ℕ) ∧ ScatterDims.start _ _ idx 0 + (ScatterDims.window _ _ 0 : ℕ) < (S128x512.size 0 : ℕ)
      rw [s0, w0, z0]; omega
    · show 0 ≤ ScatterDims.start _ _ idx 1 + (ScatterDims.window _ _ 1 : ℕ) ∧ ScatterDims.start _ _ idx 1 + (ScatterDims.window _ _ 1 : ℕ) < (S128x512.size 1 : ℕ)
      rw [s1, w1, z1]; omega)]
  refine congrArg some (funext fun z => ?_)
  fin_cases z
  · refine Fin.ext ?_
    show (ScatterDims.start _ _ idx 0 + (ScatterDims.window _ _ 0 : ℕ)).toNat = a + k
    rw [s0, w0]; omega
  · refine Fin.ext ?_
    show (ScatterDims.start _ _ idx 1 + (ScatterDims.window _ _ 1 : ℕ)).toNat = b + C
    rw [s1, w1]; omega

theorem place_hit (x : FVec Ideal S128x512 .f32) (u : FVec Ideal S16x256 .f32) (idx : IVec S2 32) (a b : ℕ)
    (h0 : (idx (ix1 0)).toInt = a) (h1 : (idx (ix1 1)).toInt = b) (ha : a + 16 ≤ 128) (hb : b + 256 ≤ 512) (k : Fin 16) (C : Fin 256) :
    Host.scatter scatter_S128x512_S2_S16x256_01_n_01_0 (fun _ b => b) x idx u (ix2 ⟨a + k, by omega⟩ ⟨b + C, by omega⟩) = u (ix2 k C) := by
  refine scatter_hit _ x idx u _ (ix2 k C) (lands idx a b h0 h1 ha hb k C) fun j hj => ?_
  idx_vars j
  have e := Option.some.inj ((lands idx a b h0 h1 ha hb j0 j1).symm.trans hj)
  have e0 : a + (j0 : ℕ) = a + k := congrArg Fin.val (congrFun e 0)
  have e1 : b + (j1 : ℕ) = b + C := congrArg Fin.val (congrFun e 1)
  rw [Fin.ext (by omega : (j0 : ℕ) = k), Fin.ext (by omega : (j1 : ℕ) = C)]

theorem place_miss (x : FVec Ideal S128x512 .f32) (u : FVec Ideal S16x256 .f32) (idx : IVec S2 32) (a b : ℕ)
    (h0 : (idx (ix1 0)).toInt = a) (h1 : (idx (ix1 1)).toInt = b) (ha : a + 16 ≤ 128) (hb : b + 256 ≤ 512) (r : Fin 128) (c : Fin 512)
    (h : ¬((a ≤ r.val ∧ r.val < a + 16) ∧ (b ≤ c.val ∧ c.val < b + 256))) :
    Host.scatter scatter_S128x512_S2_S16x256_01_n_01_0 (fun _ b => b) x idx u (ix2 r c) = x (ix2 r c) := by
  refine scatter_miss _ x idx u _ fun j hj => h ?_
  idx_vars j
  have e := Option.some.inj ((lands idx a b h0 h1 ha hb j0 j1).symm.trans hj)
  have e0 : a + (j0 : ℕ) = r := congrArg Fin.val (congrFun e 0)
  have e1 : b + (j1 : ℕ) = c := congrArg Fin.val (congrFun e 1)
  omega

/-- Where a window starts. -/
def corner (a b : BitVec 32) : IVec S2 32 :=
  concatenate S2 0 [⟨S1, broadcastInDim S1 ![] bcast_S_S1 (constantI S_ 32 a)⟩,
    ⟨S1, broadcastInDim S1 ![] bcast_S_S1 (constantI S_ 32 b)⟩] concatenates_S1_S1_S2_d0

theorem corner_0 (a b : BitVec 32) : corner a b (ix1 0) = a := by
  pointwise [corner]

theorem corner_1 (a b : BitVec 32) : corner a b (ix1 1) = b := by
  pointwise [corner]

/-- The window of `u` written at the corner. -/
def place (a b : BitVec 32) (x : FVec Ideal S128x512 .f32) (u : FVec Ideal S16x256 .f32) : FVec Ideal S128x512 .f32 :=
  Host.scatter scatter_S128x512_S2_S16x256_01_n_01_0 (fun _ b => b) x (corner a b) u

theorem start0 : (corner 0#32 0#32 (ix1 0)).toInt = (0 : ℕ) ∧ (corner 0#32 0#32 (ix1 1)).toInt = (0 : ℕ) := by
  rw [corner_0, corner_1]; decide

theorem start1 : (corner 16#32 256#32 (ix1 0)).toInt = (16 : ℕ) ∧ (corner 16#32 256#32 (ix1 1)).toInt = (256 : ℕ) := by
  rw [corner_0, corner_1]; decide

/-- The second gate weights, two blocks on the diagonal of a matrix of zeros. -/
def gate2 (wf wb : FVec Ideal S16x256 .f32) : FVec Ideal S128x512 .bf16 :=
  truncf .bf16 (place 16#32 256#32 (place 0#32 0#32
    (broadcastInDim S128x512 ![] bcast_S_S128x512 (constant S_ .f32 0x00000000#32)) wf) wb) bitsLt_bf16_f32

theorem gate2_eq (wf wb : FVec Ideal S16x256 .f32) (i : S128x512.Idx) : gate2 wf wb i = place 16#32 256#32 (place 0#32 0#32
    (broadcastInDim S128x512 ![] bcast_S_S128x512 (constant S_ .f32 0x00000000#32)) wf) wb i := by
  unfold gate2
  generalize place _ _ _ _ = X
  pointwise

theorem gate2_fst (wf wb : FVec Ideal S16x256 .f32) (k : Fin 16) (C : Fin 256) :
    gate2 wf wb (ix2 ⟨0 + k, by omega⟩ ⟨0 + C, by omega⟩) = wf (ix2 k C) := by
  rw [gate2_eq, place, place_miss _ wb (corner 16#32 256#32) 16 256 start1.1 start1.2 (by decide) (by decide) _ _ (by dsimp only; omega)]
  exact place_hit _ wf (corner 0#32 0#32) 0 0 start0.1 start0.2 (by decide) (by decide) k C

theorem gate2_snd (wf wb : FVec Ideal S16x256 .f32) (k : Fin 16) (C : Fin 256) :
    gate2 wf wb (ix2 ⟨16 + k, by omega⟩ ⟨256 + C, by omega⟩) = wb (ix2 k C) := by
  rw [gate2_eq]
  exact place_hit _ wb (corner 16#32 256#32) 16 256 start1.1 start1.2 (by decide) (by decide) k C

theorem gate2_off (wf wb : FVec Ideal S16x256 .f32) (r : Fin 128) (c : Fin 512)
    (hf : ¬((0 ≤ r.val ∧ r.val < 0 + 16) ∧ (0 ≤ c.val ∧ c.val < 0 + 256)))
    (hb : ¬((16 ≤ r.val ∧ r.val < 16 + 16) ∧ (256 ≤ c.val ∧ c.val < 256 + 256))) : gate2 wf wb (ix2 r c) = 0 := by
  rw [gate2_eq, place, place_miss _ wb (corner 16#32 256#32) 16 256 start1.1 start1.2 (by decide) (by decide) _ _ hb, place,
    place_miss _ wf (corner 0#32 0#32) 0 0 start0.1 start0.2 (by decide) (by decide) _ _ hf]
  pointwise

/-- The gates' two biases one after the other, as the grid reads them. -/
def gateB (bf bb : FVec Ideal S256 .f32) : FVec Ideal S1x512 .f32 :=
  broadcastInDim S1x512 ![1] bcast_S512_S1x512_1 (concatenate S512 0 [⟨S256, bf⟩, ⟨S256, bb⟩] concatenates_S256_S256_S512_d0)

theorem gateB_fst (bf bb : FVec Ideal S256 .f32) (C : Fin 256) : gateB bf bb (ix2 0 ⟨0 + C, by omega⟩) = bf (ix1 C) := by
  pointwise [gateB]

theorem gateB_snd (bf bb : FVec Ideal S256 .f32) (C : Fin 256) : gateB bf bb (ix2 0 ⟨256 + C, by omega⟩) = bb (ix1 C) := by
  pointwise [gateB]

theorem V_main_v3 (c : Dev nD) : V m c main_v3 = mainW (m ((c : Thread nD τ).loc main_arg3)) := by
  simp only [V, hostOps0, hostOps0_1, hostOps0_2, hostOps0_3, hostOps0_4, List.flatten_cons, List.flatten_nil, List.append_nil,
    List.cons_append, List.nil_append]
  entry_read
  rfl

theorem V_main_v6 (c : Dev nD) : V m c main_v6 = gateW (m ((c : Thread nD τ).loc main_arg3)) := by
  simp only [V, hostOps0, hostOps0_1, hostOps0_2, hostOps0_3, hostOps0_4, List.flatten_cons, List.flatten_nil, List.append_nil,
    List.cons_append, List.nil_append]
  entry_read
  rfl

theorem V_main_v16 (c : Dev nD) : V m c main_v16
    = gate2 (m ((c : Thread nD τ).loc main_arg4)) (m ((c : Thread nD τ).loc main_arg6)) := by
  simp only [V, hostOps0, hostOps0_1, hostOps0_2, hostOps0_3, hostOps0_4, List.flatten_cons, List.flatten_nil, List.append_nil,
    List.cons_append, List.nil_append]
  entry_read
  rfl

theorem V_main_v18 (c : Dev nD) : V m c main_v18
    = gateB (m ((c : Thread nD τ).loc main_arg5)) (m ((c : Thread nD τ).loc main_arg7)) := by
  simp only [V, hostOps0, hostOps0_1, hostOps0_2, hostOps0_3, hostOps0_4, List.flatten_cons, List.flatten_nil, List.append_nil,
    List.cons_append, List.nil_append]
  entry_read
  rfl

theorem V_main_v20 (c : Dev nD) : V m c main_v20 = padded (m ((c : Thread nD τ).loc main_arg1)) := by
  simp only [V, hostOps0, hostOps0_1, hostOps0_2, hostOps0_3, hostOps0_4, List.flatten_cons, List.flatten_nil, List.append_nil,
    List.cons_append, List.nil_append]
  entry_read
  rfl

theorem V_main_v21 (c : Dev nD) : V m c main_v21 = broadcastInDim S1x1024 ![1] bcast_S1024_S1x1024_1
    (m ((c : Thread nD τ).loc main_arg2)) := by
  simp only [V, hostOps0, hostOps0_1, hostOps0_2, hostOps0_3, hostOps0_4, List.flatten_cons, List.flatten_nil, List.append_nil,
    List.cons_append, List.nil_append]
  entry_read
  rfl

theorem blk1 (c : Dev nD) (t : Fin cfg0.N) (j : Fin 16) (hj : (j : ℕ) < 9) (e : Fin 1024) :
    iblk m c 1 t (ix3 0 j e) = m ((c : Thread nD τ).loc main_arg1) (ix2 8 ⟨1024 * j + e, by omega⟩) := by
  blk_simp [iblk, idx t]
  rw [V_main_v20]
  refine Eq.trans ?_ (padded_at _ 8 j hj e)
  generalize padded _ = X
  blk_point [idx t]

theorem blk2 (c : Dev nD) (t : Fin cfg0.N) (e : Fin 1024) :
    iblk m c 2 t (ix2 0 e) = m ((c : Thread nD τ).loc main_arg2) (ix1 e) := by
  blk_simp [iblk, idx t]
  rw [V_main_v21]
  pointwise
  blk_point [idx t]

theorem blk3 (c : Dev nD) (t : Fin cfg0.N) (d : Fin 1024) (J : Fin 2048) :
    iblk m c 3 t (ix2 d J) = mainW (m ((c : Thread nD τ).loc main_arg3)) (ix2 d J) := by
  blk_simp [iblk, idx t]
  rw [V_main_v3]
  generalize mainW _ = X
  blk_point [idx t]

theorem blk4 (c : Dev nD) (t : Fin cfg0.N) (d : Fin 1024) (j : Fin 128) :
    iblk m c 4 t (ix2 d j) = gateW (m ((c : Thread nD τ).loc main_arg3)) (ix2 d j) := by
  blk_simp [iblk, idx t]
  rw [V_main_v6]
  generalize gateW _ = X
  blk_point [idx t]

theorem blk5 (c : Dev nD) (t : Fin cfg0.N) (j : Fin 128) (C : Fin 512) :
    iblk m c 5 t (ix2 j C) = gate2 (m ((c : Thread nD τ).loc main_arg4)) (m ((c : Thread nD τ).loc main_arg6)) (ix2 j C) := by
  blk_simp [iblk, idx t]
  rw [V_main_v16]
  generalize gate2 _ _ = X
  blk_point [idx t]

theorem blk6 (c : Dev nD) (t : Fin cfg0.N) (C : Fin 512) :
    iblk m c 6 t (ix2 0 C) = gateB (m ((c : Thread nD τ).loc main_arg5)) (m ((c : Thread nD τ).loc main_arg7)) (ix2 0 C) := by
  blk_simp [iblk, idx t]
  rw [V_main_v18]
  generalize gateB _ _ = X
  blk_point [idx t]

theorem ld3 (c : Dev nD) (t : Fin cfg0.N) (e : Fin 1024) : View.ld (iblk m c 1 t) r0_2 (ix3 0 0 e)
    = m ((c : Thread nD τ).loc main_arg1) (ix2 8 ⟨3072 + e, by omega⟩) := by
  pointwise
  exact blk1 m c t 3 (by decide) e

theorem ld4 (c : Dev nD) (t : Fin cfg0.N) (e : Fin 1024) : View.ld (iblk m c 1 t) r0_3 (ix3 0 0 e)
    = m ((c : Thread nD τ).loc main_arg1) (ix2 8 ⟨4096 + e, by omega⟩) := by
  pointwise
  exact blk1 m c t 4 (by decide) e

theorem in_sum {v0 : Vec Ideal S512x1024 .f32} {v1 : Vec Ideal S1x1024 .f32} {v3 v5 : Vec Ideal S1x1x1024 .f32}
    {x : FVec Ideal S8192x1024 .f32} {mods : FVec Ideal S16x9216 .f32} {g : FVec Ideal S1024 .f32}
    {w : FVec Ideal S1024x2080 .f32} {W : Fin 1024 → EReal} {r : Fin 512} {R : Fin 8192} {J : Fin 2080}
    (h0 : ∀ e, v0 (ix2 r e) = x (ix2 R e)) (h1 : ∀ e, v1 (ix2 0 e) = g (ix1 e))
    (h3 : ∀ e : Fin 1024, v3 (ix3 0 0 e) = mods (ix2 8 ⟨3072 + e, by omega⟩))
    (h5 : ∀ e : Fin 1024, v5 (ix3 0 0 e) = mods (ix2 8 ⟨4096 + e, by omega⟩)) (hw : ∀ d, W d = w (ix2 d J)) :
    ∑ d : Fin 1024, k0_pay2 v0 v1 v3 v5 (ix2 r d) * W d = inCol x mods g w R J :=
  Finset.sum_congr rfl fun d _ => Ideal.mul_congr ((norm_at v0 v1 v3 v5 r d).trans (adaVal_congr h0 h1 h3 h5 d)) (hw d)

/-- The log decays of row `R`: 256 columns of the forward gate, then 256 of the backward gate. -/
def decay (x : FVec Ideal S8192x1024 .f32) (mods : FVec Ideal S16x9216 .f32) (g : FVec Ideal S1024 .f32)
    (w : FVec Ideal S1024x2080 .f32) (wf : FVec Ideal S16x256 .f32) (bf : FVec Ideal S256 .f32) (wb : FVec Ideal S16x256 .f32)
    (bb : FVec Ideal S256 .f32) (R : Fin 8192) (C : Fin 512) : EReal :=
  if h : (C : ℕ) < 256 then gateCol x mods g w wf bf 1536 (by decide) R ⟨C, h⟩
  else gateCol x mods g w wb bb 1552 (by decide) R ⟨C - 256, by omega⟩

/-- What the padded gate weights give is what the sixteen columns of the gate give. -/
theorem decay_at (x : FVec Ideal S8192x1024 .f32) (mods : FVec Ideal S16x9216 .f32) (g : FVec Ideal S1024 .f32)
    (w : FVec Ideal S1024x2080 .f32) (wf : FVec Ideal S16x256 .f32) (bf : FVec Ideal S256 .f32) (wb : FVec Ideal S16x256 .f32)
    (bb : FVec Ideal S256 .f32) (R : Fin 8192) (C : Fin 512) :
    gateVal (∑ j : Fin 128, (∑ d : Fin 1024, adaVal (fun e => x (ix2 R e)) (fun e => g (ix1 e))
      (fun e => mods (ix2 8 ⟨3072 + e, by omega⟩)) (fun e => mods (ix2 8 ⟨4096 + e, by omega⟩)) d * gateW w (ix2 d j))
      * gate2 wf wb (ix2 j C) + gateB bf bb (ix2 0 C)) = decay x mods g w wf bf wb bb R C := by
  generalize hA : adaVal (fun e => x (ix2 R e)) (fun e => g (ix1 e)) (fun e => mods (ix2 8 ⟨3072 + e, by omega⟩))
    (fun e => mods (ix2 8 ⟨4096 + e, by omega⟩)) = A
  have hp : ∀ (j : Fin 128) (J : Fin 2080), (j : ℕ) < 32 → 1536 + (j : ℕ) = J →
      ∑ d : Fin 1024, A d * gateW w (ix2 d j) = inCol x mods g w R J := fun j J hj hJ => by
    unfold inCol
    rw [hA]
    exact Finset.sum_congr rfl fun d _ => Ideal.mul_congr rfl ((gateW_at w d j hj).trans
      (congrArg w (congrArg (ix2 d) (Fin.ext hJ))))
  by_cases h : (C : ℕ) < 256
  · have hC : C = ⟨0 + (⟨C, h⟩ : Fin 256), by omega⟩ := Fin.ext (Nat.zero_add _).symm
    rw [decay, dif_pos h, gateCol, sum_window _ 0 (by decide) fun j hj => by
      rw [gate2_off wf wb j C (fun e => hj e.1) (fun e => by omega), mul_zero]]
    refine congrArg gateVal (Ideal.add_congr (Finset.sum_congr rfl fun k _ => Ideal.mul_congr (hp _ _ (by dsimp only; omega)
      (by dsimp only; omega)) ?_) ?_)
    · exact (congrArg (fun z => gate2 wf wb (ix2 _ z)) hC).trans (gate2_fst wf wb k ⟨C, h⟩)
    · exact (congrArg (fun z => gateB bf bb (ix2 0 z)) hC).trans (gateB_fst bf bb ⟨C, h⟩)
  · have hC : C = ⟨256 + (⟨C - 256, by omega⟩ : Fin 256), by dsimp only; omega⟩ := Fin.ext (by dsimp only; omega)
    rw [decay, dif_neg h, gateCol, sum_window _ 16 (by decide) fun j hj => by
      rw [gate2_off wf wb j C (fun e => by omega) (fun e => hj e.1), mul_zero]]
    refine congrArg gateVal (Ideal.add_congr (Finset.sum_congr rfl fun k _ => Ideal.mul_congr (hp _ _ (by dsimp only; omega)
      (by dsimp only; omega)) ?_) ?_)
    · exact (congrArg (fun z => gate2 wf wb (ix2 _ z)) hC).trans (gate2_snd wf wb k ⟨C - 256, by omega⟩)
    · exact (congrArg (fun z => gateB bf bb (ix2 0 z)) hC).trans (gateB_snd bf bb ⟨C - 256, by omega⟩)

theorem final7 (c : Dev nD) : (dats m 0 c).arrAt 7 (cfgs 0).N = fun i => inCol (m ((c : Thread nD τ).loc main_arg0))
    (m ((c : Thread nD τ).loc main_arg1)) (m ((c : Thread nD τ).loc main_arg2)) (m ((c : Thread nD τ).loc main_arg3)) (i 0)
      ⟨(i 1 : ℕ), by have : (i 1 : ℕ) < 256 := (i 1).isLt; omega⟩ * Ideal.ofBits FTy.f32 0x3E000000#32 := by
  refine (dats m 0 c).arrAt_eq_of_covers 7 _ (by decide +kernel) fun t _ y => ?_
  have e : win0_7.index t 1 = 0 := by simp [idx t]
  blk_simp
  rw [after0_7]
  unfold_out out0_7
  frame_out
  idx_vars y
  pointwise [k0_pay3]
  refine Ideal.mul_congr (in_sum (fun e => ?_) (blk2 m c t) (ld3 m c t) (ld4 m c t) (fun d => (blk3 m c t d _).trans
    (mainW_lo _ _ _ _ (by dsimp only; omega) (by dsimp only; omega)))) rfl
  blk_point [iblk, V, idx t]

theorem final8 (c : Dev nD) : (dats m 0 c).arrAt 8 (cfgs 0).N = fun i => inCol (m ((c : Thread nD τ).loc main_arg0))
    (m ((c : Thread nD τ).loc main_arg1)) (m ((c : Thread nD τ).loc main_arg2)) (m ((c : Thread nD τ).loc main_arg3)) (i 0)
      ⟨256 + (i 1 : ℕ), by have : (i 1 : ℕ) < 256 := (i 1).isLt; omega⟩ := by
  refine (dats m 0 c).arrAt_eq_of_covers 8 _ (by decide +kernel) fun t _ y => ?_
  have e : win0_8.index t 1 = 0 := by simp [idx t]
  blk_simp
  rw [after0_8]
  unfold_out out0_8
  frame_out
  idx_vars y
  pointwise [k0_pay4]
  refine in_sum (fun e => ?_) (blk2 m c t) (ld3 m c t) (ld4 m c t) (fun d => (blk3 m c t d _).trans
    (mainW_lo _ _ _ _ (by dsimp only; omega) (by dsimp only; omega)))
  blk_point [iblk, V, idx t]

theorem final9 (c : Dev nD) : (dats m 0 c).arrAt 9 (cfgs 0).N = fun i => inCol (m ((c : Thread nD τ).loc main_arg0))
    (m ((c : Thread nD τ).loc main_arg1)) (m ((c : Thread nD τ).loc main_arg2)) (m ((c : Thread nD τ).loc main_arg3)) (i 0)
      ⟨512 + (i 1 : ℕ), by have : (i 1 : ℕ) < 512 := (i 1).isLt; omega⟩ := by
  refine (dats m 0 c).arrAt_eq_of_covers 9 _ (by decide +kernel) fun t _ y => ?_
  have e : win0_9.index t 1 = 0 := by simp [idx t]
  blk_simp
  rw [after0_9]
  unfold_out out0_9
  frame_out
  idx_vars y
  pointwise [k0_pay5]
  refine in_sum (fun e => ?_) (blk2 m c t) (ld3 m c t) (ld4 m c t) (fun d => (blk3 m c t d _).trans
    (mainW_lo _ _ _ _ (by dsimp only; omega) (by dsimp only; omega)))
  blk_point [iblk, V, idx t]

theorem final10 (c : Dev nD) : (dats m 0 c).arrAt 10 (cfgs 0).N = fun i => inCol (m ((c : Thread nD τ).loc main_arg0))
    (m ((c : Thread nD τ).loc main_arg1)) (m ((c : Thread nD τ).loc main_arg2)) (m ((c : Thread nD τ).loc main_arg3)) (i 0)
      ⟨1024 + (i 1 : ℕ), by have : (i 1 : ℕ) < 512 := (i 1).isLt; omega⟩ := by
  refine (dats m 0 c).arrAt_eq_of_covers 10 _ (by decide +kernel) fun t _ y => ?_
  have e : win0_10.index t 1 = 0 := by simp [idx t]
  blk_simp
  rw [after0_10]
  unfold_out out0_10
  frame_out
  idx_vars y
  pointwise [k0_pay6]
  refine in_sum (fun e => ?_) (blk2 m c t) (ld3 m c t) (ld4 m c t) (fun d => (blk3 m c t d _).trans
    (mainW_lo _ _ _ _ (by dsimp only; omega) (by dsimp only; omega)))
  blk_point [iblk, V, idx t]

theorem final12 (c : Dev nD) : (dats m 0 c).arrAt 12 (cfgs 0).N = fun i => inCol (m ((c : Thread nD τ).loc main_arg0))
    (m ((c : Thread nD τ).loc main_arg1)) (m ((c : Thread nD τ).loc main_arg2)) (m ((c : Thread nD τ).loc main_arg3)) (i 0)
      ⟨1568 + (i 1 : ℕ), by have : (i 1 : ℕ) < 512 := (i 1).isLt; omega⟩ := by
  refine (dats m 0 c).arrAt_eq_of_covers 12 _ (by decide +kernel) fun t _ y => ?_
  have e : win0_12.index t 1 = 0 := by simp [idx t]
  blk_simp
  rw [after0_12]
  unfold_out out0_12
  frame_out
  idx_vars y
  pointwise [k0_pay7]
  refine in_sum (fun e => ?_) (blk2 m c t) (ld3 m c t) (ld4 m c t) (fun d => (blk3 m c t d _).trans
    (mainW_hi _ _ _ _ (by dsimp only; omega) (by dsimp only; omega)))
  blk_point [iblk, V, idx t]

theorem final11 (c : Dev nD) : (dats m 0 c).arrAt 11 (cfgs 0).N = fun i => decay (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (i 0) (i 1) := by
  refine (dats m 0 c).arrAt_eq_of_covers 11 _ (by decide +kernel) fun t _ y => ?_
  blk_simp
  rw [after0_11]
  unfold_out out0_11
  frame_out
  idx_vars y
  pointwise [k0_pay1, k0_pay9, k0_pay10, k0_pay8]
  refine Eq.trans (congrArg gateVal ?_) (decay_at _ _ _ _ _ _ _ _ _ _)
  refine Ideal.add_congr (Finset.sum_congr rfl fun j _ => Ideal.mul_congr (Finset.sum_congr rfl fun d _ => Ideal.mul_congr
    ((norm_at _ _ _ _ _ _).trans (adaVal_congr (fun e => ?_) (blk2 m c t) (ld3 m c t) (ld4 m c t) d)) (blk4 m c t d j))
    ((blk5 m c t j y1).trans ?_)) ((blk6 m c t y1).trans ?_)
  · blk_point [iblk, V, idx t]
  · generalize gate2 _ _ = X
    blk_point [idx t]
  · generalize gateB _ _ = X
    blk_point [idx t]

end Cert.InIdeal.Value
-- ==== Proof.InRef.lean ====
module

public import proofs.«01_k».proof.Proof.Gen.InRefIdeal.Read
public import proofs.«01_k».proof.Proof.InFinal

@[expose] public section

set_option maxRecDepth 16384

noncomputable section

namespace Cert.InRefIdeal.Read

open Cert.InRefIdeal Cert.InRefIdeal.Gen Idealize.ShloMosaic
open Layer
open Cert.InIdeal.Value (inCol gateCol decay)

variable (x : FVec Ideal S8192x1024 .f32) (mods : FVec Ideal S16x9216 .f32) (g : FVec Ideal S1024 .f32)
  (w : FVec Ideal S1024x2080 .f32) (wf : FVec Ideal S16x256 .f32) (bf : FVec Ideal S256 .f32) (wb : FVec Ideal S16x256 .f32)
  (bb : FVec Ideal S256 .f32)

theorem v30_at (n : Fin 32) (b : Fin 256) (d : Fin 1024) : val_main_v30 (F := Ideal) x mods g (ix3 n b d)
      = adaVal (fun e => x (ix2 ⟨n * 256 + b, by omega⟩ e)) (fun e => g (ix1 e)) (fun e => mods (ix2 8 ⟨3072 + e, by omega⟩))
          (fun e => mods (ix2 8 ⟨4096 + e, by omega⟩)) d := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst, val_main_cst_0, val_main_cst_1, val_main_cst_2]
  rfl

theorem v31_at (n : Fin 32) (b : Fin 256) (J : Fin 2080) :
    val_main_v31 (F := Ideal) x mods g w (ix3 n b J) = inCol x mods g w ⟨n * 256 + b, by omega⟩ J := by
  pointwise [val_main_v31]
  simp only [v30_at]
  rfl

theorem row_eq (R : Fin 8192) (h : R.val / 256 * 256 + R.val % 256 < 8192) : (⟨R.val / 256 * 256 + R.val % 256, h⟩ : Fin 8192) = R :=
  Fin.ext (Nat.div_add_mod' _ _)

theorem v55_at (R : Fin 8192) (C : Fin 256) : val_main_v55 (F := Ideal) x mods g w (ix2 R C)
      = inCol x mods g w R ⟨C, by omega⟩ * Ideal.ofBits FTy.f32 0x3E000000#32 := by
  pointwise [val_main_v55, val_main_v40, val_main_v39, val_main_v32, val_main_cst_3]
  rw [v31_at]
  exact congrArg (fun r => inCol x mods g w r _ * _) (row_eq R _)

theorem v56_at (R : Fin 8192) (C : Fin 256) : val_main_v56 (F := Ideal) x mods g w (ix2 R C)
      = inCol x mods g w R ⟨256 + C, by omega⟩ := by
  pointwise [val_main_v56, val_main_v33]
  rw [v31_at]
  exact congrArg (fun r => inCol x mods g w r _) (row_eq R _)

theorem v58_at (R : Fin 8192) (C : Fin 512) : val_main_v58 (F := Ideal) x mods g w (ix2 R C)
      = inCol x mods g w R ⟨512 + C, by omega⟩ := by
  pointwise [val_main_v58, val_main_v57, val_main_v34]
  rw [v31_at]
  exact congrArg (fun r => inCol x mods g w r _) (row_eq R _)

theorem v59_at (R : Fin 8192) (C : Fin 512) : val_main_v59 (F := Ideal) x mods g w (ix2 R C)
      = inCol x mods g w R ⟨1024 + C, by omega⟩ := by
  pointwise [val_main_v59, val_main_v35]
  rw [v31_at]
  exact congrArg (fun r => inCol x mods g w r _) (row_eq R _)

theorem v63_at (R : Fin 8192) (C : Fin 512) : val_main_v63 (F := Ideal) x mods g w (ix2 R C)
      = inCol x mods g w R ⟨1568 + C, by omega⟩ := by
  pointwise [val_main_v63, val_main_v62, val_main_v38]
  rw [v31_at]
  exact congrArg (fun r => inCol x mods g w r _) (row_eq R _)

theorem v44_at (n : Fin 32) (b : Fin 256) (C : Fin 256) : val_main_v44 (F := Ideal) x mods g w wf bf (ix3 n b C)
      = ∑ k : Fin 16, inCol x mods g w ⟨n * 256 + b, by omega⟩ ⟨1536 + k, by omega⟩ * wf (ix2 k C) + bf (ix1 C) := by
  pointwise [val_main_v44, val_main_v43, val_main_v42, val_main_v41, val_main_v36]
  simp only [v31_at]

theorem v51_at (n : Fin 32) (b : Fin 256) (C : Fin 256) : val_main_v51 (F := Ideal) x mods g w wb bb (ix3 n b C)
      = ∑ k : Fin 16, inCol x mods g w ⟨n * 256 + b, by omega⟩ ⟨1552 + k, by omega⟩ * wb (ix2 k C) + bb (ix1 C) := by
  pointwise [val_main_v51, val_main_v50, val_main_v49, val_main_v48, val_main_v37]
  simp only [v31_at]

theorem v47_at (n : Fin 32) (b : Fin 256) (C : Fin 256) : val_main_v47 (F := Ideal) x mods g w wf bf (ix3 n b C)
      = gateCol x mods g w wf bf 1536 (by decide) ⟨n * 256 + b, by omega⟩ C := by
  pointwise [val_main_v47, val_main_v46, val_main_cst_4, val_main_v45, val_main_call0_v1, val_main_call0_call0_v11,
    val_main_call0_call0_v10, val_main_call0_call0_v9, val_main_call0_call0_v8, val_main_call0_call0_v7, val_main_call0_call0_v6,
    val_main_call0_call0_v5, val_main_call0_call0_v4, val_main_call0_call0_v3, val_main_call0_call0_v2, val_main_call0_call0_v1,
    val_main_call0_call0_v0, val_main_call0_call0_cst, val_main_call0_v0]
  simp only [v44_at]
  rw [if_neg (fun h => h rfl)]
  exact softplus_neg _

theorem v54_at (n : Fin 32) (b : Fin 256) (C : Fin 256) : val_main_v54 (F := Ideal) x mods g w wb bb (ix3 n b C)
      = gateCol x mods g w wb bb 1552 (by decide) ⟨n * 256 + b, by omega⟩ C := by
  pointwise [val_main_v54, val_main_v53, val_main_cst_5, val_main_v52, val_main_call1_v1, val_main_call1_call0_v11,
    val_main_call1_call0_v10, val_main_call1_call0_v9, val_main_call1_call0_v8, val_main_call1_call0_v7, val_main_call1_call0_v6,
    val_main_call1_call0_v5, val_main_call1_call0_v4, val_main_call1_call0_v3, val_main_call1_call0_v2, val_main_call1_call0_v1,
    val_main_call1_call0_v0, val_main_call1_call0_cst, val_main_call1_v0]
  simp only [v51_at]
  rw [if_neg (fun h => h rfl)]
  exact softplus_neg _

theorem v61_at (R : Fin 8192) (C : Fin 512) : val_main_v61 (F := Ideal) x mods g w wf bf wb bb (ix2 R C)
      = decay x mods g w wf bf wb bb R C := by
  pointwise [val_main_v61, val_main_v60]
  simp only [v47_at, v54_at]
  unfold decay
  split
  · exact congrArg (fun r => gateCol x mods g w wf bf 1536 _ r _) (row_eq R _)
  · exact congrArg (fun r => gateCol x mods g w wb bb 1552 _ r _) (row_eq R _)

end Cert.InRefIdeal.Read
-- ==== Proof.InClaim.lean ====
/- The value claim of layer 0's input projection: the kernel's six results are the reference's. -/
module

public import proofs.«01_k».proof.Defs
public import proofs.«01_k».proof.Proof.Gen.InIdeal.Value
public import proofs.«01_k».proof.Proof.Gen.InRefIdeal.Run
public import proofs.«01_k».proof.Proof.Gen.InRefIdeal.Read
public import proofs.«01_k».proof.Proof.InRef
public import proofs.«01_k».proof.Proof.InFinal

@[expose] public section

set_option maxHeartbeats 1000000

noncomputable section

namespace Cert.Proof

open Idealize.ShloMosaic Idealize.SL.Sem

theorem inProj : Cert.algebraic_InIdeal_InRefIdeal (hInIdeal := Cert.InIdeal.Gen.facts)
    (hInRefIdeal := Cert.InRefIdeal.Gen.facts) := by
  intro m g m' g' _ hagree
  refine ⟨_, _, _, _, _, _, Cert.InIdeal.Value.run_blocks m g,
    (θ_run _ _ _).mono (fun r h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩) (Cert.InRefIdeal.Value.run m' g')⟩
  all_goals obtain ⟨h0, h1, h2, h3, h4, h5, h6, h7⟩ := hagree c
  · refine (Cert.InRefIdeal.Read.val_main_v55_eq _ _ _ _).trans ?_
    rw [h0, h1, h2, h3]
    refine Eq.trans ?_ (Cert.InIdeal.Value.final7 m c).symm
    funext i
    idx_vars i
    exact Cert.InRefIdeal.Read.v55_at _ _ _ _ _ _
  · refine (Cert.InRefIdeal.Read.val_main_v56_eq _ _ _ _).trans ?_
    rw [h0, h1, h2, h3]
    refine Eq.trans ?_ (Cert.InIdeal.Value.final8 m c).symm
    funext i
    idx_vars i
    exact Cert.InRefIdeal.Read.v56_at _ _ _ _ _ _
  · refine (Cert.InRefIdeal.Read.val_main_v58_eq _ _ _ _).trans ?_
    rw [h0, h1, h2, h3]
    refine Eq.trans ?_ (Cert.InIdeal.Value.final9 m c).symm
    funext i
    idx_vars i
    exact Cert.InRefIdeal.Read.v58_at _ _ _ _ _ _
  · refine (Cert.InRefIdeal.Read.val_main_v59_eq _ _ _ _).trans ?_
    rw [h0, h1, h2, h3]
    refine Eq.trans ?_ (Cert.InIdeal.Value.final10 m c).symm
    funext i
    idx_vars i
    exact Cert.InRefIdeal.Read.v59_at _ _ _ _ _ _
  · refine (Cert.InRefIdeal.Read.val_main_v61_eq m' c).trans ?_
    rw [h0, h1, h2, h3, h4, h5, h6, h7]
    refine Eq.trans ?_ (Cert.InIdeal.Value.final11 m c).symm
    funext i
    idx_vars i
    exact Cert.InRefIdeal.Read.v61_at _ _ _ _ _ _ _ _ _ _
  · refine (Cert.InRefIdeal.Read.val_main_v63_eq _ _ _ _).trans ?_
    rw [h0, h1, h2, h3]
    refine Eq.trans ?_ (Cert.InIdeal.Value.final12 m c).symm
    funext i
    idx_vars i
    exact Cert.InRefIdeal.Read.v63_at _ _ _ _ _ _

end Cert.Proof

end
-- ==== Proof.RotFinal.lean ====
module

public import proofs.«01_k».proof.Proof.Gen.RotIdeal.Value
public import proofs.«01_k».proof.Proof.Norm

@[expose] public section

set_option maxRecDepth 16384

noncomputable section

namespace Cert.RotIdeal.Value

open Cert.RotIdeal Cert.RotIdeal.Gen Idealize.ShloMosaic Idealize.ShloMosaic.TcCoe Idealize.SL.Sem
open Idealize.ShloMosaic.Pipeline (Dat)
open Layer

variable (m : (ℓ : Loc nD τ sig) → Buf (Elt Ideal) ℓ)

theorem idx : ∀ t : Fin cfg0.N, win0_0.index t = ![t.val, 0] ∧ win0_1.index t = ![t.val / 4, 0, 0] ∧ win0_2.index t = ![0, 0]
    ∧ win0_3.index t = ![0, 0] ∧ win0_4.index t = ![t.val % 4, 0] ∧ win0_5.index t = ![t.val % 4, 0]
    ∧ win0_6.index t = ![t.val, 0] ∧ win0_7.index t = ![t.val, 0] ∧ win0_8.index t = ![t.val, 0] :=
  (by decide +kernel : ∀ t : Fin grid0.N, _)

/-- Entry `n` of the projection of the normalised row `R`: the row has the modulations of its sequence. -/
def rowCol (x : FVec Ideal S16384x1024 .f32) (mods : FVec Ideal S16x9216 .f32) (g : FVec Ideal S1024 .f32)
    (w : FVec Ideal S1024x1536 .f32) (R : Fin 16384) (n : ℕ) : EReal :=
  ∑ d : Fin 1024, adaVal (fun e => x (ix2 R e)) (fun e => g (ix1 e)) (fun e => mods (ix2 ⟨R / 2048, by omega⟩ ⟨3072 + e, by omega⟩))
    (fun e => mods (ix2 ⟨R / 2048, by omega⟩ ⟨4096 + e, by omega⟩)) d * w (ix2 d ⟨n % 1536, Nat.mod_lt _ (by decide)⟩)

/-- Entry `n` of a row after the rotation: within each 32 columns the two halves of 16 are turned into one another. -/
def rotated (f : ℕ → EReal) (c s : Fin 64 → EReal) (n : ℕ) : EReal :=
  f n * c ⟨n % 64, Nat.mod_lt _ (by decide)⟩
    + (if n / 16 % 2 = 1 then f (n - 16) else -f (n + 16)) * s ⟨n % 64, Nat.mod_lt _ (by decide)⟩

/-- The opposite sign in the first 16 of each 32 columns. -/
def signed (l : ℕ) (v : EReal) : EReal :=
  v * (if l / 16 % 2 = 1 then 1 else -1)

/-- The kernel's mask: the second 16 of each 32 columns. -/
theorem odd_at (r : Fin 512) (l : Fin 128) : k0_pay5 (Scalar.select (Scalar.cmpi .eq 2#32 0#32) 1#32 2#32) k0_pay3 k0_pay4 (ix2 r l)
    = if (l : ℕ) / 16 % 2 = 1 then 1#1 else 0#1 := by
  pointwise [k0_pay5, k0_pay3, k0_pay4]
  revert l
  decide +kernel

/-- What the kernel makes of 128 columns, whose first is the column `o` of the row. -/
theorem tile_at (y cosv sinv : FVec Ideal S512x128 .f32) (r : Fin 512) (l : Fin 128) {f : ℕ → EReal} {c s : Fin 64 → EReal}
    (o n : ℕ) (hn : n = o + l) (ho : o % 128 = 0) (hy : ∀ k : Fin 128, y (ix2 r k) = f (o + k))
    (hc : cosv (ix2 r l) = c ⟨l % 64, Nat.mod_lt _ (by decide)⟩)
    (hs : sinv (ix2 r l) = signed l (s ⟨l % 64, Nat.mod_lt _ (by decide)⟩)) :
    addf (mulf y cosv) (mulf (select (k0_pay5 (Scalar.select (Scalar.cmpi .eq 2#32 0#32) 1#32 2#32) k0_pay3 k0_pay4)
      (dynamicRotate 1 16#32 none y rotates_S512x128_d1) (dynamicRotate 1 112#32 none y rotates_S512x128_d1)) sinv) (ix2 r l) = rotated f c s n := by
  have hm := odd_at r l
  generalize k0_pay5 _ k0_pay3 k0_pay4 = M at hm ⊢
  have h64 : n % 64 = (l : ℕ) % 64 := by omega
  have h16 : n / 16 % 2 = (l : ℕ) / 16 % 2 := by omega
  pointwise
  rw [hm, hy, hy, hy, hc, hs, rotated, signed]
  simp only [h64, h16]
  refine Ideal.add_congr (Ideal.mul_congr (congrArg f hn.symm) rfl) ?_
  by_cases h : (l : ℕ) / 16 % 2 = 1
  · rw [if_pos h, if_pos h, if_pos h, mul_one]
    exact Ideal.mul_congr (congrArg f (by omega)) rfl
  · rw [if_neg h, if_neg h, if_neg h, mul_neg, mul_one, mul_neg, neg_mul]
    exact congrArg (- ·) (Ideal.mul_congr (congrArg f (by omega)) rfl)

theorem norm_at (v0 : Vec Ideal S512x1024 .f32) (v1 : Vec Ideal S1x1024 .f32) (v3 v5 : Vec Ideal S1x1x1024 .f32)
    (r : Fin 512) (d : Fin 1024) :
    k0_pay6 v0 v1 v3 v5 (ix2 r d) = adaVal (fun e => v0 (ix2 r e)) (fun e => v1 (ix2 0 e)) (fun e => v3 (ix3 0 0 e))
      (fun e => v5 (ix3 0 0 e)) d := by
  pointwise [k0_pay6]
  rfl

/-- The modulation rows as the grid reads them: nine rows of 1024 and seven of zeros. -/
def padded (x : FVec Ideal S16x9216 .f32) : FVec Ideal S16x16x1024 .f32 :=
  pad S16x16x1024 ![0, 0, 0] ![0, 7, 0] ![0, 0, 0] (shapeCast S16x9x1024 x shapeCasts_S16x9216_S16x9x1024)
    (sitofp .f32 (constantI S_ 32 0#32)) pads_S16x9x1024_S16x16x1024_000_070_000 h_S_

theorem padded_at (x : FVec Ideal S16x9216 .f32) (b j : Fin 16) (hj : (j : ℕ) < 9) (e : Fin 1024) :
    padded x (ix3 b j e) = x (ix2 b ⟨1024 * j + e, by omega⟩) := by
  pointwise [padded]
  rw [dif_pos hj]
  exact congrArg x (congrArg (ix2 b) (Fin.ext (by show (j : ℕ) * 1024 + e = 1024 * j + e; omega)))

theorem V_main_v8 (c : Dev nD) : V m c main_v8 = padded (m ((c : Thread nD τ).loc main_arg1)) := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  rfl

theorem V_main_v9 (c : Dev nD) : V m c main_v9 = broadcastInDim S1x1024 ![1] bcast_S1024_S1x1024_1
    (m ((c : Thread nD τ).loc main_arg2)) := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  rfl

/-- A table of 64 columns twice side by side. -/
def twice (x : FVec Ideal S2048x64 .f32) : FVec Ideal S2048x128 .f32 :=
  concatenate S2048x128 1 [⟨S2048x64, x⟩, ⟨S2048x64, x⟩] concatenates_S2048x64_S2048x64_S2048x128_d1

theorem twice_at (x : FVec Ideal S2048x64 .f32) (p : Fin 2048) (l : Fin 128) :
    twice x (ix2 p l) = x (ix2 p ⟨l % 64, Nat.mod_lt _ (by decide)⟩) := by
  pointwise [twice]
  split
  · exact congrArg _ (congrArg (ix2 p) (Fin.ext (by dsimp only; omega)))
  · exact congrArg _ (congrArg (ix2 p) (Fin.ext (by dsimp only; omega)))

theorem V_main_v11 (c : Dev nD) : V m c main_v11 = twice (m ((c : Thread nD τ).loc main_arg4)) := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  rfl

theorem V_main_v15 (c : Dev nD) : V m c main_v15 = twice (mulf (m ((c : Thread nD τ).loc main_arg5))
    (broadcastInDim S2048x64 ![0, 1] bcast_S1x64_S2048x64_0_1 (broadcastInDim S1x64 ![1] bcast_S64_S1x64_1 (V m c main_v6)))) := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  rfl

theorem minus_one : Ideal.ofBits FTy.f32 0xBF800000#32 = -1 := by
  have h : Ideal.ofBits FTy.f32 0xBF800000#32 = ((-1 : ℝ) : EReal) := by
    simp [Ideal.ofBits, Ideal.ieee, -EReal.coe_mul]
    norm_num
  rw [h]
  rfl

/-- The signs the program lays out beside the sines. -/
theorem sign_at (c : Dev nD) (j : Fin 64) : (V m c main_v6 : FVec Ideal S64 .f32) (ix1 j)
    = if (j : ℕ) / 16 % 2 = 1 then (1 : EReal) else -1 := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  simp only [StableHlo.TRef.toBuf, StableHlo.TRef.ofBuf, cast_eq]
  pointwise
  refine (congrArg (fun b => Scalar.select b _ _) (?_ : _ = if (j : ℕ) / 16 % 2 = 1 then 1#1 else 0#1)).trans ?_
  · revert j
    decide +kernel
  · rw [minus_one]
    by_cases h : (j : ℕ) / 16 % 2 = 1
    · rw [if_pos h, if_pos h]
      rfl
    · rw [if_neg h, if_neg h]
      rfl

theorem blk1 (c : Dev nD) (t : Fin cfg0.N) (j : Fin 16) (hj : (j : ℕ) < 9) (e : Fin 1024) :
    iblk m c 1 t (ix3 0 j e) = m ((c : Thread nD τ).loc main_arg1)
      (ix2 ⟨t / 4, by have : t.val < 32 := t.isLt; omega⟩ ⟨1024 * j + e, by omega⟩) := by
  blk_simp [iblk, idx t]
  rw [V_main_v8]
  refine Eq.trans ?_ (padded_at _ _ j hj e)
  generalize padded _ = X
  blk_point [idx t]

theorem blk2 (c : Dev nD) (t : Fin cfg0.N) (e : Fin 1024) :
    iblk m c 2 t (ix2 0 e) = m ((c : Thread nD τ).loc main_arg2) (ix1 e) := by
  blk_simp [iblk, idx t]
  rw [V_main_v9]
  pointwise
  blk_point [idx t]

theorem blk3 (c : Dev nD) (t : Fin cfg0.N) (d : Fin 1024) (J : Fin 1536) :
    iblk m c 3 t (ix2 d J) = m ((c : Thread nD τ).loc main_arg3) (ix2 d J) := by
  blk_simp [iblk, idx t]
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  pointwise
  blk_point [idx t]

theorem blk4 (c : Dev nD) (t : Fin cfg0.N) (r : Fin 512) (l : Fin 128) :
    iblk m c 4 t (ix2 r l) = m ((c : Thread nD τ).loc main_arg4)
      (ix2 ⟨t % 4 * 512 + r, by omega⟩ ⟨l % 64, Nat.mod_lt _ (by decide)⟩) := by
  blk_simp [iblk, idx t]
  rw [V_main_v11]
  refine Eq.trans ?_ (twice_at _ _ l)
  generalize twice _ = X
  blk_point [idx t]

theorem blk5 (c : Dev nD) (t : Fin cfg0.N) (r : Fin 512) (l : Fin 128) :
    iblk m c 5 t (ix2 r l) = signed l (m ((c : Thread nD τ).loc main_arg5)
      (ix2 ⟨t % 4 * 512 + r, by omega⟩ ⟨l % 64, Nat.mod_lt _ (by decide)⟩)) := by
  blk_simp [iblk, idx t]
  rw [V_main_v15]
  refine Eq.trans (b := twice (mulf (m ((c : Thread nD τ).loc main_arg5)) (broadcastInDim S2048x64 ![0, 1] bcast_S1x64_S2048x64_0_1
    (broadcastInDim S1x64 ![1] bcast_S64_S1x64_1 (V m c main_v6)))) (ix2 ⟨t % 4 * 512 + r, by omega⟩ l)) ?_ ?_
  · generalize twice _ = X
    blk_point [idx t]
  · rw [twice_at]
    have h := sign_at m c ⟨l % 64, Nat.mod_lt _ (by decide)⟩
    generalize V m c main_v6 = S at h
    pointwise
    refine Ideal.mul_congr rfl (h.trans ?_)
    rw [(by omega : (l : ℕ) % 64 / 16 % 2 = (l : ℕ) / 16 % 2)]

theorem ld3 (c : Dev nD) (t : Fin cfg0.N) (e : Fin 1024) : View.ld (iblk m c 1 t) r0_3 (ix3 0 0 e)
    = m ((c : Thread nD τ).loc main_arg1) (ix2 ⟨t / 4, by have : t.val < 32 := t.isLt; omega⟩ ⟨3072 + e, by omega⟩) := by
  pointwise
  exact blk1 m c t 3 (by decide) e

theorem ld4 (c : Dev nD) (t : Fin cfg0.N) (e : Fin 1024) : View.ld (iblk m c 1 t) r0_4 (ix3 0 0 e)
    = m ((c : Thread nD τ).loc main_arg1) (ix2 ⟨t / 4, by have : t.val < 32 := t.isLt; omega⟩ ⟨4096 + e, by omega⟩) := by
  pointwise
  exact blk1 m c t 4 (by decide) e

theorem row_sum (c : Dev nD) (t : Fin cfg0.N) (r : Fin 512) {W : Fin 1024 → EReal} (n : ℕ)
    (R : Fin 16384) (hR : (R : ℕ) = t * 512 + r) (hw : ∀ d, W d = m ((c : Thread nD τ).loc main_arg3) (ix2 d ⟨n % 1536, Nat.mod_lt _ (by decide)⟩)) :
    ∑ d : Fin 1024, k0_pay6 (iblk m c 0 t) (iblk m c 2 t) (View.ld (iblk m c 1 t) r0_3) (View.ld (iblk m c 1 t) r0_4) (ix2 r d) * W d
      = rowCol (m ((c : Thread nD τ).loc main_arg0)) (m ((c : Thread nD τ).loc main_arg1)) (m ((c : Thread nD τ).loc main_arg2))
          (m ((c : Thread nD τ).loc main_arg3)) R n := by
  rw [(Fin.ext hR : R = ⟨t * 512 + r, by have : t.val < 32 := t.isLt; omega⟩)]
  refine Finset.sum_congr rfl fun d _ => Ideal.mul_congr ((norm_at _ _ _ _ r d).trans
    (adaVal_congr (fun e => ?_) (blk2 m c t) (fun e => (ld3 m c t e).trans ?_) (fun e => (ld4 m c t e).trans ?_) d)) (hw d)
  · blk_point [iblk, V, idx t]
  · exact congrArg _ (congrArg (fun b => ix2 b _) (Fin.ext (by dsimp only; omega)))
  · exact congrArg _ (congrArg (fun b => ix2 b _) (Fin.ext (by dsimp only; omega)))

/-- The rotated columns `o` to `o + 127` of the rows of the block `t`. -/
theorem row_tile (c : Dev nD) (t : Fin cfg0.N) (y : FVec Ideal S512x128 .f32) (r : Fin 512) (l : Fin 128) {f : ℕ → EReal}
    (R : Fin 16384) (hR : (R : ℕ) = t * 512 + r) (o n : ℕ) (hn : n = o + l) (ho : o % 128 = 0)
    (hy : ∀ k : Fin 128, y (ix2 r k) = f (o + k)) :
    addf (mulf y (k0_pay1 (iblk m c 4 t))) (mulf (select (k0_pay5 (Scalar.select (Scalar.cmpi .eq 2#32 0#32) 1#32 2#32) k0_pay3 k0_pay4)
      (dynamicRotate 1 16#32 none y rotates_S512x128_d1) (dynamicRotate 1 112#32 none y rotates_S512x128_d1))
        (k0_pay2 (iblk m c 5 t))) (ix2 r l)
      = rotated f (fun e => m ((c : Thread nD τ).loc main_arg4) (ix2 ⟨R % 2048, Nat.mod_lt _ (by decide)⟩ e))
          (fun e => m ((c : Thread nD τ).loc main_arg5) (ix2 ⟨R % 2048, Nat.mod_lt _ (by decide)⟩ e)) n := by
  have e : (⟨t.val % 4 * 512 + r, by omega⟩ : Fin 2048) = ⟨R % 2048, Nat.mod_lt _ (by decide)⟩ := Fin.ext (by dsimp only; omega)
  refine tile_at y _ _ r l o n hn ho hy ?_ ?_
  · rw [← e]
    refine Eq.trans ?_ (blk4 m c t r l)
    generalize iblk m c 4 t = X
    pointwise [k0_pay1]
  · rw [← e]
    refine Eq.trans ?_ (blk5 m c t r l)
    generalize iblk m c 5 t = X
    pointwise [k0_pay2]

set_option maxHeartbeats 1000000 in
theorem final7 (c : Dev nD) : (dats m 0 c).arrAt 7 (cfgs 0).N = fun i => rotated (fun n => rowCol (m ((c : Thread nD τ).loc main_arg0))
    (m ((c : Thread nD τ).loc main_arg1)) (m ((c : Thread nD τ).loc main_arg2)) (m ((c : Thread nD τ).loc main_arg3)) (i 0) (1024 + n))
    (fun e => m ((c : Thread nD τ).loc main_arg4) (ix2 ⟨(i 0).val % 2048, Nat.mod_lt _ (by decide)⟩ e))
    (fun e => m ((c : Thread nD τ).loc main_arg5) (ix2 ⟨(i 0).val % 2048, Nat.mod_lt _ (by decide)⟩ e)) (i 1) := by
  refine (dats m 0 c).arrAt_eq_of_covers 7 _ (by decide +kernel) fun t _ y => ?_
  rw [after0_7]
  unfold_out out0_7
  generalize hi : ((cfg0.win 7).blk t).view.emb y = i
  have i0 : (i 0 : ℕ) = win0_7.index t 0 * 512 + y 0 := by subst hi; blk_simp
  have i1 : (i 1 : ℕ) = win0_7.index t 1 * 256 + y 1 := by subst hi; blk_simp
  have e0 : win0_7.index t 0 = t := by simp [idx t]
  have e1 : win0_7.index t 1 = 0 := by simp [idx t]
  rw [e0] at i0
  rw [e1, Nat.zero_mul, Nat.zero_add] at i1
  blk_simp
  frame_out
  canon_tiles x h
  all_goals
    idx_vars x
    refine row_tile m c t _ _ _ (i 0) (by omega) (i 1 - x1) _ (by omega) (by omega) fun k => ?_
    pointwise [k0_pay22]
    exact row_sum m c t x0 _ (i 0) (by omega) fun d => (blk3 m c t d _).trans
      (congrArg _ (congrArg (ix2 d) (Fin.ext (by dsimp only; omega))))

set_option maxHeartbeats 1000000 in
theorem final8 (c : Dev nD) : (dats m 0 c).arrAt 8 (cfgs 0).N = fun i => rowCol (m ((c : Thread nD τ).loc main_arg0))
    (m ((c : Thread nD τ).loc main_arg1)) (m ((c : Thread nD τ).loc main_arg2)) (m ((c : Thread nD τ).loc main_arg3)) (i 0)
      (1280 + i 1) := by
  refine (dats m 0 c).arrAt_eq_of_covers 8 _ (by decide +kernel) fun t _ y => ?_
  rw [after0_8]
  unfold_out out0_8
  generalize hi : ((cfg0.win 8).blk t).view.emb y = i
  have i0 : (i 0 : ℕ) = win0_8.index t 0 * 512 + y 0 := by subst hi; blk_simp
  have i1 : (i 1 : ℕ) = win0_8.index t 1 * 256 + y 1 := by subst hi; blk_simp
  have e0 : win0_8.index t 0 = t := by simp [idx t]
  have e1 : win0_8.index t 1 = 0 := by simp [idx t]
  rw [e0] at i0
  rw [e1, Nat.zero_mul, Nat.zero_add] at i1
  blk_simp
  frame_out
  idx_vars y
  pointwise [k0_pay25]
  have h1 : (i 1 : ℕ) = y1 := i1
  have hl : (y1 : ℕ) < 256 := y1.isLt
  exact row_sum m c t y0 _ (i 0) i0 fun d => (blk3 m c t d _).trans
    (congrArg _ (congrArg (ix2 d) (Fin.ext (by show 1280 + (y1 : ℕ) = (1280 + (i 1 : ℕ)) % 1536; omega))))

set_option maxHeartbeats 1000000 in
theorem final6 (c : Dev nD) : (dats m 0 c).arrAt 6 (cfgs 0).N = fun i => rotated (fun n => rowCol (m ((c : Thread nD τ).loc main_arg0))
    (m ((c : Thread nD τ).loc main_arg1)) (m ((c : Thread nD τ).loc main_arg2)) (m ((c : Thread nD τ).loc main_arg3)) (i 0) n
      * Ideal.ofBits FTy.f32 0x3E000000#32)
    (fun e => m ((c : Thread nD τ).loc main_arg4) (ix2 ⟨(i 0).val % 2048, Nat.mod_lt _ (by decide)⟩ e))
    (fun e => m ((c : Thread nD τ).loc main_arg5) (ix2 ⟨(i 0).val % 2048, Nat.mod_lt _ (by decide)⟩ e)) (i 1) := by
  refine (dats m 0 c).arrAt_eq_of_covers 6 _ (by decide +kernel) fun t _ y => ?_
  rw [after0_6]
  unfold_out out0_6
  generalize hi : ((cfg0.win 6).blk t).view.emb y = i
  have i0 : (i 0 : ℕ) = win0_6.index t 0 * 512 + y 0 := by subst hi; blk_simp
  have i1 : (i 1 : ℕ) = win0_6.index t 1 * 1024 + y 1 := by subst hi; blk_simp
  have e0 : win0_6.index t 0 = t := by simp [idx t]
  have e1 : win0_6.index t 1 = 0 := by simp [idx t]
  rw [e0] at i0
  rw [e1, Nat.zero_mul, Nat.zero_add] at i1
  blk_simp
  frame_out
  canon_tiles x h
  all_goals
    idx_vars x
    refine row_tile m c t _ _ _ (i 0) (by omega) (i 1 - x1) _ (by omega) (by omega) fun k => ?_
    pointwise [k0_pay7, k0_pay8, k0_pay9, k0_pay10, k0_pay13, k0_pay16, k0_pay19]
    exact Ideal.mul_congr (row_sum m c t x0 _ (i 0) (by omega) fun d => (blk3 m c t d _).trans
      (congrArg _ (congrArg (ix2 d) (Fin.ext (by dsimp only; omega))))) rfl

end Cert.RotIdeal.Value
-- ==== Proof.RotRef.lean ====
module

public import proofs.«01_k».proof.Proof.Gen.RotRefIdeal.Read
public import proofs.«01_k».proof.Proof.RotFinal

@[expose] public section

set_option maxRecDepth 16384

noncomputable section

namespace Cert.RotRefIdeal.Read

open Cert.RotRefIdeal Cert.RotRefIdeal.Gen Idealize.ShloMosaic
open Layer
open Cert.RotIdeal.Value (rowCol rotated)

theorem v30_at (x : FVec Ideal S16384x1024 .f32) (mods : FVec Ideal S16x9216 .f32) (g : FVec Ideal S1024 .f32)
    (b : Fin 8) (p : Fin 2048) (d : Fin 1024) : val_main_v30 (F := Ideal) x mods g (ix3 b p d)
      = adaVal (fun e => x (ix2 ⟨b * 2048 + p, by omega⟩ e)) (fun e => g (ix1 e)) (fun e => mods (ix2 ⟨b, by omega⟩ ⟨3072 + e, by omega⟩))
          (fun e => mods (ix2 ⟨b, by omega⟩ ⟨4096 + e, by omega⟩)) d := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst, val_main_cst_0, val_main_cst_1, val_main_cst_2]
  rfl

theorem v31_at (x : FVec Ideal S16384x1024 .f32) (mods : FVec Ideal S16x9216 .f32) (g : FVec Ideal S1024 .f32)
    (w : FVec Ideal S1024x1536 .f32) (b : Fin 8) (p : Fin 2048) (J : Fin 1536) :
    val_main_v31 (F := Ideal) x mods g w (ix3 b p J) = rowCol x mods g w ⟨b * 2048 + p, by omega⟩ J := by
  pointwise [val_main_v31]
  simp only [v30_at]
  refine Finset.sum_congr rfl fun d _ => Ideal.mul_congr (adaVal_congr (fun _ => rfl) (fun _ => rfl) (fun e => ?_) (fun e => ?_) d)
    (congrArg w (congrArg (ix2 d) (Fin.ext (by dsimp only; omega))))
  · exact congrArg mods (congrArg (fun i => ix2 i _) (Fin.ext (by dsimp only; omega)))
  · exact congrArg mods (congrArg (fun i => ix2 i _) (Fin.ext (by dsimp only; omega)))

theorem v70_at (x : FVec Ideal S16384x1024 .f32) (mods : FVec Ideal S16x9216 .f32) (g : FVec Ideal S1024 .f32)
    (w : FVec Ideal S1024x1536 .f32) (R : Fin 16384) (C : Fin 256) : val_main_v70 (F := Ideal) x mods g w (ix2 R C)
      = rowCol x mods g w R (1280 + C) := by
  pointwise [val_main_v70, val_main_v34]
  rw [v31_at]
  exact congrArg (fun r => rowCol x mods g w r _) (Fin.ext (by dsimp only; omega))

/-- The four quarters of a head, the first two and the last two exchanged, against the rotation of the whole row. -/
theorem quarters {f : ℕ → EReal} {c s : Fin 64 → EReal} {h : ℕ} {e : Fin 64} {a r : EReal} (ha : a = f (64 * h + e))
    (hr : r = if (e : ℕ) / 16 % 2 = 1 then f (64 * h + e - 16) else -f (64 * h + e + 16)) :
    a * c e + r * s e = rotated f c s (64 * h + e) := by
  have h64 : (⟨(64 * h + e) % 64, Nat.mod_lt _ (by decide)⟩ : Fin 64) = e := Fin.ext (by dsimp only; omega)
  have h16 : (64 * h + e) / 16 % 2 = (e : ℕ) / 16 % 2 := by omega
  rw [rotated, h64, h16, ha, hr]

theorem rotated_congr {f f' : ℕ → EReal} {c c' s s' : Fin 64 → EReal} {n n' : ℕ} (hf : ∀ n, f n = f' n) (hc : ∀ e, c e = c' e)
    (hs : ∀ e, s e = s' e) (hn : n = n') : rotated f c s n = rotated f' c' s' n' := by
  rw [funext hf, funext hc, funext hs, hn]

theorem v37_at (x : FVec Ideal S16384x1024 .f32) (mods : FVec Ideal S16x9216 .f32) (g : FVec Ideal S1024 .f32)
    (w : FVec Ideal S1024x1536 .f32) (b : Fin 8) (p : Fin 2048) (h : Fin 16) (e : Fin 64) :
    val_main_v37 (F := Ideal) x mods g w (ix4 b p h e)
      = rowCol x mods g w ⟨b * 2048 + p, by omega⟩ (64 * h + e) * Ideal.ofBits FTy.f32 0x3E000000#32 := by
  pointwise [val_main_v37, val_main_v36, val_main_v35, val_main_v32, val_main_cst_3]
  rw [v31_at]
  exact congrArg (fun n => rowCol x mods g w _ n * _) (by dsimp only; omega)

theorem v52_at (x : FVec Ideal S16384x1024 .f32) (mods : FVec Ideal S16x9216 .f32) (g : FVec Ideal S1024 .f32)
    (w : FVec Ideal S1024x1536 .f32) (b : Fin 8) (p : Fin 2048) (h : Fin 4) (e : Fin 64) :
    val_main_v52 (F := Ideal) x mods g w (ix4 b p h e) = rowCol x mods g w ⟨b * 2048 + p, by omega⟩ (1024 + (64 * h + e)) := by
  pointwise [val_main_v52, val_main_v33]
  rw [v31_at]
  exact congrArg (fun n => rowCol x mods g w _ n) (by dsimp only; omega)

theorem v51_at (x : FVec Ideal S16384x1024 .f32) (mods : FVec Ideal S16x9216 .f32) (g : FVec Ideal S1024 .f32)
    (w : FVec Ideal S1024x1536 .f32) (cs sn : FVec Ideal S2048x64 .f32) (b : Fin 8) (p : Fin 2048) (h : Fin 16) (e : Fin 64) :
    val_main_v51 (F := Ideal) x mods g w cs sn (ix4 b p h e)
      = rotated (fun n => rowCol x mods g w ⟨b * 2048 + p, by omega⟩ n * Ideal.ofBits FTy.f32 0x3E000000#32)
          (fun e => cs (ix2 p e)) (fun e => sn (ix2 p e)) (64 * h + e) := by
  pointwise [val_main_v38, val_main_v39, val_main_v40, val_main_v41, val_main_v42, val_main_v43, val_main_v44, val_main_v45,
    val_main_v46, val_main_v47, val_main_v48, val_main_v49, val_main_v50, val_main_v51]
  simp only [v37_at]
  refine quarters (c := fun e => cs (ix2 p e)) (s := fun e => sn (ix2 p e)) rfl ?_
  split_ifs
  all_goals first
    | (exfalso; omega)
    | exact congrArg (fun n => rowCol x mods g w _ n * _) (by omega)
    | exact congrArg (fun n => -(rowCol x mods g w _ n * _)) (by omega)

theorem v66_at (x : FVec Ideal S16384x1024 .f32) (mods : FVec Ideal S16x9216 .f32) (g : FVec Ideal S1024 .f32)
    (w : FVec Ideal S1024x1536 .f32) (cs sn : FVec Ideal S2048x64 .f32) (b : Fin 8) (p : Fin 2048) (h : Fin 4) (e : Fin 64) :
    val_main_v66 (F := Ideal) x mods g w cs sn (ix4 b p h e)
      = rotated (fun n => rowCol x mods g w ⟨b * 2048 + p, by omega⟩ (1024 + n))
          (fun e => cs (ix2 p e)) (fun e => sn (ix2 p e)) (64 * h + e) := by
  pointwise [val_main_v53, val_main_v54, val_main_v55, val_main_v56, val_main_v57, val_main_v58, val_main_v59, val_main_v60,
    val_main_v61, val_main_v62, val_main_v63, val_main_v64, val_main_v65, val_main_v66]
  simp only [v52_at]
  refine quarters (f := fun n => rowCol x mods g w ⟨b * 2048 + p, by omega⟩ (1024 + n)) (c := fun e => cs (ix2 p e))
    (s := fun e => sn (ix2 p e)) rfl ?_
  split_ifs
  all_goals first
    | (exfalso; omega)
    | exact congrArg (fun n => rowCol x mods g w _ n) (by omega)
    | exact congrArg (fun n => -(rowCol x mods g w _ n)) (by omega)

theorem v68_at (x : FVec Ideal S16384x1024 .f32) (mods : FVec Ideal S16x9216 .f32) (g : FVec Ideal S1024 .f32)
    (w : FVec Ideal S1024x1536 .f32) (cs sn : FVec Ideal S2048x64 .f32) (R : Fin 16384) (C : Fin 1024) :
    val_main_v68 (F := Ideal) x mods g w cs sn (ix2 R C)
      = rotated (fun n => rowCol x mods g w R n * Ideal.ofBits FTy.f32 0x3E000000#32)
          (fun e => cs (ix2 ⟨R % 2048, Nat.mod_lt _ (by decide)⟩ e)) (fun e => sn (ix2 ⟨R % 2048, Nat.mod_lt _ (by decide)⟩ e)) C := by
  pointwise [val_main_v68, val_main_v67]
  rw [v51_at]
  refine rotated_congr (fun n => congrArg (fun r => rowCol x mods g w r n * _) (Fin.ext (by dsimp only; omega)))
    (fun _ => rfl)
    (fun _ => rfl) (by dsimp only; omega)

theorem v69_at (x : FVec Ideal S16384x1024 .f32) (mods : FVec Ideal S16x9216 .f32) (g : FVec Ideal S1024 .f32)
    (w : FVec Ideal S1024x1536 .f32) (cs sn : FVec Ideal S2048x64 .f32) (R : Fin 16384) (C : Fin 256) :
    val_main_v69 (F := Ideal) x mods g w cs sn (ix2 R C)
      = rotated (fun n => rowCol x mods g w R (1024 + n))
          (fun e => cs (ix2 ⟨R % 2048, Nat.mod_lt _ (by decide)⟩ e)) (fun e => sn (ix2 ⟨R % 2048, Nat.mod_lt _ (by decide)⟩ e)) C := by
  pointwise [val_main_v69]
  rw [v66_at]
  refine rotated_congr (fun n => congrArg (fun r => rowCol x mods g w r (1024 + n)) (Fin.ext (by dsimp only; omega)))
    (fun _ => rfl)
    (fun _ => rfl) (by dsimp only; omega)

end Cert.RotRefIdeal.Read
-- ==== Proof.RotClaim.lean ====
/- The rotated projection's value claim: the kernel's three results are the reference's. -/
module

public import proofs.«01_k».proof.Defs
public import proofs.«01_k».proof.Proof.Gen.RotIdeal.Value
public import proofs.«01_k».proof.Proof.Gen.RotRefIdeal.Run
public import proofs.«01_k».proof.Proof.Gen.RotRefIdeal.Read
public import proofs.«01_k».proof.Proof.RotRef
public import proofs.«01_k».proof.Proof.RotFinal

@[expose] public section

noncomputable section

namespace Cert.Proof

open Idealize.ShloMosaic Idealize.SL.Sem

set_option maxHeartbeats 1000000 in
theorem rotProj : Cert.algebraic_RotIdeal_RotRefIdeal (hRotIdeal := Cert.RotIdeal.Gen.facts)
    (hRotRefIdeal := Cert.RotRefIdeal.Gen.facts) := by
  intro m g m' g' _ hagree
  refine ⟨_, _, _, Cert.RotIdeal.Value.run_blocks m g,
    (θ_run _ _ _).mono (fun r h c => ⟨(h c).1.trans ?_, (h c).2.1.trans ?_, (h c).2.2.1.trans ?_, (h c).2.2.2⟩)
      (Cert.RotRefIdeal.Value.run m' g')⟩
  all_goals obtain ⟨h0, h1, h2, h3, h4, h5⟩ := hagree c
  · refine (Cert.RotRefIdeal.Read.val_main_v68_eq _ _).trans ?_
    rw [h0, h1, h2, h3, h4, h5]
    refine Eq.trans ?_ (Cert.RotIdeal.Value.final6 m c).symm
    funext i
    idx_vars i
    exact Cert.RotRefIdeal.Read.v68_at _ _ _ _ _ _ _ _
  · refine (Cert.RotRefIdeal.Read.val_main_v69_eq _ _).trans ?_
    rw [h0, h1, h2, h3, h4, h5]
    refine Eq.trans ?_ (Cert.RotIdeal.Value.final7 m c).symm
    funext i
    idx_vars i
    exact Cert.RotRefIdeal.Read.v69_at _ _ _ _ _ _ _ _
  · refine (Cert.RotRefIdeal.Read.val_main_v70_eq _ _ _ _).trans ?_
    rw [h0, h1, h2, h3]
    refine Eq.trans ?_ (Cert.RotIdeal.Value.final8 m c).symm
    funext i
    idx_vars i
    exact Cert.RotRefIdeal.Read.v70_at _ _ _ _ _ _

end Cert.Proof

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Ffn
public import proofs.«01_k».proof.Proof.Gen.FfnLat
public import proofs.«01_k».proof.Proof.Gen.FfnFirst
public import proofs.«01_k».proof.Proof.Gen.FfnMid
public import proofs.«01_k».proof.Proof.Gen.Ffn.Skeleton
public import proofs.«01_k».proof.Proof.Gen.FfnLat.Skeleton
public import proofs.«01_k».proof.Proof.Gen.FfnFirst.Skeleton
public import proofs.«01_k».proof.Proof.Gen.FfnMid.Skeleton
public import proofs.«01_k».proof.Proof.Gen.Ffn.Launch
public import proofs.«01_k».proof.Proof.Gen.FfnLat.Launch
public import proofs.«01_k».proof.Proof.Gen.FfnFirst.Launch
public import proofs.«01_k».proof.Proof.Gen.FfnMid.Launch
public import proofs.«01_k».proof.Proof.Gen.Ffn.Points
public import proofs.«01_k».proof.Proof.Gen.FfnLat.Points
public import proofs.«01_k».proof.Proof.Gen.FfnFirst.Points
public import proofs.«01_k».proof.Proof.Gen.FfnMid.Points
public import proofs.«01_k».proof.Proof.Gen.Ffn.Frame
public import proofs.«01_k».proof.Proof.Gen.FfnLat.Frame
public import proofs.«01_k».proof.Proof.Gen.FfnFirst.Frame
public import proofs.«01_k».proof.Proof.Gen.FfnMid.Frame
public import proofs.«01_k».proof.Proof.Gen.FfnIdeal
public import proofs.«01_k».proof.Proof.Gen.FfnLatIdeal
public import proofs.«01_k».proof.Proof.Gen.FfnFirstIdeal
public import proofs.«01_k».proof.Proof.Gen.FfnMidIdeal
public import proofs.«01_k».proof.Proof.Gen.FfnIdeal.Skeleton
public import proofs.«01_k».proof.Proof.Gen.FfnLatIdeal.Skeleton
public import proofs.«01_k».proof.Proof.Gen.FfnFirstIdeal.Skeleton
public import proofs.«01_k».proof.Proof.Gen.FfnMidIdeal.Skeleton
public import proofs.«01_k».proof.Proof.Gen.FfnIdeal.Launch
public import proofs.«01_k».proof.Proof.Gen.FfnLatIdeal.Launch
public import proofs.«01_k».proof.Proof.Gen.FfnFirstIdeal.Launch
public import proofs.«01_k».proof.Proof.Gen.FfnMidIdeal.Launch
public import proofs.«01_k».proof.Proof.Gen.FfnIdeal.Points
public import proofs.«01_k».proof.Proof.Gen.FfnLatIdeal.Points
public import proofs.«01_k».proof.Proof.Gen.FfnFirstIdeal.Points
public import proofs.«01_k».proof.Proof.Gen.FfnMidIdeal.Points
public import proofs.«01_k».proof.Proof.Gen.FfnIdeal.Frame
public import proofs.«01_k».proof.Proof.Gen.FfnLatIdeal.Frame
public import proofs.«01_k».proof.Proof.Gen.FfnFirstIdeal.Frame
public import proofs.«01_k».proof.Proof.Gen.FfnMidIdeal.Frame
public import proofs.«01_k».proof.Proof.Gen.FfnRefIdeal
public import proofs.«01_k».proof.Proof.Gen.FfnLatRefIdeal
public import proofs.«01_k».proof.Proof.Gen.FfnFirstRefIdeal
public import proofs.«01_k».proof.Proof.Gen.FfnMidRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.AttnIdeal.Value
public import proofs.«01_k».proof.Proof.Gen.AttnRefIdeal.Run
public import proofs.«01_k».proof.Proof.Gen.FfnIdeal.Value
public import proofs.«01_k».proof.Proof.Gen.FfnLatIdeal.Value
public import proofs.«01_k».proof.Proof.Gen.FfnFirstIdeal.Value
public import proofs.«01_k».proof.Proof.Gen.FfnMidIdeal.Value
public import proofs.«01_k».proof.Proof.Gen.FfnRefIdeal.Run
public import proofs.«01_k».proof.Proof.Gen.FfnLatRefIdeal.Run
public import proofs.«01_k».proof.Proof.Gen.FfnFirstRefIdeal.Run
public import proofs.«01_k».proof.Proof.Gen.FfnMidRefIdeal.Run
public import proofs.«01_k».proof.Proof.Gen.FfnLatRefIdeal.Read
public import proofs.«01_k».proof.Proof.Gen.FfnFirstRefIdeal.Read
public import proofs.«01_k».proof.Proof.Gen.FfnMidRefIdeal.Read
public import proofs.«01_k».proof.Proof.Gen.ProjIdeal.Value
public import proofs.«01_k».proof.Proof.Gen.ProjRefIdeal.Run
public import proofs.«01_k».proof.Proof.Gen.AttnRefIdeal.Read
public import proofs.«01_k».proof.Proof.Gen.FfnRefIdeal.Read
public import proofs.«01_k».proof.Proof.Gen.ProjRefIdeal.Read
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InRefIdeal
public import proofs.«01_k».proof.Proof.Gen.InIdeal.Value
public import proofs.«01_k».proof.Proof.Gen.InRefIdeal.Run
public import proofs.«01_k».proof.Proof.Gen.InRefIdeal.Read
public import proofs.«01_k».proof.Proof.Gen.Rot
public import proofs.«01_k».proof.Proof.Gen.Rot.Skeleton
public import proofs.«01_k».proof.Proof.Gen.Rot.Launch
public import proofs.«01_k».proof.Proof.Gen.Rot.Points
public import proofs.«01_k».proof.Proof.Gen.Rot.Frame
public import proofs.«01_k».proof.Proof.Gen.RotIdeal
public import proofs.«01_k».proof.Proof.Gen.RotIdeal.Skeleton
public import proofs.«01_k».proof.Proof.Gen.RotIdeal.Launch
public import proofs.«01_k».proof.Proof.Gen.RotIdeal.Points
public import proofs.«01_k».proof.Proof.Gen.RotIdeal.Frame
public import proofs.«01_k».proof.Proof.Gen.RotRefIdeal
public import proofs.«01_k».proof.Proof.Gen.RotIdeal.Value
public import proofs.«01_k».proof.Proof.Gen.RotRefIdeal.Run
public import proofs.«01_k».proof.Proof.Gen.RotRefIdeal.Read
public import proofs.«01_k».proof.Proof.Pre
public import proofs.«01_k».proof.Proof.RefFrames
public import proofs.«01_k».proof.Proof.AttnClaim
public import proofs.«01_k».proof.Proof.FfnClaim
public import proofs.«01_k».proof.Proof.FfnLatClaim
public import proofs.«01_k».proof.Proof.FfnFirstClaim
public import proofs.«01_k».proof.Proof.FfnMidClaim
public import proofs.«01_k».proof.Proof.ProjClaim
public import proofs.«01_k».proof.Proof.InClaim
public import proofs.«01_k».proof.Proof.RotClaim
public import Idealize.ShloMosaic.Adequacy
public import Idealize.ShloMosaic.Init

@[expose] public section

noncomputable section

namespace Cert.Proof

open Idealize.ShloMosaic Idealize.SL.Sem Cert.Attn

theorem claim : Cert.Claim :=
  ⟨Cert.Attn.Gen.facts, Cert.AttnIdeal.Gen.facts, Cert.AttnRefIdeal.Gen.facts, Cert.Ffn.Gen.facts, Cert.FfnIdeal.Gen.facts,
    Cert.FfnRefIdeal.Gen.facts, Cert.FfnLat.Gen.facts, Cert.FfnLatIdeal.Gen.facts, Cert.FfnLatRefIdeal.Gen.facts,
    Cert.FfnFirst.Gen.facts, Cert.FfnFirstIdeal.Gen.facts, Cert.FfnFirstRefIdeal.Gen.facts,
    Cert.FfnMid.Gen.facts, Cert.FfnMidIdeal.Gen.facts, Cert.FfnMidRefIdeal.Gen.facts,
    Cert.Proj.Gen.facts, Cert.ProjIdeal.Gen.facts, Cert.ProjRefIdeal.Gen.facts,
    Cert.In.Gen.facts, Cert.InIdeal.Gen.facts, Cert.InRefIdeal.Gen.facts,
    Cert.Rot.Gen.facts, Cert.RotIdeal.Gen.facts, Cert.RotRefIdeal.Gen.facts,
    Cert.Pre_finite_scores.facts,
    fun m ρ _ => Cert.Attn.Gen.frame m ρ,
    fun m ρ _ => Cert.AttnIdeal.Gen.frame m ρ,
    fun m ρ _ => Cert.AttnIdeal.Gen.frame m ρ,
    attnRef_frame,
    attnRef_frame_pre,
    fun m ρ _ => Cert.Ffn.Gen.frame m ρ,
    fun m ρ _ => Cert.FfnIdeal.Gen.frame m ρ,
    ffnRef_frame,
    fun m ρ _ => Cert.FfnLat.Gen.frame m ρ,
    fun m ρ _ => Cert.FfnLatIdeal.Gen.frame m ρ,
    ffnLatRef_frame,
    fun m ρ _ => Cert.FfnFirst.Gen.frame m ρ,
    fun m ρ _ => Cert.FfnFirstIdeal.Gen.frame m ρ,
    ffnFirstRef_frame,
    fun m ρ _ => Cert.FfnMid.Gen.frame m ρ,
    fun m ρ _ => Cert.FfnMidIdeal.Gen.frame m ρ,
    ffnMidRef_frame,
    fun m ρ _ => Cert.Proj.Gen.frame m ρ,
    fun m ρ _ => Cert.ProjIdeal.Gen.frame m ρ,
    projRef_frame,
    fun m ρ _ => Cert.In.Gen.frame m ρ,
    fun m ρ _ => Cert.InIdeal.Gen.frame m ρ,
    inRef_frame,
    fun m ρ _ => Cert.Rot.Gen.frame m ρ,
    fun m ρ _ => Cert.RotIdeal.Gen.frame m ρ,
    rotRef_frame,
    trivial, attn, trivial, ffn, trivial, ffnLat, trivial, ffnFirst, trivial, ffnMid, trivial, proj,
    trivial, inProj, trivial, rotProj⟩

end Cert.Proof

end
